-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![16384, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![16384, 128]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![16384, 128]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.block ⟨2, ![512, 128]⟩ ⟨2, ![16384, 128]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : FVec F S512x128 .f32) (main_arg2 : FVec F S512x128 .f32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  main_v8
-- ==== Pre_finite_ReferenceIdeal.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : FVec F S16384x128 .f32) (main_arg2 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S512x128 : Shape := ⟨2, ![512, 128]⟩
abbrev S32 : Shape := ⟨1, ![32]⟩
abbrev S_ : Shape := ⟨0, ![]⟩
abbrev S1 : Shape := ⟨1, ![1]⟩
abbrev S2 : Shape := ⟨1, ![2]⟩
abbrev S3x2x128x128 : Shape := ⟨4, ![3, 2, 128, 128]⟩
abbrev S3 : Shape := ⟨1, ![3]⟩
abbrev S128x128 : Shape := ⟨2, ![128, 128]⟩
abbrev S1x1x128x128 : Shape := ⟨4, ![1, 1, 128, 128]⟩
abbrev S1x2x128x128 : Shape := ⟨4, ![1, 2, 128, 128]⟩
abbrev S2x128x128 : Shape := ⟨3, ![2, 128, 128]⟩
abbrev S512x512 : Shape := ⟨2, ![512, 512]⟩
abbrev S512 : Shape := ⟨1, ![512]⟩
abbrev S512x1 : Shape := ⟨2, ![512, 1]⟩

abbrev nBuf : Space → Nat
  | .hbm => 29
  | .vmem => 12
  | .smem => 1
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S2, .i32⟩
  | .hbm, ⟨28, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S3x2x128x128, .bf16⟩
  | .local _ .vmem, ⟨5, _⟩ => ⟨S3x2x128x128, .bf16⟩
  | .local _ .vmem, ⟨6, _⟩ => ⟨S3x2x128x128, .bf16⟩
  | .local _ .vmem, ⟨7, _⟩ => ⟨S3x2x128x128, .bf16⟩
  | .local _ .vmem, ⟨8, _⟩ => ⟨S3x2x128x128, .bf16⟩
  | .local _ .vmem, ⟨9, _⟩ => ⟨S3x2x128x128, .bf16⟩
  | .local _ .vmem, ⟨10, _⟩ => ⟨S3x2x128x128, .bf16⟩
  | .local _ .vmem, ⟨11, _⟩ => ⟨S3x2x128x128, .bf16⟩
  | .local _ .smem, ⟨0, _⟩ => ⟨S2, .i32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  (ofTc nBuf bufTy 9 53 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_3 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_5 : Ref sig .tc := ⟨.hbm, 18, rfl⟩
abbrev main_v10 : Ref sig .tc := ⟨.hbm, 19, rfl⟩
abbrev main_c_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_dev3 (v1 : BitVec 32) : Nat :=
  let c0_i32_79 : BitVec 32 := 0#32
  let c1_i32_78 : BitVec 32 := 1#32
  let v82 : BitVec 32 := Scalar.muli v1 c1_i32_78
  let v83 : BitVec 32 := Scalar.addi c0_i32_79 v82
  v83.toNat
def k0_dev4 (v0 : BitVec 32) : Nat :=
  let c0_i32_91 : BitVec 32 := 0#32
  let c1_i32_90 : BitVec 32 := 1#32
  let v92 : BitVec 32 := Scalar.muli v0 c1_i32_90
  let v93 : BitVec 32 := Scalar.addi c0_i32_91 v92
  v93.toNat
def k0_dev5 (v1 : BitVec 32) : Nat :=
  let c0_i32_103 : BitVec 32 := 0#32
  let c1_i32_102 : BitVec 32 := 1#32
  let v102 : BitVec 32 := Scalar.muli v1 c1_i32_102
  let v103 : BitVec 32 := Scalar.addi c0_i32_103 v102
  v103.toNat
def k0_dev6 (v0 : BitVec 32) : Nat :=
  let c0_i32_115 : BitVec 32 := 0#32
  let c1_i32_114 : BitVec 32 := 1#32
  let v112 : BitVec 32 := Scalar.muli v0 c1_i32_114
  let v113 : BitVec 32 := Scalar.addi c0_i32_115 v112
  v113.toNat
def k0_dev7 (v1 : BitVec 32) : Nat :=
  let c0_i32_127 : BitVec 32 := 0#32
  let c1_i32_126 : BitVec 32 := 1#32
  let v122 : BitVec 32 := Scalar.muli v1 c1_i32_126
  let v123 : BitVec 32 := Scalar.addi c0_i32_127 v122
  v123.toNat
def k0_dev8 (v0 : BitVec 32) : Nat :=
  let c0_i32_139 : BitVec 32 := 0#32
  let c1_i32_138 : BitVec 32 := 1#32
  let v132 : BitVec 32 := Scalar.muli v0 c1_i32_138
  let v133 : BitVec 32 := Scalar.addi c0_i32_139 v132
  v133.toNat
def k0_dev9 (v1 : BitVec 32) : Nat :=
  let c0_i32_151 : BitVec 32 := 0#32
  let c1_i32_150 : BitVec 32 := 1#32
  let v142 : BitVec 32 := Scalar.muli v1 c1_i32_150
  let v143 : BitVec 32 := Scalar.addi c0_i32_151 v142
  v143.toNat
def k0_dev10 (v0 : BitVec 32) : Nat :=
  let c0_i32_163 : BitVec 32 := 0#32
  let c1_i32_162 : BitVec 32 := 1#32
  let v152 : BitVec 32 := Scalar.muli v0 c1_i32_162
  let v153 : BitVec 32 := Scalar.addi c0_i32_163 v152
  v153.toNat
def k0_dev11 (v1 : BitVec 32) : Nat :=
  let c0_i32_190 : BitVec 32 := 0#32
  let c1_i32_189 : BitVec 32 := 1#32
  let v176 : BitVec 32 := Scalar.muli v1 c1_i32_189
  let v177 : BitVec 32 := Scalar.addi c0_i32_190 v176
  v177.toNat
def k0_dev12 (v0 : BitVec 32) : Nat :=
  let c0_i32_214 : BitVec 32 := 0#32
  let c1_i32_213 : BitVec 32 := 1#32
  let v194 : BitVec 32 := Scalar.muli v0 c1_i32_213
  let v195 : BitVec 32 := Scalar.addi c0_i32_214 v194
  v195.toNat
def k0_dev13 (v1 : BitVec 32) : Nat :=
  let c0_i32_238 : BitVec 32 := 0#32
  let c1_i32_237 : BitVec 32 := 1#32
  let v212 : BitVec 32 := Scalar.muli v1 c1_i32_237
  let v213 : BitVec 32 := Scalar.addi c0_i32_238 v212
  v213.toNat
def k0_dev14 (v0 : BitVec 32) : Nat :=
  let c0_i32_262 : BitVec 32 := 0#32
  let c1_i32_261 : BitVec 32 := 1#32
  let v230 : BitVec 32 := Scalar.muli v0 c1_i32_261
  let v231 : BitVec 32 := Scalar.addi c0_i32_262 v230
  v231.toNat
def k0_dev15 (v1 : BitVec 32) : Nat :=
  let c0_i32_286 : BitVec 32 := 0#32
  let c1_i32_285 : BitVec 32 := 1#32
  let v248 : BitVec 32 := Scalar.muli v1 c1_i32_285
  let v249 : BitVec 32 := Scalar.addi c0_i32_286 v248
  v249.toNat
def k0_dev16 (v0 : BitVec 32) : Nat :=
  let c0_i32_310 : BitVec 32 := 0#32
  let c1_i32_309 : BitVec 32 := 1#32
  let v266 : BitVec 32 := Scalar.muli v0 c1_i32_309
  let v267 : BitVec 32 := Scalar.addi c0_i32_310 v266
  v267.toNat
def k0_dev17 (v1 : BitVec 32) : Nat :=
  let c0_i32_334 : BitVec 32 := 0#32
  let c1_i32_333 : BitVec 32 := 1#32
  let v284 : BitVec 32 := Scalar.muli v1 c1_i32_333
  let v285 : BitVec 32 := Scalar.addi c0_i32_334 v284
  v285.toNat
def k0_dev18 (v0 : BitVec 32) : Nat :=
  let c0_i32_358 : BitVec 32 := 0#32
  let c1_i32_357 : BitVec 32 := 1#32
  let v302 : BitVec 32 := Scalar.muli v0 c1_i32_357
  let v303 : BitVec 32 := Scalar.addi c0_i32_358 v302
  v303.toNat
def k0_dev19 (v0 : BitVec 32) : Nat :=
  let c0_i32_466 : BitVec 32 := 0#32
  let c1_i32_465 : BitVec 32 := 1#32
  let v414 : BitVec 32 := Scalar.muli v0 c1_i32_465
  let v415 : BitVec 32 := Scalar.addi c0_i32_466 v414
  v415.toNat
def k0_dev20 (v1 : BitVec 32) : Nat :=
  let c0_i32_480 : BitVec 32 := 0#32
  let c1_i32_479 : BitVec 32 := 1#32
  let v422 : BitVec 32 := Scalar.muli v1 c1_i32_479
  let v423 : BitVec 32 := Scalar.addi c0_i32_480 v422
  v423.toNat
def k0_dev21 (v0 : BitVec 32) : Nat :=
  let c0_i32_494 : BitVec 32 := 0#32
  let c1_i32_493 : BitVec 32 := 1#32
  let v430 : BitVec 32 := Scalar.muli v0 c1_i32_493
  let v431 : BitVec 32 := Scalar.addi c0_i32_494 v430
  v431.toNat
def k0_dev22 (v1 : BitVec 32) : Nat :=
  let c0_i32_508 : BitVec 32 := 0#32
  let c1_i32_507 : BitVec 32 := 1#32
  let v438 : BitVec 32 := Scalar.muli v1 c1_i32_507
  let v439 : BitVec 32 := Scalar.addi c0_i32_508 v438
  v439.toNat
def k0_dev23 (v0 : BitVec 32) : Nat :=
  let c0_i32_522 : BitVec 32 := 0#32
  let c1_i32_521 : BitVec 32 := 1#32
  let v446 : BitVec 32 := Scalar.muli v0 c1_i32_521
  let v447 : BitVec 32 := Scalar.addi c0_i32_522 v446
  v447.toNat
def k0_dev24 (v1 : BitVec 32) : Nat :=
  let c0_i32_536 : BitVec 32 := 0#32
  let c1_i32_535 : BitVec 32 := 1#32
  let v454 : BitVec 32 := Scalar.muli v1 c1_i32_535
  let v455 : BitVec 32 := Scalar.addi c0_i32_536 v454
  v455.toNat
def k0_dev25 (v0 : BitVec 32) : Nat :=
  let c0_i32_550 : BitVec 32 := 0#32
  let c1_i32_549 : BitVec 32 := 1#32
  let v462 : BitVec 32 := Scalar.muli v0 c1_i32_549
  let v463 : BitVec 32 := Scalar.addi c0_i32_550 v462
  v463.toNat
def k0_dev26 (v1 : BitVec 32) : Nat :=
  let c0_i32_564 : BitVec 32 := 0#32
  let c1_i32_563 : BitVec 32 := 1#32
  let v470 : BitVec 32 := Scalar.muli v1 c1_i32_563
  let v471 : BitVec 32 := Scalar.addi c0_i32_564 v470
  v471.toNat
def k0_dev27 (v1 : BitVec 32) : Nat :=
  let c0_i32_584 : BitVec 32 := 0#32
  let c1_i32_583 : BitVec 32 := 1#32
  let v480 : BitVec 32 := Scalar.muli v1 c1_i32_583
  let v481 : BitVec 32 := Scalar.addi c0_i32_584 v480
  v481.toNat
def k0_dev28 (v0 : BitVec 32) : Nat :=
  let c0_i32_610 : BitVec 32 := 0#32
  let c1_i32_609 : BitVec 32 := 1#32
  let v498 : BitVec 32 := Scalar.muli v0 c1_i32_609
  let v499 : BitVec 32 := Scalar.addi c0_i32_610 v498
  v499.toNat
def k0_dev29 (v1 : BitVec 32) : Nat :=
  let c0_i32_636 : BitVec 32 := 0#32
  let c1_i32_635 : BitVec 32 := 1#32
  let v516 : BitVec 32 := Scalar.muli v1 c1_i32_635
  let v517 : BitVec 32 := Scalar.addi c0_i32_636 v516
  v517.toNat
def k0_dev30 (v0 : BitVec 32) : Nat :=
  let c0_i32_662 : BitVec 32 := 0#32
  let c1_i32_661 : BitVec 32 := 1#32
  let v534 : BitVec 32 := Scalar.muli v0 c1_i32_661
  let v535 : BitVec 32 := Scalar.addi c0_i32_662 v534
  v535.toNat
def k0_dev31 (v1 : BitVec 32) : Nat :=
  let c0_i32_688 : BitVec 32 := 0#32
  let c1_i32_687 : BitVec 32 := 1#32
  let v552 : BitVec 32 := Scalar.muli v1 c1_i32_687
  let v553 : BitVec 32 := Scalar.addi c0_i32_688 v552
  v553.toNat
def k0_dev32 (v0 : BitVec 32) : Nat :=
  let c0_i32_714 : BitVec 32 := 0#32
  let c1_i32_713 : BitVec 32 := 1#32
  let v570 : BitVec 32 := Scalar.muli v0 c1_i32_713
  let v571 : BitVec 32 := Scalar.addi c0_i32_714 v570
  v571.toNat
def k0_dev33 (v1 : BitVec 32) : Nat :=
  let c0_i32_740 : BitVec 32 := 0#32
  let c1_i32_739 : BitVec 32 := 1#32
  let v588 : BitVec 32 := Scalar.muli v1 c1_i32_739
  let v589 : BitVec 32 := Scalar.addi c0_i32_740 v588
  v589.toNat
def k0_dev34 (v0 : BitVec 32) : Nat :=
  let c0_i32_766 : BitVec 32 := 0#32
  let c1_i32_765 : BitVec 32 := 1#32
  let v606 : BitVec 32 := Scalar.muli v0 c1_i32_765
  let v607 : BitVec 32 := Scalar.addi c0_i32_766 v606
  v607.toNat
def k0_dev35 (v0 : BitVec 32) : Nat :=
  let c0_i32_873 : BitVec 32 := 0#32
  let c1_i32_872 : BitVec 32 := 1#32
  let v718 : BitVec 32 := Scalar.muli v0 c1_i32_872
  let v719 : BitVec 32 := Scalar.addi c0_i32_873 v718
  v719.toNat
def k0_dev36 (v1 : BitVec 32) : Nat :=
  let c0_i32_887 : BitVec 32 := 0#32
  let c1_i32_886 : BitVec 32 := 1#32
  let v726 : BitVec 32 := Scalar.muli v1 c1_i32_886
  let v727 : BitVec 32 := Scalar.addi c0_i32_887 v726
  v727.toNat
def k0_dev37 (v0 : BitVec 32) : Nat :=
  let c0_i32_901 : BitVec 32 := 0#32
  let c1_i32_900 : BitVec 32 := 1#32
  let v734 : BitVec 32 := Scalar.muli v0 c1_i32_900
  let v735 : BitVec 32 := Scalar.addi c0_i32_901 v734
  v735.toNat
def k0_dev38 (v1 : BitVec 32) : Nat :=
  let c0_i32_915 : BitVec 32 := 0#32
  let c1_i32_914 : BitVec 32 := 1#32
  let v742 : BitVec 32 := Scalar.muli v1 c1_i32_914
  let v743 : BitVec 32 := Scalar.addi c0_i32_915 v742
  v743.toNat
def k0_dev39 (v0 : BitVec 32) : Nat :=
  let c0_i32_929 : BitVec 32 := 0#32
  let c1_i32_928 : BitVec 32 := 1#32
  let v750 : BitVec 32 := Scalar.muli v0 c1_i32_928
  let v751 : BitVec 32 := Scalar.addi c0_i32_929 v750
  v751.toNat
def k0_dev40 (v1 : BitVec 32) : Nat :=
  let c0_i32_943 : BitVec 32 := 0#32
  let c1_i32_942 : BitVec 32 := 1#32
  let v758 : BitVec 32 := Scalar.muli v1 c1_i32_942
  let v759 : BitVec 32 := Scalar.addi c0_i32_943 v758
  v759.toNat
def k0_dev41 (v0 : BitVec 32) : Nat :=
  let c0_i32_957 : BitVec 32 := 0#32
  let c1_i32_956 : BitVec 32 := 1#32
  let v766 : BitVec 32 := Scalar.muli v0 c1_i32_956
  let v767 : BitVec 32 := Scalar.addi c0_i32_957 v766
  v767.toNat
def k0_dev42 (v1 : BitVec 32) : Nat :=
  let c0_i32_971 : BitVec 32 := 0#32
  let c1_i32_970 : BitVec 32 := 1#32
  let v774 : BitVec 32 := Scalar.muli v1 c1_i32_970
  let v775 : BitVec 32 := Scalar.addi c0_i32_971 v774
  v775.toNat
def k0_dev43 (v1 : BitVec 32) : Nat :=
  let c0_i32_991 : BitVec 32 := 0#32
  let c1_i32_990 : BitVec 32 := 1#32
  let v784 : BitVec 32 := Scalar.muli v1 c1_i32_990
  let v785 : BitVec 32 := Scalar.addi c0_i32_991 v784
  v785.toNat
def k0_dev44 (v0 : BitVec 32) : Nat :=
  let c0_i32_1017 : BitVec 32 := 0#32
  let c1_i32_1016 : BitVec 32 := 1#32
  let v802 : BitVec 32 := Scalar.muli v0 c1_i32_1016
  let v803 : BitVec 32 := Scalar.addi c0_i32_1017 v802
  v803.toNat
def k0_dev45 (v1 : BitVec 32) : Nat :=
  let c0_i32_1043 : BitVec 32 := 0#32
  let c1_i32_1042 : BitVec 32 := 1#32
  let v820 : BitVec 32 := Scalar.muli v1 c1_i32_1042
  let v821 : BitVec 32 := Scalar.addi c0_i32_1043 v820
  v821.toNat
def k0_dev46 (v0 : BitVec 32) : Nat :=
  let c0_i32_1069 : BitVec 32 := 0#32
  let c1_i32_1068 : BitVec 32 := 1#32
  let v838 : BitVec 32 := Scalar.muli v0 c1_i32_1068
  let v839 : BitVec 32 := Scalar.addi c0_i32_1069 v838
  v839.toNat
def k0_dev47 (v1 : BitVec 32) : Nat :=
  let c0_i32_1095 : BitVec 32 := 0#32
  let c1_i32_1094 : BitVec 32 := 1#32
  let v856 : BitVec 32 := Scalar.muli v1 c1_i32_1094
  let v857 : BitVec 32 := Scalar.addi c0_i32_1095 v856
  v857.toNat
def k0_dev48 (v0 : BitVec 32) : Nat :=
  let c0_i32_1121 : BitVec 32 := 0#32
  let c1_i32_1120 : BitVec 32 := 1#32
  let v874 : BitVec 32 := Scalar.muli v0 c1_i32_1120
  let v875 : BitVec 32 := Scalar.addi c0_i32_1121 v874
  v875.toNat
def k0_dev49 (v1 : BitVec 32) : Nat :=
  let c0_i32_1147 : BitVec 32 := 0#32
  let c1_i32_1146 : BitVec 32 := 1#32
  let v892 : BitVec 32 := Scalar.muli v1 c1_i32_1146
  let v893 : BitVec 32 := Scalar.addi c0_i32_1147 v892
  v893.toNat
def k0_dev50 (v0 : BitVec 32) : Nat :=
  let c0_i32_1173 : BitVec 32 := 0#32
  let c1_i32_1172 : BitVec 32 := 1#32
  let v910 : BitVec 32 := Scalar.muli v0 c1_i32_1172
  let v911 : BitVec 32 := Scalar.addi c0_i32_1173 v910
  v911.toNat
def k0_dev51 (v0 : BitVec 32) : Nat :=
  let c0_i32_1281 : BitVec 32 := 0#32
  let c1_i32_1280 : BitVec 32 := 1#32
  let v1022 : BitVec 32 := Scalar.muli v0 c1_i32_1280
  let v1023 : BitVec 32 := Scalar.addi c0_i32_1281 v1022
  v1023.toNat
def k0_dev52 (v1 : BitVec 32) : Nat :=
  let c0_i32_1295 : BitVec 32 := 0#32
  let c1_i32_1294 : BitVec 32 := 1#32
  let v1030 : BitVec 32 := Scalar.muli v1 c1_i32_1294
  let v1031 : BitVec 32 := Scalar.addi c0_i32_1295 v1030
  v1031.toNat
def k0_dev53 (v0 : BitVec 32) : Nat :=
  let c0_i32_1309 : BitVec 32 := 0#32
  let c1_i32_1308 : BitVec 32 := 1#32
  let v1038 : BitVec 32 := Scalar.muli v0 c1_i32_1308
  let v1039 : BitVec 32 := Scalar.addi c0_i32_1309 v1038
  v1039.toNat
def k0_dev54 (v1 : BitVec 32) : Nat :=
  let c0_i32_1323 : BitVec 32 := 0#32
  let c1_i32_1322 : BitVec 32 := 1#32
  let v1046 : BitVec 32 := Scalar.muli v1 c1_i32_1322
  let v1047 : BitVec 32 := Scalar.addi c0_i32_1323 v1046
  v1047.toNat
def k0_dev55 (v0 : BitVec 32) : Nat :=
  let c0_i32_1337 : BitVec 32 := 0#32
  let c1_i32_1336 : BitVec 32 := 1#32
  let v1054 : BitVec 32 := Scalar.muli v0 c1_i32_1336
  let v1055 : BitVec 32 := Scalar.addi c0_i32_1337 v1054
  v1055.toNat
def k0_dev56 (v1 : BitVec 32) : Nat :=
  let c0_i32_1351 : BitVec 32 := 0#32
  let c1_i32_1350 : BitVec 32 := 1#32
  let v1062 : BitVec 32 := Scalar.muli v1 c1_i32_1350
  let v1063 : BitVec 32 := Scalar.addi c0_i32_1351 v1062
  v1063.toNat
def k0_dev57 (v0 : BitVec 32) : Nat :=
  let c0_i32_1365 : BitVec 32 := 0#32
  let c1_i32_1364 : BitVec 32 := 1#32
  let v1070 : BitVec 32 := Scalar.muli v0 c1_i32_1364
  let v1071 : BitVec 32 := Scalar.addi c0_i32_1365 v1070
  v1071.toNat
def k0_dev58 (v1 : BitVec 32) : Nat :=
  let c0_i32_1379 : BitVec 32 := 0#32
  let c1_i32_1378 : BitVec 32 := 1#32
  let v1078 : BitVec 32 := Scalar.muli v1 c1_i32_1378
  let v1079 : BitVec 32 := Scalar.addi c0_i32_1379 v1078
  v1079.toNat
def k0_dev59 (v1 : BitVec 32) : Nat :=
  let c0_i32_1399 : BitVec 32 := 0#32
  let c1_i32_1398 : BitVec 32 := 1#32
  let v1088 : BitVec 32 := Scalar.muli v1 c1_i32_1398
  let v1089 : BitVec 32 := Scalar.addi c0_i32_1399 v1088
  v1089.toNat
def k0_dev60 (v0 : BitVec 32) : Nat :=
  let c0_i32_1425 : BitVec 32 := 0#32
  let c1_i32_1424 : BitVec 32 := 1#32
  let v1106 : BitVec 32 := Scalar.muli v0 c1_i32_1424
  let v1107 : BitVec 32 := Scalar.addi c0_i32_1425 v1106
  v1107.toNat
def k0_dev61 (v1 : BitVec 32) : Nat :=
  let c0_i32_1451 : BitVec 32 := 0#32
  let c1_i32_1450 : BitVec 32 := 1#32
  let v1124 : BitVec 32 := Scalar.muli v1 c1_i32_1450
  let v1125 : BitVec 32 := Scalar.addi c0_i32_1451 v1124
  v1125.toNat
def k0_dev62 (v0 : BitVec 32) : Nat :=
  let c0_i32_1477 : BitVec 32 := 0#32
  let c1_i32_1476 : BitVec 32 := 1#32
  let v1142 : BitVec 32 := Scalar.muli v0 c1_i32_1476
  let v1143 : BitVec 32 := Scalar.addi c0_i32_1477 v1142
  v1143.toNat
def k0_dev63 (v1 : BitVec 32) : Nat :=
  let c0_i32_1503 : BitVec 32 := 0#32
  let c1_i32_1502 : BitVec 32 := 1#32
  let v1160 : BitVec 32 := Scalar.muli v1 c1_i32_1502
  let v1161 : BitVec 32 := Scalar.addi c0_i32_1503 v1160
  v1161.toNat
def k0_dev64 (v0 : BitVec 32) : Nat :=
  let c0_i32_1529 : BitVec 32 := 0#32
  let c1_i32_1528 : BitVec 32 := 1#32
  let v1178 : BitVec 32 := Scalar.muli v0 c1_i32_1528
  let v1179 : BitVec 32 := Scalar.addi c0_i32_1529 v1178
  v1179.toNat
def k0_dev65 (v1 : BitVec 32) : Nat :=
  let c0_i32_1555 : BitVec 32 := 0#32
  let c1_i32_1554 : BitVec 32 := 1#32
  let v1196 : BitVec 32 := Scalar.muli v1 c1_i32_1554
  let v1197 : BitVec 32 := Scalar.addi c0_i32_1555 v1196
  v1197.toNat
def k0_dev66 (v0 : BitVec 32) : Nat :=
  let c0_i32_1581 : BitVec 32 := 0#32
  let c1_i32_1580 : BitVec 32 := 1#32
  let v1214 : BitVec 32 := Scalar.muli v0 c1_i32_1580
  let v1215 : BitVec 32 := Scalar.addi c0_i32_1581 v1214
  v1215.toNat
def k0_dev67 (v0 : BitVec 32) : Nat :=
  let c0_i32_1689 : BitVec 32 := 0#32
  let c1_i32_1688 : BitVec 32 := 1#32
  let v1326 : BitVec 32 := Scalar.muli v0 c1_i32_1688
  let v1327 : BitVec 32 := Scalar.addi c0_i32_1689 v1326
  v1327.toNat
def k0_dev68 (v1 : BitVec 32) : Nat :=
  let c0_i32_1703 : BitVec 32 := 0#32
  let c1_i32_1702 : BitVec 32 := 1#32
  let v1334 : BitVec 32 := Scalar.muli v1 c1_i32_1702
  let v1335 : BitVec 32 := Scalar.addi c0_i32_1703 v1334
  v1335.toNat
def k0_dev69 (v0 : BitVec 32) : Nat :=
  let c0_i32_1717 : BitVec 32 := 0#32
  let c1_i32_1716 : BitVec 32 := 1#32
  let v1342 : BitVec 32 := Scalar.muli v0 c1_i32_1716
  let v1343 : BitVec 32 := Scalar.addi c0_i32_1717 v1342
  v1343.toNat
def k0_dev70 (v1 : BitVec 32) : Nat :=
  let c0_i32_1731 : BitVec 32 := 0#32
  let c1_i32_1730 : BitVec 32 := 1#32
  let v1350 : BitVec 32 := Scalar.muli v1 c1_i32_1730
  let v1351 : BitVec 32 := Scalar.addi c0_i32_1731 v1350
  v1351.toNat
def k0_dev71 (v0 : BitVec 32) : Nat :=
  let c0_i32_1745 : BitVec 32 := 0#32
  let c1_i32_1744 : BitVec 32 := 1#32
  let v1358 : BitVec 32 := Scalar.muli v0 c1_i32_1744
  let v1359 : BitVec 32 := Scalar.addi c0_i32_1745 v1358
  v1359.toNat
def k0_dev72 (v1 : BitVec 32) : Nat :=
  let c0_i32_1759 : BitVec 32 := 0#32
  let c1_i32_1758 : BitVec 32 := 1#32
  let v1366 : BitVec 32 := Scalar.muli v1 c1_i32_1758
  let v1367 : BitVec 32 := Scalar.addi c0_i32_1759 v1366
  v1367.toNat
def k0_dev73 (v0 : BitVec 32) : Nat :=
  let c0_i32_1773 : BitVec 32 := 0#32
  let c1_i32_1772 : BitVec 32 := 1#32
  let v1374 : BitVec 32 := Scalar.muli v0 c1_i32_1772
  let v1375 : BitVec 32 := Scalar.addi c0_i32_1773 v1374
  v1375.toNat
def k0_dev74 (v1 : BitVec 32) : Nat :=
  let c0_i32_1787 : BitVec 32 := 0#32
  let c1_i32_1786 : BitVec 32 := 1#32
  let v1382 : BitVec 32 := Scalar.muli v1 c1_i32_1786
  let v1383 : BitVec 32 := Scalar.addi c0_i32_1787 v1382
  v1383.toNat
def k0_dev75 (v1 : BitVec 32) : Nat :=
  let c0_i32_1807 : BitVec 32 := 0#32
  let c1_i32_1806 : BitVec 32 := 1#32
  let v1392 : BitVec 32 := Scalar.muli v1 c1_i32_1806
  let v1393 : BitVec 32 := Scalar.addi c0_i32_1807 v1392
  v1393.toNat
def k0_dev76 (v0 : BitVec 32) : Nat :=
  let c0_i32_1833 : BitVec 32 := 0#32
  let c1_i32_1832 : BitVec 32 := 1#32
  let v1410 : BitVec 32 := Scalar.muli v0 c1_i32_1832
  let v1411 : BitVec 32 := Scalar.addi c0_i32_1833 v1410
  v1411.toNat
def k0_dev77 (v1 : BitVec 32) : Nat :=
  let c0_i32_1859 : BitVec 32 := 0#32
  let c1_i32_1858 : BitVec 32 := 1#32
  let v1428 : BitVec 32 := Scalar.muli v1 c1_i32_1858
  let v1429 : BitVec 32 := Scalar.addi c0_i32_1859 v1428
  v1429.toNat
def k0_dev78 (v0 : BitVec 32) : Nat :=
  let c0_i32_1885 : BitVec 32 := 0#32
  let c1_i32_1884 : BitVec 32 := 1#32
  let v1446 : BitVec 32 := Scalar.muli v0 c1_i32_1884
  let v1447 : BitVec 32 := Scalar.addi c0_i32_1885 v1446
  v1447.toNat
def k0_dev79 (v1 : BitVec 32) : Nat :=
  let c0_i32_1911 : BitVec 32 := 0#32
  let c1_i32_1910 : BitVec 32 := 1#32
  let v1464 : BitVec 32 := Scalar.muli v1 c1_i32_1910
  let v1465 : BitVec 32 := Scalar.addi c0_i32_1911 v1464
  v1465.toNat
def k0_dev80 (v0 : BitVec 32) : Nat :=
  let c0_i32_1937 : BitVec 32 := 0#32
  let c1_i32_1936 : BitVec 32 := 1#32
  let v1482 : BitVec 32 := Scalar.muli v0 c1_i32_1936
  let v1483 : BitVec 32 := Scalar.addi c0_i32_1937 v1482
  v1483.toNat
def k0_dev81 (v1 : BitVec 32) : Nat :=
  let c0_i32_1963 : BitVec 32 := 0#32
  let c1_i32_1962 : BitVec 32 := 1#32
  let v1500 : BitVec 32 := Scalar.muli v1 c1_i32_1962
  let v1501 : BitVec 32 := Scalar.addi c0_i32_1963 v1500
  v1501.toNat
def k0_dev82 (v0 : BitVec 32) : Nat :=
  let c0_i32_1989 : BitVec 32 := 0#32
  let c1_i32_1988 : BitVec 32 := 1#32
  let v1518 : BitVec 32 := Scalar.muli v0 c1_i32_1988
  let v1519 : BitVec 32 := Scalar.addi c0_i32_1989 v1518
  v1519.toNat
def k0_dev83 (v0 : BitVec 32) : Nat :=
  let c0_i32_2097 : BitVec 32 := 0#32
  let c1_i32_2096 : BitVec 32 := 1#32
  let v1630 : BitVec 32 := Scalar.muli v0 c1_i32_2096
  let v1631 : BitVec 32 := Scalar.addi c0_i32_2097 v1630
  v1631.toNat
def k0_dev84 (v1 : BitVec 32) : Nat :=
  let c0_i32_2111 : BitVec 32 := 0#32
  let c1_i32_2110 : BitVec 32 := 1#32
  let v1638 : BitVec 32 := Scalar.muli v1 c1_i32_2110
  let v1639 : BitVec 32 := Scalar.addi c0_i32_2111 v1638
  v1639.toNat
def k0_dev85 (v0 : BitVec 32) : Nat :=
  let c0_i32_2125 : BitVec 32 := 0#32
  let c1_i32_2124 : BitVec 32 := 1#32
  let v1646 : BitVec 32 := Scalar.muli v0 c1_i32_2124
  let v1647 : BitVec 32 := Scalar.addi c0_i32_2125 v1646
  v1647.toNat
def k0_dev86 (v1 : BitVec 32) : Nat :=
  let c0_i32_2139 : BitVec 32 := 0#32
  let c1_i32_2138 : BitVec 32 := 1#32
  let v1654 : BitVec 32 := Scalar.muli v1 c1_i32_2138
  let v1655 : BitVec 32 := Scalar.addi c0_i32_2139 v1654
  v1655.toNat
def k0_dev87 (v0 : BitVec 32) : Nat :=
  let c0_i32_2153 : BitVec 32 := 0#32
  let c1_i32_2152 : BitVec 32 := 1#32
  let v1662 : BitVec 32 := Scalar.muli v0 c1_i32_2152
  let v1663 : BitVec 32 := Scalar.addi c0_i32_2153 v1662
  v1663.toNat
def k0_dev88 (v1 : BitVec 32) : Nat :=
  let c0_i32_2167 : BitVec 32 := 0#32
  let c1_i32_2166 : BitVec 32 := 1#32
  let v1670 : BitVec 32 := Scalar.muli v1 c1_i32_2166
  let v1671 : BitVec 32 := Scalar.addi c0_i32_2167 v1670
  v1671.toNat
def k0_dev89 (v0 : BitVec 32) : Nat :=
  let c0_i32_2181 : BitVec 32 := 0#32
  let c1_i32_2180 : BitVec 32 := 1#32
  let v1678 : BitVec 32 := Scalar.muli v0 c1_i32_2180
  let v1679 : BitVec 32 := Scalar.addi c0_i32_2181 v1678
  v1679.toNat
def k0_dev90 (v1 : BitVec 32) : Nat :=
  let c0_i32_2195 : BitVec 32 := 0#32
  let c1_i32_2194 : BitVec 32 := 1#32
  let v1686 : BitVec 32 := Scalar.muli v1 c1_i32_2194
  let v1687 : BitVec 32 := Scalar.addi c0_i32_2195 v1686
  v1687.toNat
def k0_dev91 (v1 : BitVec 32) : Nat :=
  let c0_i32_2215 : BitVec 32 := 0#32
  let c1_i32_2214 : BitVec 32 := 1#32
  let v1696 : BitVec 32 := Scalar.muli v1 c1_i32_2214
  let v1697 : BitVec 32 := Scalar.addi c0_i32_2215 v1696
  v1697.toNat
def k0_dev92 (v0 : BitVec 32) : Nat :=
  let c0_i32_2241 : BitVec 32 := 0#32
  let c1_i32_2240 : BitVec 32 := 1#32
  let v1714 : BitVec 32 := Scalar.muli v0 c1_i32_2240
  let v1715 : BitVec 32 := Scalar.addi c0_i32_2241 v1714
  v1715.toNat
def k0_dev93 (v1 : BitVec 32) : Nat :=
  let c0_i32_2267 : BitVec 32 := 0#32
  let c1_i32_2266 : BitVec 32 := 1#32
  let v1732 : BitVec 32 := Scalar.muli v1 c1_i32_2266
  let v1733 : BitVec 32 := Scalar.addi c0_i32_2267 v1732
  v1733.toNat
def k0_dev94 (v0 : BitVec 32) : Nat :=
  let c0_i32_2293 : BitVec 32 := 0#32
  let c1_i32_2292 : BitVec 32 := 1#32
  let v1750 : BitVec 32 := Scalar.muli v0 c1_i32_2292
  let v1751 : BitVec 32 := Scalar.addi c0_i32_2293 v1750
  v1751.toNat
def k0_dev95 (v1 : BitVec 32) : Nat :=
  let c0_i32_2319 : BitVec 32 := 0#32
  let c1_i32_2318 : BitVec 32 := 1#32
  let v1768 : BitVec 32 := Scalar.muli v1 c1_i32_2318
  let v1769 : BitVec 32 := Scalar.addi c0_i32_2319 v1768
  v1769.toNat
def k0_dev96 (v0 : BitVec 32) : Nat :=
  let c0_i32_2345 : BitVec 32 := 0#32
  let c1_i32_2344 : BitVec 32 := 1#32
  let v1786 : BitVec 32 := Scalar.muli v0 c1_i32_2344
  let v1787 : BitVec 32 := Scalar.addi c0_i32_2345 v1786
  v1787.toNat
def k0_dev97 (v1 : BitVec 32) : Nat :=
  let c0_i32_2371 : BitVec 32 := 0#32
  let c1_i32_2370 : BitVec 32 := 1#32
  let v1804 : BitVec 32 := Scalar.muli v1 c1_i32_2370
  let v1805 : BitVec 32 := Scalar.addi c0_i32_2371 v1804
  v1805.toNat
def k0_dev98 (v0 : BitVec 32) : Nat :=
  let c0_i32_2397 : BitVec 32 := 0#32
  let c1_i32_2396 : BitVec 32 := 1#32
  let v1822 : BitVec 32 := Scalar.muli v0 c1_i32_2396
  let v1823 : BitVec 32 := Scalar.addi c0_i32_2397 v1822
  v1823.toNat
def k0_dev99 (v0 : BitVec 32) : Nat :=
  let c0_i32_2505 : BitVec 32 := 0#32
  let c1_i32_2504 : BitVec 32 := 1#32
  let v1934 : BitVec 32 := Scalar.muli v0 c1_i32_2504
  let v1935 : BitVec 32 := Scalar.addi c0_i32_2505 v1934
  v1935.toNat
def k0_dev100 (v1 : BitVec 32) : Nat :=
  let c0_i32_2519 : BitVec 32 := 0#32
  let c1_i32_2518 : BitVec 32 := 1#32
  let v1942 : BitVec 32 := Scalar.muli v1 c1_i32_2518
  let v1943 : BitVec 32 := Scalar.addi c0_i32_2519 v1942
  v1943.toNat
def k0_dev101 (v0 : BitVec 32) : Nat :=
  let c0_i32_2533 : BitVec 32 := 0#32
  let c1_i32_2532 : BitVec 32 := 1#32
  let v1950 : BitVec 32 := Scalar.muli v0 c1_i32_2532
  let v1951 : BitVec 32 := Scalar.addi c0_i32_2533 v1950
  v1951.toNat
def k0_dev102 (v1 : BitVec 32) : Nat :=
  let c0_i32_2547 : BitVec 32 := 0#32
  let c1_i32_2546 : BitVec 32 := 1#32
  let v1958 : BitVec 32 := Scalar.muli v1 c1_i32_2546
  let v1959 : BitVec 32 := Scalar.addi c0_i32_2547 v1958
  v1959.toNat
def k0_dev103 (v0 : BitVec 32) : Nat :=
  let c0_i32_2561 : BitVec 32 := 0#32
  let c1_i32_2560 : BitVec 32 := 1#32
  let v1966 : BitVec 32 := Scalar.muli v0 c1_i32_2560
  let v1967 : BitVec 32 := Scalar.addi c0_i32_2561 v1966
  v1967.toNat
def k0_dev104 (v1 : BitVec 32) : Nat :=
  let c0_i32_2575 : BitVec 32 := 0#32
  let c1_i32_2574 : BitVec 32 := 1#32
  let v1974 : BitVec 32 := Scalar.muli v1 c1_i32_2574
  let v1975 : BitVec 32 := Scalar.addi c0_i32_2575 v1974
  v1975.toNat
def k0_dev105 (v0 : BitVec 32) : Nat :=
  let c0_i32_2589 : BitVec 32 := 0#32
  let c1_i32_2588 : BitVec 32 := 1#32
  let v1982 : BitVec 32 := Scalar.muli v0 c1_i32_2588
  let v1983 : BitVec 32 := Scalar.addi c0_i32_2589 v1982
  v1983.toNat
def k0_dev106 (v1 : BitVec 32) : Nat :=
  let c0_i32_2603 : BitVec 32 := 0#32
  let c1_i32_2602 : BitVec 32 := 1#32
  let v1990 : BitVec 32 := Scalar.muli v1 c1_i32_2602
  let v1991 : BitVec 32 := Scalar.addi c0_i32_2603 v1990
  v1991.toNat
def k0_dev107 (v1 : BitVec 32) : Nat :=
  let c0_i32_2623 : BitVec 32 := 0#32
  let c1_i32_2622 : BitVec 32 := 1#32
  let v2000 : BitVec 32 := Scalar.muli v1 c1_i32_2622
  let v2001 : BitVec 32 := Scalar.addi c0_i32_2623 v2000
  v2001.toNat
def k0_dev108 (v0 : BitVec 32) : Nat :=
  let c0_i32_2649 : BitVec 32 := 0#32
  let c1_i32_2648 : BitVec 32 := 1#32
  let v2018 : BitVec 32 := Scalar.muli v0 c1_i32_2648
  let v2019 : BitVec 32 := Scalar.addi c0_i32_2649 v2018
  v2019.toNat
def k0_dev109 (v1 : BitVec 32) : Nat :=
  let c0_i32_2675 : BitVec 32 := 0#32
  let c1_i32_2674 : BitVec 32 := 1#32
  let v2036 : BitVec 32 := Scalar.muli v1 c1_i32_2674
  let v2037 : BitVec 32 := Scalar.addi c0_i32_2675 v2036
  v2037.toNat
def k0_dev110 (v0 : BitVec 32) : Nat :=
  let c0_i32_2701 : BitVec 32 := 0#32
  let c1_i32_2700 : BitVec 32 := 1#32
  let v2054 : BitVec 32 := Scalar.muli v0 c1_i32_2700
  let v2055 : BitVec 32 := Scalar.addi c0_i32_2701 v2054
  v2055.toNat
def k0_dev111 (v1 : BitVec 32) : Nat :=
  let c0_i32_2727 : BitVec 32 := 0#32
  let c1_i32_2726 : BitVec 32 := 1#32
  let v2072 : BitVec 32 := Scalar.muli v1 c1_i32_2726
  let v2073 : BitVec 32 := Scalar.addi c0_i32_2727 v2072
  v2073.toNat
def k0_dev112 (v0 : BitVec 32) : Nat :=
  let c0_i32_2753 : BitVec 32 := 0#32
  let c1_i32_2752 : BitVec 32 := 1#32
  let v2090 : BitVec 32 := Scalar.muli v0 c1_i32_2752
  let v2091 : BitVec 32 := Scalar.addi c0_i32_2753 v2090
  v2091.toNat
def k0_dev113 (v1 : BitVec 32) : Nat :=
  let c0_i32_2779 : BitVec 32 := 0#32
  let c1_i32_2778 : BitVec 32 := 1#32
  let v2108 : BitVec 32 := Scalar.muli v1 c1_i32_2778
  let v2109 : BitVec 32 := Scalar.addi c0_i32_2779 v2108
  v2109.toNat
def k0_dev114 (v0 : BitVec 32) : Nat :=
  let c0_i32_2805 : BitVec 32 := 0#32
  let c1_i32_2804 : BitVec 32 := 1#32
  let v2126 : BitVec 32 := Scalar.muli v0 c1_i32_2804
  let v2127 : BitVec 32 := Scalar.addi c0_i32_2805 v2126
  v2127.toNat
def k0_dev115 (v0 : BitVec 32) : Nat :=
  let c0_i32_2913 : BitVec 32 := 0#32
  let c1_i32_2912 : BitVec 32 := 1#32
  let v2238 : BitVec 32 := Scalar.muli v0 c1_i32_2912
  let v2239 : BitVec 32 := Scalar.addi c0_i32_2913 v2238
  v2239.toNat
def k0_dev116 (v1 : BitVec 32) : Nat :=
  let c0_i32_2927 : BitVec 32 := 0#32
  let c1_i32_2926 : BitVec 32 := 1#32
  let v2246 : BitVec 32 := Scalar.muli v1 c1_i32_2926
  let v2247 : BitVec 32 := Scalar.addi c0_i32_2927 v2246
  v2247.toNat
def k0_dev117 (v0 : BitVec 32) : Nat :=
  let c0_i32_2941 : BitVec 32 := 0#32
  let c1_i32_2940 : BitVec 32 := 1#32
  let v2254 : BitVec 32 := Scalar.muli v0 c1_i32_2940
  let v2255 : BitVec 32 := Scalar.addi c0_i32_2941 v2254
  v2255.toNat
def k0_dev118 (v1 : BitVec 32) : Nat :=
  let c0_i32_2955 : BitVec 32 := 0#32
  let c1_i32_2954 : BitVec 32 := 1#32
  let v2262 : BitVec 32 := Scalar.muli v1 c1_i32_2954
  let v2263 : BitVec 32 := Scalar.addi c0_i32_2955 v2262
  v2263.toNat
def k0_dev119 (v0 : BitVec 32) : Nat :=
  let c0_i32_2969 : BitVec 32 := 0#32
  let c1_i32_2968 : BitVec 32 := 1#32
  let v2270 : BitVec 32 := Scalar.muli v0 c1_i32_2968
  let v2271 : BitVec 32 := Scalar.addi c0_i32_2969 v2270
  v2271.toNat
def k0_dev120 (v1 : BitVec 32) : Nat :=
  let c0_i32_2983 : BitVec 32 := 0#32
  let c1_i32_2982 : BitVec 32 := 1#32
  let v2278 : BitVec 32 := Scalar.muli v1 c1_i32_2982
  let v2279 : BitVec 32 := Scalar.addi c0_i32_2983 v2278
  v2279.toNat
def k0_dev121 (v0 : BitVec 32) : Nat :=
  let c0_i32_2997 : BitVec 32 := 0#32
  let c1_i32_2996 : BitVec 32 := 1#32
  let v2286 : BitVec 32 := Scalar.muli v0 c1_i32_2996
  let v2287 : BitVec 32 := Scalar.addi c0_i32_2997 v2286
  v2287.toNat
def k0_dev122 (v1 : BitVec 32) : Nat :=
  let c0_i32_3011 : BitVec 32 := 0#32
  let c1_i32_3010 : BitVec 32 := 1#32
  let v2294 : BitVec 32 := Scalar.muli v1 c1_i32_3010
  let v2295 : BitVec 32 := Scalar.addi c0_i32_3011 v2294
  v2295.toNat
def k0_dev123 (v1 : BitVec 32) : Nat :=
  let c0_i32_3031 : BitVec 32 := 0#32
  let c1_i32_3030 : BitVec 32 := 1#32
  let v2304 : BitVec 32 := Scalar.muli v1 c1_i32_3030
  let v2305 : BitVec 32 := Scalar.addi c0_i32_3031 v2304
  v2305.toNat
def k0_dev124 (v0 : BitVec 32) : Nat :=
  let c0_i32_3057 : BitVec 32 := 0#32
  let c1_i32_3056 : BitVec 32 := 1#32
  let v2322 : BitVec 32 := Scalar.muli v0 c1_i32_3056
  let v2323 : BitVec 32 := Scalar.addi c0_i32_3057 v2322
  v2323.toNat
def k0_dev125 (v1 : BitVec 32) : Nat :=
  let c0_i32_3083 : BitVec 32 := 0#32
  let c1_i32_3082 : BitVec 32 := 1#32
  let v2340 : BitVec 32 := Scalar.muli v1 c1_i32_3082
  let v2341 : BitVec 32 := Scalar.addi c0_i32_3083 v2340
  v2341.toNat
def k0_dev126 (v0 : BitVec 32) : Nat :=
  let c0_i32_3109 : BitVec 32 := 0#32
  let c1_i32_3108 : BitVec 32 := 1#32
  let v2358 : BitVec 32 := Scalar.muli v0 c1_i32_3108
  let v2359 : BitVec 32 := Scalar.addi c0_i32_3109 v2358
  v2359.toNat
def k0_dev127 (v1 : BitVec 32) : Nat :=
  let c0_i32_3135 : BitVec 32 := 0#32
  let c1_i32_3134 : BitVec 32 := 1#32
  let v2376 : BitVec 32 := Scalar.muli v1 c1_i32_3134
  let v2377 : BitVec 32 := Scalar.addi c0_i32_3135 v2376
  v2377.toNat
def k0_dev128 (v0 : BitVec 32) : Nat :=
  let c0_i32_3161 : BitVec 32 := 0#32
  let c1_i32_3160 : BitVec 32 := 1#32
  let v2394 : BitVec 32 := Scalar.muli v0 c1_i32_3160
  let v2395 : BitVec 32 := Scalar.addi c0_i32_3161 v2394
  v2395.toNat
def k0_dev129 (v1 : BitVec 32) : Nat :=
  let c0_i32_3187 : BitVec 32 := 0#32
  let c1_i32_3186 : BitVec 32 := 1#32
  let v2412 : BitVec 32 := Scalar.muli v1 c1_i32_3186
  let v2413 : BitVec 32 := Scalar.addi c0_i32_3187 v2412
  v2413.toNat
def k0_dev130 (v0 : BitVec 32) : Nat :=
  let c0_i32_3213 : BitVec 32 := 0#32
  let c1_i32_3212 : BitVec 32 := 1#32
  let v2430 : BitVec 32 := Scalar.muli v0 c1_i32_3212
  let v2431 : BitVec 32 := Scalar.addi c0_i32_3213 v2430
  v2431.toNat
def k0_dev131 (v0 : BitVec 32) : Nat :=
  let c0_i32_3321 : BitVec 32 := 0#32
  let c1_i32_3320 : BitVec 32 := 1#32
  let v2542 : BitVec 32 := Scalar.muli v0 c1_i32_3320
  let v2543 : BitVec 32 := Scalar.addi c0_i32_3321 v2542
  v2543.toNat
def k0_dev132 (v1 : BitVec 32) : Nat :=
  let c0_i32_3335 : BitVec 32 := 0#32
  let c1_i32_3334 : BitVec 32 := 1#32
  let v2550 : BitVec 32 := Scalar.muli v1 c1_i32_3334
  let v2551 : BitVec 32 := Scalar.addi c0_i32_3335 v2550
  v2551.toNat
def k0_dev133 (v0 : BitVec 32) : Nat :=
  let c0_i32_3349 : BitVec 32 := 0#32
  let c1_i32_3348 : BitVec 32 := 1#32
  let v2558 : BitVec 32 := Scalar.muli v0 c1_i32_3348
  let v2559 : BitVec 32 := Scalar.addi c0_i32_3349 v2558
  v2559.toNat
def k0_dev134 (v1 : BitVec 32) : Nat :=
  let c0_i32_3363 : BitVec 32 := 0#32
  let c1_i32_3362 : BitVec 32 := 1#32
  let v2566 : BitVec 32 := Scalar.muli v1 c1_i32_3362
  let v2567 : BitVec 32 := Scalar.addi c0_i32_3363 v2566
  v2567.toNat
def k0_dev135 (v0 : BitVec 32) : Nat :=
  let c0_i32_3377 : BitVec 32 := 0#32
  let c1_i32_3376 : BitVec 32 := 1#32
  let v2574 : BitVec 32 := Scalar.muli v0 c1_i32_3376
  let v2575 : BitVec 32 := Scalar.addi c0_i32_3377 v2574
  v2575.toNat
def k0_dev136 (v1 : BitVec 32) : Nat :=
  let c0_i32_3391 : BitVec 32 := 0#32
  let c1_i32_3390 : BitVec 32 := 1#32
  let v2582 : BitVec 32 := Scalar.muli v1 c1_i32_3390
  let v2583 : BitVec 32 := Scalar.addi c0_i32_3391 v2582
  v2583.toNat
def k0_dev137 (v0 : BitVec 32) : Nat :=
  let c0_i32_3405 : BitVec 32 := 0#32
  let c1_i32_3404 : BitVec 32 := 1#32
  let v2590 : BitVec 32 := Scalar.muli v0 c1_i32_3404
  let v2591 : BitVec 32 := Scalar.addi c0_i32_3405 v2590
  v2591.toNat
def k0_dev138 (v1 : BitVec 32) : Nat :=
  let c0_i32_3419 : BitVec 32 := 0#32
  let c1_i32_3418 : BitVec 32 := 1#32
  let v2598 : BitVec 32 := Scalar.muli v1 c1_i32_3418
  let v2599 : BitVec 32 := Scalar.addi c0_i32_3419 v2598
  v2599.toNat
def k0_dev139 (v1 : BitVec 32) : Nat :=
  let c0_i32_3439 : BitVec 32 := 0#32
  let c1_i32_3438 : BitVec 32 := 1#32
  let v2608 : BitVec 32 := Scalar.muli v1 c1_i32_3438
  let v2609 : BitVec 32 := Scalar.addi c0_i32_3439 v2608
  v2609.toNat
def k0_dev140 (v0 : BitVec 32) : Nat :=
  let c0_i32_3465 : BitVec 32 := 0#32
  let c1_i32_3464 : BitVec 32 := 1#32
  let v2626 : BitVec 32 := Scalar.muli v0 c1_i32_3464
  let v2627 : BitVec 32 := Scalar.addi c0_i32_3465 v2626
  v2627.toNat
def k0_dev141 (v1 : BitVec 32) : Nat :=
  let c0_i32_3491 : BitVec 32 := 0#32
  let c1_i32_3490 : BitVec 32 := 1#32
  let v2644 : BitVec 32 := Scalar.muli v1 c1_i32_3490
  let v2645 : BitVec 32 := Scalar.addi c0_i32_3491 v2644
  v2645.toNat
def k0_dev142 (v0 : BitVec 32) : Nat :=
  let c0_i32_3517 : BitVec 32 := 0#32
  let c1_i32_3516 : BitVec 32 := 1#32
  let v2662 : BitVec 32 := Scalar.muli v0 c1_i32_3516
  let v2663 : BitVec 32 := Scalar.addi c0_i32_3517 v2662
  v2663.toNat
def k0_dev143 (v1 : BitVec 32) : Nat :=
  let c0_i32_3543 : BitVec 32 := 0#32
  let c1_i32_3542 : BitVec 32 := 1#32
  let v2680 : BitVec 32 := Scalar.muli v1 c1_i32_3542
  let v2681 : BitVec 32 := Scalar.addi c0_i32_3543 v2680
  v2681.toNat
def k0_dev144 (v0 : BitVec 32) : Nat :=
  let c0_i32_3569 : BitVec 32 := 0#32
  let c1_i32_3568 : BitVec 32 := 1#32
  let v2698 : BitVec 32 := Scalar.muli v0 c1_i32_3568
  let v2699 : BitVec 32 := Scalar.addi c0_i32_3569 v2698
  v2699.toNat
def k0_dev145 (v1 : BitVec 32) : Nat :=
  let c0_i32_3595 : BitVec 32 := 0#32
  let c1_i32_3594 : BitVec 32 := 1#32
  let v2716 : BitVec 32 := Scalar.muli v1 c1_i32_3594
  let v2717 : BitVec 32 := Scalar.addi c0_i32_3595 v2716
  v2717.toNat
def k0_dev146 (v0 : BitVec 32) : Nat :=
  let c0_i32_3621 : BitVec 32 := 0#32
  let c1_i32_3620 : BitVec 32 := 1#32
  let v2734 : BitVec 32 := Scalar.muli v0 c1_i32_3620
  let v2735 : BitVec 32 := Scalar.addi c0_i32_3621 v2734
  v2735.toNat
def k0_dev147 (v0 : BitVec 32) : Nat :=
  let c0_i32_3729 : BitVec 32 := 0#32
  let c1_i32_3728 : BitVec 32 := 1#32
  let v2846 : BitVec 32 := Scalar.muli v0 c1_i32_3728
  let v2847 : BitVec 32 := Scalar.addi c0_i32_3729 v2846
  v2847.toNat
def k0_dev148 (v1 : BitVec 32) : Nat :=
  let c0_i32_3743 : BitVec 32 := 0#32
  let c1_i32_3742 : BitVec 32 := 1#32
  let v2854 : BitVec 32 := Scalar.muli v1 c1_i32_3742
  let v2855 : BitVec 32 := Scalar.addi c0_i32_3743 v2854
  v2855.toNat
def k0_dev149 (v0 : BitVec 32) : Nat :=
  let c0_i32_3757 : BitVec 32 := 0#32
  let c1_i32_3756 : BitVec 32 := 1#32
  let v2862 : BitVec 32 := Scalar.muli v0 c1_i32_3756
  let v2863 : BitVec 32 := Scalar.addi c0_i32_3757 v2862
  v2863.toNat
def k0_dev150 (v1 : BitVec 32) : Nat :=
  let c0_i32_3771 : BitVec 32 := 0#32
  let c1_i32_3770 : BitVec 32 := 1#32
  let v2870 : BitVec 32 := Scalar.muli v1 c1_i32_3770
  let v2871 : BitVec 32 := Scalar.addi c0_i32_3771 v2870
  v2871.toNat
def k0_dev151 (v0 : BitVec 32) : Nat :=
  let c0_i32_3785 : BitVec 32 := 0#32
  let c1_i32_3784 : BitVec 32 := 1#32
  let v2878 : BitVec 32 := Scalar.muli v0 c1_i32_3784
  let v2879 : BitVec 32 := Scalar.addi c0_i32_3785 v2878
  v2879.toNat
def k0_dev152 (v1 : BitVec 32) : Nat :=
  let c0_i32_3799 : BitVec 32 := 0#32
  let c1_i32_3798 : BitVec 32 := 1#32
  let v2886 : BitVec 32 := Scalar.muli v1 c1_i32_3798
  let v2887 : BitVec 32 := Scalar.addi c0_i32_3799 v2886
  v2887.toNat
def k0_dev153 (v0 : BitVec 32) : Nat :=
  let c0_i32_3813 : BitVec 32 := 0#32
  let c1_i32_3812 : BitVec 32 := 1#32
  let v2894 : BitVec 32 := Scalar.muli v0 c1_i32_3812
  let v2895 : BitVec 32 := Scalar.addi c0_i32_3813 v2894
  v2895.toNat
def k0_dev154 (v1 : BitVec 32) : Nat :=
  let c0_i32_3827 : BitVec 32 := 0#32
  let c1_i32_3826 : BitVec 32 := 1#32
  let v2902 : BitVec 32 := Scalar.muli v1 c1_i32_3826
  let v2903 : BitVec 32 := Scalar.addi c0_i32_3827 v2902
  v2903.toNat
def k0_dev155 (v1 : BitVec 32) : Nat :=
  let c0_i32_3847 : BitVec 32 := 0#32
  let c1_i32_3846 : BitVec 32 := 1#32
  let v2912 : BitVec 32 := Scalar.muli v1 c1_i32_3846
  let v2913 : BitVec 32 := Scalar.addi c0_i32_3847 v2912
  v2913.toNat
def k0_dev156 (v0 : BitVec 32) : Nat :=
  let c0_i32_3873 : BitVec 32 := 0#32
  let c1_i32_3872 : BitVec 32 := 1#32
  let v2930 : BitVec 32 := Scalar.muli v0 c1_i32_3872
  let v2931 : BitVec 32 := Scalar.addi c0_i32_3873 v2930
  v2931.toNat
def k0_dev157 (v1 : BitVec 32) : Nat :=
  let c0_i32_3899 : BitVec 32 := 0#32
  let c1_i32_3898 : BitVec 32 := 1#32
  let v2948 : BitVec 32 := Scalar.muli v1 c1_i32_3898
  let v2949 : BitVec 32 := Scalar.addi c0_i32_3899 v2948
  v2949.toNat
def k0_dev158 (v0 : BitVec 32) : Nat :=
  let c0_i32_3925 : BitVec 32 := 0#32
  let c1_i32_3924 : BitVec 32 := 1#32
  let v2966 : BitVec 32 := Scalar.muli v0 c1_i32_3924
  let v2967 : BitVec 32 := Scalar.addi c0_i32_3925 v2966
  v2967.toNat
def k0_dev159 (v1 : BitVec 32) : Nat :=
  let c0_i32_3951 : BitVec 32 := 0#32
  let c1_i32_3950 : BitVec 32 := 1#32
  let v2984 : BitVec 32 := Scalar.muli v1 c1_i32_3950
  let v2985 : BitVec 32 := Scalar.addi c0_i32_3951 v2984
  v2985.toNat
def k0_dev160 (v0 : BitVec 32) : Nat :=
  let c0_i32_3977 : BitVec 32 := 0#32
  let c1_i32_3976 : BitVec 32 := 1#32
  let v3002 : BitVec 32 := Scalar.muli v0 c1_i32_3976
  let v3003 : BitVec 32 := Scalar.addi c0_i32_3977 v3002
  v3003.toNat
def k0_dev161 (v1 : BitVec 32) : Nat :=
  let c0_i32_4003 : BitVec 32 := 0#32
  let c1_i32_4002 : BitVec 32 := 1#32
  let v3020 : BitVec 32 := Scalar.muli v1 c1_i32_4002
  let v3021 : BitVec 32 := Scalar.addi c0_i32_4003 v3020
  v3021.toNat
def k0_dev162 (v0 : BitVec 32) : Nat :=
  let c0_i32_4029 : BitVec 32 := 0#32
  let c1_i32_4028 : BitVec 32 := 1#32
  let v3038 : BitVec 32 := Scalar.muli v0 c1_i32_4028
  let v3039 : BitVec 32 := Scalar.addi c0_i32_4029 v3038
  v3039.toNat
def k0_dev163 (v0 : BitVec 32) : Nat :=
  let c0_i32_4137 : BitVec 32 := 0#32
  let c1_i32_4136 : BitVec 32 := 1#32
  let v3150 : BitVec 32 := Scalar.muli v0 c1_i32_4136
  let v3151 : BitVec 32 := Scalar.addi c0_i32_4137 v3150
  v3151.toNat
def k0_dev164 (v1 : BitVec 32) : Nat :=
  let c0_i32_4151 : BitVec 32 := 0#32
  let c1_i32_4150 : BitVec 32 := 1#32
  let v3158 : BitVec 32 := Scalar.muli v1 c1_i32_4150
  let v3159 : BitVec 32 := Scalar.addi c0_i32_4151 v3158
  v3159.toNat
def k0_dev165 (v0 : BitVec 32) : Nat :=
  let c0_i32_4165 : BitVec 32 := 0#32
  let c1_i32_4164 : BitVec 32 := 1#32
  let v3166 : BitVec 32 := Scalar.muli v0 c1_i32_4164
  let v3167 : BitVec 32 := Scalar.addi c0_i32_4165 v3166
  v3167.toNat
def k0_dev166 (v1 : BitVec 32) : Nat :=
  let c0_i32_4179 : BitVec 32 := 0#32
  let c1_i32_4178 : BitVec 32 := 1#32
  let v3174 : BitVec 32 := Scalar.muli v1 c1_i32_4178
  let v3175 : BitVec 32 := Scalar.addi c0_i32_4179 v3174
  v3175.toNat
def k0_dev167 (v0 : BitVec 32) : Nat :=
  let c0_i32_4193 : BitVec 32 := 0#32
  let c1_i32_4192 : BitVec 32 := 1#32
  let v3182 : BitVec 32 := Scalar.muli v0 c1_i32_4192
  let v3183 : BitVec 32 := Scalar.addi c0_i32_4193 v3182
  v3183.toNat
def k0_dev168 (v1 : BitVec 32) : Nat :=
  let c0_i32_4207 : BitVec 32 := 0#32
  let c1_i32_4206 : BitVec 32 := 1#32
  let v3190 : BitVec 32 := Scalar.muli v1 c1_i32_4206
  let v3191 : BitVec 32 := Scalar.addi c0_i32_4207 v3190
  v3191.toNat
def k0_dev169 (v0 : BitVec 32) : Nat :=
  let c0_i32_4221 : BitVec 32 := 0#32
  let c1_i32_4220 : BitVec 32 := 1#32
  let v3198 : BitVec 32 := Scalar.muli v0 c1_i32_4220
  let v3199 : BitVec 32 := Scalar.addi c0_i32_4221 v3198
  v3199.toNat
def k0_dev170 (v1 : BitVec 32) : Nat :=
  let c0_i32_4235 : BitVec 32 := 0#32
  let c1_i32_4234 : BitVec 32 := 1#32
  let v3206 : BitVec 32 := Scalar.muli v1 c1_i32_4234
  let v3207 : BitVec 32 := Scalar.addi c0_i32_4235 v3206
  v3207.toNat
def k0_dev171 (v1 : BitVec 32) : Nat :=
  let c0_i32_4255 : BitVec 32 := 0#32
  let c1_i32_4254 : BitVec 32 := 1#32
  let v3216 : BitVec 32 := Scalar.muli v1 c1_i32_4254
  let v3217 : BitVec 32 := Scalar.addi c0_i32_4255 v3216
  v3217.toNat
def k0_dev172 (v0 : BitVec 32) : Nat :=
  let c0_i32_4281 : BitVec 32 := 0#32
  let c1_i32_4280 : BitVec 32 := 1#32
  let v3234 : BitVec 32 := Scalar.muli v0 c1_i32_4280
  let v3235 : BitVec 32 := Scalar.addi c0_i32_4281 v3234
  v3235.toNat
def k0_dev173 (v1 : BitVec 32) : Nat :=
  let c0_i32_4307 : BitVec 32 := 0#32
  let c1_i32_4306 : BitVec 32 := 1#32
  let v3252 : BitVec 32 := Scalar.muli v1 c1_i32_4306
  let v3253 : BitVec 32 := Scalar.addi c0_i32_4307 v3252
  v3253.toNat
def k0_dev174 (v0 : BitVec 32) : Nat :=
  let c0_i32_4333 : BitVec 32 := 0#32
  let c1_i32_4332 : BitVec 32 := 1#32
  let v3270 : BitVec 32 := Scalar.muli v0 c1_i32_4332
  let v3271 : BitVec 32 := Scalar.addi c0_i32_4333 v3270
  v3271.toNat
def k0_dev175 (v1 : BitVec 32) : Nat :=
  let c0_i32_4359 : BitVec 32 := 0#32
  let c1_i32_4358 : BitVec 32 := 1#32
  let v3288 : BitVec 32 := Scalar.muli v1 c1_i32_4358
  let v3289 : BitVec 32 := Scalar.addi c0_i32_4359 v3288
  v3289.toNat
def k0_dev176 (v0 : BitVec 32) : Nat :=
  let c0_i32_4385 : BitVec 32 := 0#32
  let c1_i32_4384 : BitVec 32 := 1#32
  let v3306 : BitVec 32 := Scalar.muli v0 c1_i32_4384
  let v3307 : BitVec 32 := Scalar.addi c0_i32_4385 v3306
  v3307.toNat
def k0_dev177 (v1 : BitVec 32) : Nat :=
  let c0_i32_4411 : BitVec 32 := 0#32
  let c1_i32_4410 : BitVec 32 := 1#32
  let v3324 : BitVec 32 := Scalar.muli v1 c1_i32_4410
  let v3325 : BitVec 32 := Scalar.addi c0_i32_4411 v3324
  v3325.toNat
def k0_dev178 (v0 : BitVec 32) : Nat :=
  let c0_i32_4437 : BitVec 32 := 0#32
  let c1_i32_4436 : BitVec 32 := 1#32
  let v3342 : BitVec 32 := Scalar.muli v0 c1_i32_4436
  let v3343 : BitVec 32 := Scalar.addi c0_i32_4437 v3342
  v3343.toNat
def k0_dev179 (v0 : BitVec 32) : Nat :=
  let c0_i32_4545 : BitVec 32 := 0#32
  let c1_i32_4544 : BitVec 32 := 1#32
  let v3454 : BitVec 32 := Scalar.muli v0 c1_i32_4544
  let v3455 : BitVec 32 := Scalar.addi c0_i32_4545 v3454
  v3455.toNat
def k0_dev180 (v1 : BitVec 32) : Nat :=
  let c0_i32_4559 : BitVec 32 := 0#32
  let c1_i32_4558 : BitVec 32 := 1#32
  let v3462 : BitVec 32 := Scalar.muli v1 c1_i32_4558
  let v3463 : BitVec 32 := Scalar.addi c0_i32_4559 v3462
  v3463.toNat
def k0_dev181 (v0 : BitVec 32) : Nat :=
  let c0_i32_4573 : BitVec 32 := 0#32
  let c1_i32_4572 : BitVec 32 := 1#32
  let v3470 : BitVec 32 := Scalar.muli v0 c1_i32_4572
  let v3471 : BitVec 32 := Scalar.addi c0_i32_4573 v3470
  v3471.toNat
def k0_dev182 (v1 : BitVec 32) : Nat :=
  let c0_i32_4587 : BitVec 32 := 0#32
  let c1_i32_4586 : BitVec 32 := 1#32
  let v3478 : BitVec 32 := Scalar.muli v1 c1_i32_4586
  let v3479 : BitVec 32 := Scalar.addi c0_i32_4587 v3478
  v3479.toNat
def k0_dev183 (v0 : BitVec 32) : Nat :=
  let c0_i32_4601 : BitVec 32 := 0#32
  let c1_i32_4600 : BitVec 32 := 1#32
  let v3486 : BitVec 32 := Scalar.muli v0 c1_i32_4600
  let v3487 : BitVec 32 := Scalar.addi c0_i32_4601 v3486
  v3487.toNat
def k0_dev184 (v1 : BitVec 32) : Nat :=
  let c0_i32_4615 : BitVec 32 := 0#32
  let c1_i32_4614 : BitVec 32 := 1#32
  let v3494 : BitVec 32 := Scalar.muli v1 c1_i32_4614
  let v3495 : BitVec 32 := Scalar.addi c0_i32_4615 v3494
  v3495.toNat
def k0_dev185 (v0 : BitVec 32) : Nat :=
  let c0_i32_4629 : BitVec 32 := 0#32
  let c1_i32_4628 : BitVec 32 := 1#32
  let v3502 : BitVec 32 := Scalar.muli v0 c1_i32_4628
  let v3503 : BitVec 32 := Scalar.addi c0_i32_4629 v3502
  v3503.toNat
def k0_dev186 (v1 : BitVec 32) : Nat :=
  let c0_i32_4643 : BitVec 32 := 0#32
  let c1_i32_4642 : BitVec 32 := 1#32
  let v3510 : BitVec 32 := Scalar.muli v1 c1_i32_4642
  let v3511 : BitVec 32 := Scalar.addi c0_i32_4643 v3510
  v3511.toNat
def k0_dev187 (v1 : BitVec 32) : Nat :=
  let c0_i32_4663 : BitVec 32 := 0#32
  let c1_i32_4662 : BitVec 32 := 1#32
  let v3520 : BitVec 32 := Scalar.muli v1 c1_i32_4662
  let v3521 : BitVec 32 := Scalar.addi c0_i32_4663 v3520
  v3521.toNat
def k0_dev188 (v0 : BitVec 32) : Nat :=
  let c0_i32_4689 : BitVec 32 := 0#32
  let c1_i32_4688 : BitVec 32 := 1#32
  let v3538 : BitVec 32 := Scalar.muli v0 c1_i32_4688
  let v3539 : BitVec 32 := Scalar.addi c0_i32_4689 v3538
  v3539.toNat
def k0_dev189 (v1 : BitVec 32) : Nat :=
  let c0_i32_4715 : BitVec 32 := 0#32
  let c1_i32_4714 : BitVec 32 := 1#32
  let v3556 : BitVec 32 := Scalar.muli v1 c1_i32_4714
  let v3557 : BitVec 32 := Scalar.addi c0_i32_4715 v3556
  v3557.toNat
def k0_dev190 (v0 : BitVec 32) : Nat :=
  let c0_i32_4741 : BitVec 32 := 0#32
  let c1_i32_4740 : BitVec 32 := 1#32
  let v3574 : BitVec 32 := Scalar.muli v0 c1_i32_4740
  let v3575 : BitVec 32 := Scalar.addi c0_i32_4741 v3574
  v3575.toNat
def k0_dev191 (v1 : BitVec 32) : Nat :=
  let c0_i32_4767 : BitVec 32 := 0#32
  let c1_i32_4766 : BitVec 32 := 1#32
  let v3592 : BitVec 32 := Scalar.muli v1 c1_i32_4766
  let v3593 : BitVec 32 := Scalar.addi c0_i32_4767 v3592
  v3593.toNat
def k0_dev192 (v0 : BitVec 32) : Nat :=
  let c0_i32_4793 : BitVec 32 := 0#32
  let c1_i32_4792 : BitVec 32 := 1#32
  let v3610 : BitVec 32 := Scalar.muli v0 c1_i32_4792
  let v3611 : BitVec 32 := Scalar.addi c0_i32_4793 v3610
  v3611.toNat
def k0_dev193 (v1 : BitVec 32) : Nat :=
  let c0_i32_4819 : BitVec 32 := 0#32
  let c1_i32_4818 : BitVec 32 := 1#32
  let v3628 : BitVec 32 := Scalar.muli v1 c1_i32_4818
  let v3629 : BitVec 32 := Scalar.addi c0_i32_4819 v3628
  v3629.toNat
def k0_dev194 (v0 : BitVec 32) : Nat :=
  let c0_i32_4845 : BitVec 32 := 0#32
  let c1_i32_4844 : BitVec 32 := 1#32
  let v3646 : BitVec 32 := Scalar.muli v0 c1_i32_4844
  let v3647 : BitVec 32 := Scalar.addi c0_i32_4845 v3646
  v3647.toNat
def k0_dev195 (v0 : BitVec 32) : Nat :=
  let c0_i32_4953 : BitVec 32 := 0#32
  let c1_i32_4952 : BitVec 32 := 1#32
  let v3758 : BitVec 32 := Scalar.muli v0 c1_i32_4952
  let v3759 : BitVec 32 := Scalar.addi c0_i32_4953 v3758
  v3759.toNat
def k0_dev196 (v1 : BitVec 32) : Nat :=
  let c0_i32_4967 : BitVec 32 := 0#32
  let c1_i32_4966 : BitVec 32 := 1#32
  let v3766 : BitVec 32 := Scalar.muli v1 c1_i32_4966
  let v3767 : BitVec 32 := Scalar.addi c0_i32_4967 v3766
  v3767.toNat
def k0_dev197 (v0 : BitVec 32) : Nat :=
  let c0_i32_4981 : BitVec 32 := 0#32
  let c1_i32_4980 : BitVec 32 := 1#32
  let v3774 : BitVec 32 := Scalar.muli v0 c1_i32_4980
  let v3775 : BitVec 32 := Scalar.addi c0_i32_4981 v3774
  v3775.toNat
def k0_dev198 (v1 : BitVec 32) : Nat :=
  let c0_i32_4995 : BitVec 32 := 0#32
  let c1_i32_4994 : BitVec 32 := 1#32
  let v3782 : BitVec 32 := Scalar.muli v1 c1_i32_4994
  let v3783 : BitVec 32 := Scalar.addi c0_i32_4995 v3782
  v3783.toNat
def k0_dev199 (v0 : BitVec 32) : Nat :=
  let c0_i32_5009 : BitVec 32 := 0#32
  let c1_i32_5008 : BitVec 32 := 1#32
  let v3790 : BitVec 32 := Scalar.muli v0 c1_i32_5008
  let v3791 : BitVec 32 := Scalar.addi c0_i32_5009 v3790
  v3791.toNat
def k0_dev200 (v1 : BitVec 32) : Nat :=
  let c0_i32_5023 : BitVec 32 := 0#32
  let c1_i32_5022 : BitVec 32 := 1#32
  let v3798 : BitVec 32 := Scalar.muli v1 c1_i32_5022
  let v3799 : BitVec 32 := Scalar.addi c0_i32_5023 v3798
  v3799.toNat
def k0_dev201 (v0 : BitVec 32) : Nat :=
  let c0_i32_5037 : BitVec 32 := 0#32
  let c1_i32_5036 : BitVec 32 := 1#32
  let v3806 : BitVec 32 := Scalar.muli v0 c1_i32_5036
  let v3807 : BitVec 32 := Scalar.addi c0_i32_5037 v3806
  v3807.toNat
def k0_dev202 (v1 : BitVec 32) : Nat :=
  let c0_i32_5051 : BitVec 32 := 0#32
  let c1_i32_5050 : BitVec 32 := 1#32
  let v3814 : BitVec 32 := Scalar.muli v1 c1_i32_5050
  let v3815 : BitVec 32 := Scalar.addi c0_i32_5051 v3814
  v3815.toNat
def k0_dev203 (v1 : BitVec 32) : Nat :=
  let c0_i32_5071 : BitVec 32 := 0#32
  let c1_i32_5070 : BitVec 32 := 1#32
  let v3824 : BitVec 32 := Scalar.muli v1 c1_i32_5070
  let v3825 : BitVec 32 := Scalar.addi c0_i32_5071 v3824
  v3825.toNat
def k0_dev204 (v0 : BitVec 32) : Nat :=
  let c0_i32_5097 : BitVec 32 := 0#32
  let c1_i32_5096 : BitVec 32 := 1#32
  let v3842 : BitVec 32 := Scalar.muli v0 c1_i32_5096
  let v3843 : BitVec 32 := Scalar.addi c0_i32_5097 v3842
  v3843.toNat
def k0_dev205 (v1 : BitVec 32) : Nat :=
  let c0_i32_5123 : BitVec 32 := 0#32
  let c1_i32_5122 : BitVec 32 := 1#32
  let v3860 : BitVec 32 := Scalar.muli v1 c1_i32_5122
  let v3861 : BitVec 32 := Scalar.addi c0_i32_5123 v3860
  v3861.toNat
def k0_dev206 (v0 : BitVec 32) : Nat :=
  let c0_i32_5149 : BitVec 32 := 0#32
  let c1_i32_5148 : BitVec 32 := 1#32
  let v3878 : BitVec 32 := Scalar.muli v0 c1_i32_5148
  let v3879 : BitVec 32 := Scalar.addi c0_i32_5149 v3878
  v3879.toNat
def k0_dev207 (v1 : BitVec 32) : Nat :=
  let c0_i32_5175 : BitVec 32 := 0#32
  let c1_i32_5174 : BitVec 32 := 1#32
  let v3896 : BitVec 32 := Scalar.muli v1 c1_i32_5174
  let v3897 : BitVec 32 := Scalar.addi c0_i32_5175 v3896
  v3897.toNat
def k0_dev208 (v0 : BitVec 32) : Nat :=
  let c0_i32_5201 : BitVec 32 := 0#32
  let c1_i32_5200 : BitVec 32 := 1#32
  let v3914 : BitVec 32 := Scalar.muli v0 c1_i32_5200
  let v3915 : BitVec 32 := Scalar.addi c0_i32_5201 v3914
  v3915.toNat
def k0_dev209 (v1 : BitVec 32) : Nat :=
  let c0_i32_5227 : BitVec 32 := 0#32
  let c1_i32_5226 : BitVec 32 := 1#32
  let v3932 : BitVec 32 := Scalar.muli v1 c1_i32_5226
  let v3933 : BitVec 32 := Scalar.addi c0_i32_5227 v3932
  v3933.toNat
def k0_dev210 (v0 : BitVec 32) : Nat :=
  let c0_i32_5253 : BitVec 32 := 0#32
  let c1_i32_5252 : BitVec 32 := 1#32
  let v3950 : BitVec 32 := Scalar.muli v0 c1_i32_5252
  let v3951 : BitVec 32 := Scalar.addi c0_i32_5253 v3950
  v3951.toNat
def k0_dev211 (v0 : BitVec 32) : Nat :=
  let c0_i32_5361 : BitVec 32 := 0#32
  let c1_i32_5360 : BitVec 32 := 1#32
  let v4062 : BitVec 32 := Scalar.muli v0 c1_i32_5360
  let v4063 : BitVec 32 := Scalar.addi c0_i32_5361 v4062
  v4063.toNat
def k0_dev212 (v1 : BitVec 32) : Nat :=
  let c0_i32_5375 : BitVec 32 := 0#32
  let c1_i32_5374 : BitVec 32 := 1#32
  let v4070 : BitVec 32 := Scalar.muli v1 c1_i32_5374
  let v4071 : BitVec 32 := Scalar.addi c0_i32_5375 v4070
  v4071.toNat
def k0_dev213 (v0 : BitVec 32) : Nat :=
  let c0_i32_5389 : BitVec 32 := 0#32
  let c1_i32_5388 : BitVec 32 := 1#32
  let v4078 : BitVec 32 := Scalar.muli v0 c1_i32_5388
  let v4079 : BitVec 32 := Scalar.addi c0_i32_5389 v4078
  v4079.toNat
def k0_dev214 (v1 : BitVec 32) : Nat :=
  let c0_i32_5403 : BitVec 32 := 0#32
  let c1_i32_5402 : BitVec 32 := 1#32
  let v4086 : BitVec 32 := Scalar.muli v1 c1_i32_5402
  let v4087 : BitVec 32 := Scalar.addi c0_i32_5403 v4086
  v4087.toNat
def k0_dev215 (v0 : BitVec 32) : Nat :=
  let c0_i32_5417 : BitVec 32 := 0#32
  let c1_i32_5416 : BitVec 32 := 1#32
  let v4094 : BitVec 32 := Scalar.muli v0 c1_i32_5416
  let v4095 : BitVec 32 := Scalar.addi c0_i32_5417 v4094
  v4095.toNat
def k0_dev216 (v1 : BitVec 32) : Nat :=
  let c0_i32_5431 : BitVec 32 := 0#32
  let c1_i32_5430 : BitVec 32 := 1#32
  let v4102 : BitVec 32 := Scalar.muli v1 c1_i32_5430
  let v4103 : BitVec 32 := Scalar.addi c0_i32_5431 v4102
  v4103.toNat
def k0_dev217 (v0 : BitVec 32) : Nat :=
  let c0_i32_5445 : BitVec 32 := 0#32
  let c1_i32_5444 : BitVec 32 := 1#32
  let v4110 : BitVec 32 := Scalar.muli v0 c1_i32_5444
  let v4111 : BitVec 32 := Scalar.addi c0_i32_5445 v4110
  v4111.toNat
def k0_dev218 (v1 : BitVec 32) : Nat :=
  let c0_i32_5459 : BitVec 32 := 0#32
  let c1_i32_5458 : BitVec 32 := 1#32
  let v4118 : BitVec 32 := Scalar.muli v1 c1_i32_5458
  let v4119 : BitVec 32 := Scalar.addi c0_i32_5459 v4118
  v4119.toNat
def k0_dev219 (v1 : BitVec 32) : Nat :=
  let c0_i32_5479 : BitVec 32 := 0#32
  let c1_i32_5478 : BitVec 32 := 1#32
  let v4128 : BitVec 32 := Scalar.muli v1 c1_i32_5478
  let v4129 : BitVec 32 := Scalar.addi c0_i32_5479 v4128
  v4129.toNat
def k0_dev220 (v0 : BitVec 32) : Nat :=
  let c0_i32_5505 : BitVec 32 := 0#32
  let c1_i32_5504 : BitVec 32 := 1#32
  let v4146 : BitVec 32 := Scalar.muli v0 c1_i32_5504
  let v4147 : BitVec 32 := Scalar.addi c0_i32_5505 v4146
  v4147.toNat
def k0_dev221 (v1 : BitVec 32) : Nat :=
  let c0_i32_5531 : BitVec 32 := 0#32
  let c1_i32_5530 : BitVec 32 := 1#32
  let v4164 : BitVec 32 := Scalar.muli v1 c1_i32_5530
  let v4165 : BitVec 32 := Scalar.addi c0_i32_5531 v4164
  v4165.toNat
def k0_dev222 (v0 : BitVec 32) : Nat :=
  let c0_i32_5557 : BitVec 32 := 0#32
  let c1_i32_5556 : BitVec 32 := 1#32
  let v4182 : BitVec 32 := Scalar.muli v0 c1_i32_5556
  let v4183 : BitVec 32 := Scalar.addi c0_i32_5557 v4182
  v4183.toNat
def k0_dev223 (v1 : BitVec 32) : Nat :=
  let c0_i32_5583 : BitVec 32 := 0#32
  let c1_i32_5582 : BitVec 32 := 1#32
  let v4200 : BitVec 32 := Scalar.muli v1 c1_i32_5582
  let v4201 : BitVec 32 := Scalar.addi c0_i32_5583 v4200
  v4201.toNat
def k0_dev224 (v0 : BitVec 32) : Nat :=
  let c0_i32_5609 : BitVec 32 := 0#32
  let c1_i32_5608 : BitVec 32 := 1#32
  let v4218 : BitVec 32 := Scalar.muli v0 c1_i32_5608
  let v4219 : BitVec 32 := Scalar.addi c0_i32_5609 v4218
  v4219.toNat
def k0_dev225 (v1 : BitVec 32) : Nat :=
  let c0_i32_5635 : BitVec 32 := 0#32
  let c1_i32_5634 : BitVec 32 := 1#32
  let v4236 : BitVec 32 := Scalar.muli v1 c1_i32_5634
  let v4237 : BitVec 32 := Scalar.addi c0_i32_5635 v4236
  v4237.toNat
def k0_dev226 (v0 : BitVec 32) : Nat :=
  let c0_i32_5661 : BitVec 32 := 0#32
  let c1_i32_5660 : BitVec 32 := 1#32
  let v4254 : BitVec 32 := Scalar.muli v0 c1_i32_5660
  let v4255 : BitVec 32 := Scalar.addi c0_i32_5661 v4254
  v4255.toNat
def k0_dev227 (v0 : BitVec 32) : Nat :=
  let c0_i32_5769 : BitVec 32 := 0#32
  let c1_i32_5768 : BitVec 32 := 1#32
  let v4366 : BitVec 32 := Scalar.muli v0 c1_i32_5768
  let v4367 : BitVec 32 := Scalar.addi c0_i32_5769 v4366
  v4367.toNat
def k0_dev228 (v0 : BitVec 32) : Nat :=
  let c0_i32_5794 : BitVec 32 := 0#32
  let c1_i32_5793 : BitVec 32 := 1#32
  let v4380 : BitVec 32 := Scalar.muli v0 c1_i32_5793
  let v4381 : BitVec 32 := Scalar.addi c0_i32_5794 v4380
  v4381.toNat
def k0_dev229 (v0 : BitVec 32) : Nat :=
  let c0_i32_5819 : BitVec 32 := 0#32
  let c1_i32_5818 : BitVec 32 := 1#32
  let v4394 : BitVec 32 := Scalar.muli v0 c1_i32_5818
  let v4395 : BitVec 32 := Scalar.addi c0_i32_5819 v4394
  v4395.toNat
def k0_dev230 (v0 : BitVec 32) : Nat :=
  let c0_i32_5844 : BitVec 32 := 0#32
  let c1_i32_5843 : BitVec 32 := 1#32
  let v4408 : BitVec 32 := Scalar.muli v0 c1_i32_5843
  let v4409 : BitVec 32 := Scalar.addi c0_i32_5844 v4408
  v4409.toNat

def k0_chk1_0 (v0 : BitVec 32) : Prop :=
  ((k0_dev1 v0) < nD) ∧
  ((k0_dev4 v0) < nD) ∧
  ((k0_dev6 v0) < nD) ∧
  ((k0_dev8 v0) < nD) ∧
  ((k0_dev10 v0) < nD) ∧
  ((k0_dev12 v0) < nD) ∧
  ((k0_dev14 v0) < nD) ∧
  ((k0_dev16 v0) < nD) ∧
  ((k0_dev18 v0) < nD) ∧
  ((k0_dev19 v0) < nD) ∧
  ((k0_dev21 v0) < nD) ∧
  ((k0_dev23 v0) < nD) ∧
  ((k0_dev25 v0) < nD) ∧
  ((k0_dev28 v0) < nD) ∧
  ((k0_dev30 v0) < nD) ∧
  ((k0_dev32 v0) < nD) ∧
  ((k0_dev34 v0) < nD) ∧
  ((k0_dev35 v0) < nD) ∧
  ((k0_dev37 v0) < nD) ∧
  ((k0_dev39 v0) < nD) ∧
  ((k0_dev41 v0) < nD) ∧
  ((k0_dev44 v0) < nD) ∧
  ((k0_dev46 v0) < nD) ∧
  ((k0_dev48 v0) < nD) ∧
  ((k0_dev50 v0) < nD) ∧
  ((k0_dev51 v0) < nD) ∧
  ((k0_dev53 v0) < nD) ∧
  ((k0_dev55 v0) < nD) ∧
  ((k0_dev57 v0) < nD) ∧
  ((k0_dev60 v0) < nD) ∧
  ((k0_dev62 v0) < nD) ∧
  ((k0_dev64 v0) < nD)
def k0_chk1_1 (v0 : BitVec 32) : Prop :=
  ((k0_dev66 v0) < nD) ∧
  ((k0_dev67 v0) < nD) ∧
  ((k0_dev69 v0) < nD) ∧
  ((k0_dev71 v0) < nD) ∧
  ((k0_dev73 v0) < nD) ∧
  ((k0_dev76 v0) < nD) ∧
  ((k0_dev78 v0) < nD) ∧
  ((k0_dev80 v0) < nD) ∧
  ((k0_dev82 v0) < nD) ∧
  ((k0_dev83 v0) < nD) ∧
  ((k0_dev85 v0) < nD) ∧
  ((k0_dev87 v0) < nD) ∧
  ((k0_dev89 v0) < nD) ∧
  ((k0_dev92 v0) < nD) ∧
  ((k0_dev94 v0) < nD) ∧
  ((k0_dev96 v0) < nD) ∧
  ((k0_dev98 v0) < nD) ∧
  ((k0_dev99 v0) < nD) ∧
  ((k0_dev101 v0) < nD) ∧
  ((k0_dev103 v0) < nD) ∧
  ((k0_dev105 v0) < nD) ∧
  ((k0_dev108 v0) < nD) ∧
  ((k0_dev110 v0) < nD) ∧
  ((k0_dev112 v0) < nD) ∧
  ((k0_dev114 v0) < nD) ∧
  ((k0_dev115 v0) < nD) ∧
  ((k0_dev117 v0) < nD) ∧
  ((k0_dev119 v0) < nD) ∧
  ((k0_dev121 v0) < nD) ∧
  ((k0_dev124 v0) < nD) ∧
  ((k0_dev126 v0) < nD) ∧
  ((k0_dev128 v0) < nD)
def k0_chk1_2 (v0 : BitVec 32) : Prop :=
  ((k0_dev130 v0) < nD) ∧
  ((k0_dev131 v0) < nD) ∧
  ((k0_dev133 v0) < nD) ∧
  ((k0_dev135 v0) < nD) ∧
  ((k0_dev137 v0) < nD) ∧
  ((k0_dev140 v0) < nD) ∧
  ((k0_dev142 v0) < nD) ∧
  ((k0_dev144 v0) < nD) ∧
  ((k0_dev146 v0) < nD) ∧
  ((k0_dev147 v0) < nD) ∧
  ((k0_dev149 v0) < nD) ∧
  ((k0_dev151 v0) < nD) ∧
  ((k0_dev153 v0) < nD) ∧
  ((k0_dev156 v0) < nD) ∧
  ((k0_dev158 v0) < nD) ∧
  ((k0_dev160 v0) < nD) ∧
  ((k0_dev162 v0) < nD) ∧
  ((k0_dev163 v0) < nD) ∧
  ((k0_dev165 v0) < nD) ∧
  ((k0_dev167 v0) < nD) ∧
  ((k0_dev169 v0) < nD) ∧
  ((k0_dev172 v0) < nD) ∧
  ((k0_dev174 v0) < nD) ∧
  ((k0_dev176 v0) < nD) ∧
  ((k0_dev178 v0) < nD) ∧
  ((k0_dev179 v0) < nD) ∧
  ((k0_dev181 v0) < nD) ∧
  ((k0_dev183 v0) < nD) ∧
  ((k0_dev185 v0) < nD) ∧
  ((k0_dev188 v0) < nD) ∧
  ((k0_dev190 v0) < nD) ∧
  ((k0_dev192 v0) < nD)
def k0_chk1_3 (v0 : BitVec 32) : Prop :=
  ((k0_dev194 v0) < nD) ∧
  ((k0_dev195 v0) < nD) ∧
  ((k0_dev197 v0) < nD) ∧
  ((k0_dev199 v0) < nD) ∧
  ((k0_dev201 v0) < nD) ∧
  ((k0_dev204 v0) < nD) ∧
  ((k0_dev206 v0) < nD) ∧
  ((k0_dev208 v0) < nD) ∧
  ((k0_dev210 v0) < nD) ∧
  ((k0_dev211 v0) < nD) ∧
  ((k0_dev213 v0) < nD) ∧
  ((k0_dev215 v0) < nD) ∧
  ((k0_dev217 v0) < nD) ∧
  ((k0_dev220 v0) < nD) ∧
  ((k0_dev222 v0) < nD) ∧
  ((k0_dev224 v0) < nD) ∧
  ((k0_dev226 v0) < nD) ∧
  ((k0_dev227 v0) < nD) ∧
  ((k0_dev228 v0) < nD) ∧
  ((k0_dev229 v0) < nD) ∧
  ((k0_dev230 v0) < nD)
def k0_chk1 (v0 : BitVec 32) : Prop :=
  k0_chk1_0 v0 ∧
  k0_chk1_1 v0 ∧
  k0_chk1_2 v0 ∧
  k0_chk1_3 v0
theorem k0_dev1_lt : ∀ (v0 : BitVec 32) (k0_hw1 : k0_chk1 v0), (k0_dev1 v0) < nD := fun v0 k0_hw1 => k0_hw1.1.1
theorem k0_dev4_lt : ∀ (v0 : BitVec 32) (k0_hw1 : k0_chk1 v0), (k0_dev4 v0) < nD := fun v0 k0_hw1 => k0_hw1.1.2.1
theorem k0_dev6_lt : ∀ (v0 : BitVec 32) (k0_hw1 : k0_chk1 v0), (k0_dev6 v0) < nD := fun v0 k0_hw1 => k0_hw1.1.2.2.1
theorem k0_dev8_lt : ∀ (v0 : BitVec 32) (k0_hw1 : k0_chk1 v0), (k0_dev8 v0) < nD := fun v0 k0_hw1 => k0_hw1.1.2.2.2.1
theorem k0_dev10_lt : ∀ (v0 : BitVec 32) (k0_hw1 : k0_chk1 v0), (k0_dev10 v0) < nD := fun v0 k0_hw1 => k0_hw1.1.2.2.2.2.1
theorem k0_dev12_lt : ∀ (v0 : BitVec 32) (k0_hw1 : k0_chk1 v0), (k0_dev12 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev16_lt : ∀ (v0 : BitVec 32) (k0_hw1 : k0_chk1 v0), (k0_dev16 v0) < nD := fun v0 k0_hw1 => k0_hw1.1.2.2.2.2.2.2.2.1
theorem k0_dev18_lt : ∀ (v0 : BitVec 32) (k0_hw1 : k0_chk1 v0), (k0_dev18 v0) < nD := fun v0 k0_hw1 => k0_hw1.1.2.2.2.2.2.2.2.2.1
theorem k0_dev19_lt : ∀ (v0 : BitVec 32) (k0_hw1 : k0_chk1 v0), (k0_dev19 v0) < nD := fun v0 k0_hw1 => k0_hw1.1.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.1
theorem k0_dev34_lt : ∀ (v0 : BitVec 32) (k0_hw1 : k0_chk1 v0), (k0_dev34 v0) < nD := fun v0 k0_hw1 => k0_hw1.1.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev48_lt : ∀ (v0 : BitVec 32) (k0_hw1 : k0_chk1 v0), (k0_dev48 v0) < nD := fun v0 k0_hw1 => k0_hw1.1.2.2.2.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.1.2.2.2.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.1.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev64_lt : ∀ (v0 : BitVec 32) (k0_hw1 : k0_chk1 v0), (k0_dev64 v0) < nD := fun v0 k0_hw1 => k0_hw1.1.2.2.2.2.2.2.2.2.2.2.2.2.2.2.2.2.2.2.2.2.2.2.2.2.2.2.2.2.2.2.2
theorem k0_dev66_lt : ∀ (v0 : BitVec 32) (k0_hw1 : k0_chk1 v0), (k0_dev66 v0) < nD := fun v0 k0_hw1 => k0_hw1.2.1.1
theorem k0_dev67_lt : ∀ (v0 : BitVec 32) (k0_hw1 : k0_chk1 v0), (k0_dev67 v0) < nD := fun v0 k0_hw1 => k0_hw1.2.1.2.1
theorem k0_dev69_lt : ∀ (v0 : BitVec 32) (k0_hw1 : k0_chk1 v0), (k0_dev69 v0) < nD := fun v0 k0_hw1 => k0_hw1.2.1.2.2.1
theorem k0_dev71_lt : ∀ (v0 : BitVec 32) (k0_hw1 : k0_chk1 v0), (k0_dev71 v0) < nD := fun v0 k0_hw1 => k0_hw1.2.1.2.2.2.1
theorem k0_dev73_lt : ∀ (v0 : BitVec 32) (k0_hw1 : k0_chk1 v0), (k0_dev73 v0) < nD := fun v0 k0_hw1 => k0_hw1.2.1.2.2.2.2.1
theorem k0_dev76_lt : ∀ (v0 : BitVec 32) (k0_hw1 : k0_chk1 v0), (k0_dev76 v0) < nD := fun v0 k0_hw1 => k0_hw1.2.1.2.2.2.2.2.1
theorem k0_dev78_lt : ∀ (v0 : BitVec 32) (k0_hw1 : k0_chk1 v0), (k0_dev78 v0) < nD := fun v0 k0_hw1 => k0_hw1.2.1.2.2.2.2.2.2.1
theorem k0_dev80_lt : ∀ (v0 : BitVec 32) (k0_hw1 : k0_chk1 v0), (k0_dev80 v0) < nD := fun v0 k0_hw1 => k0_hw1.2.1.2.2.2.2.2.2.2.1
theorem k0_dev82_lt : ∀ (v0 : BitVec 32) (k0_hw1 : k0_chk1 v0), (k0_dev82 v0) < nD := fun v0 k0_hw1 => k0_hw1.2.1.2.2.2.2.2.2.2.2.1
theorem k0_dev83_lt : ∀ (v0 : BitVec 32) (k0_hw1 : k0_chk1 v0), (k0_dev83 v0) < nD := fun v0 k0_hw1 => k0_hw1.2.1.2.2.2.2.2.2.2.2.2.1
theorem k0_dev85_lt : ∀ (v0 : BitVec 32) (k0_hw1 : k0_chk1 v0), (k0_dev85 v0) < nD := fun v0 k0_hw1 => k0_hw1.2.1.2.2.2.2.2.2.2.2.2.2.1
theorem k0_dev87_lt : ∀ (v0 : BitVec 32) (k0_hw1 : k0_chk1 v0), (k0_dev87 v0) < nD := fun v0 k0_hw1 => k0_hw1.2.1.2.2.2.2.2.2.2.2.2.2.2.1
theorem k0_dev89_lt : ∀ (v0 : BitVec 32) (k0_hw1 : k0_chk1 v0), (k0_dev89 v0) < nD := fun v0 k0_hw1 => k0_hw1.2.1.2.2.2.2.2.2.2.2.2.2.2.2.1
theorem k0_dev92_lt : ∀ (v0 : BitVec 32) (k0_hw1 : k0_chk1 v0), (k0_dev92 v0) < nD := fun v0 k0_hw1 => k0_hw1.2.1.2.2.2.2.2.2.2.2.2.2.2.2.2.1
theorem k0_dev94_lt : ∀ (v0 : BitVec 32) (k0_hw1 : k0_chk1 v0), (k0_dev94 v0) < nD := fun v0 k0_hw1 => k0_hw1.2.1.2.2.2.2.2.2.2.2.2.2.2.2.2.2.1
theorem k0_dev96_lt : ∀ (v0 : BitVec 32) (k0_hw1 : k0_chk1 v0), (k0_dev96 v0) < nD := fun v0 k0_hw1 => k0_hw1.2.1.2.2.2.2.2.2.2.2.2.2.2.2.2.2.2.1
theorem k0_dev98_lt : ∀ (v0 : BitVec 32) (k0_hw1 : k0_chk1 v0), (k0_dev98 v0) < nD := fun v0 k0_hw1 => k0_hw1.2.1.2.2.2.2.2.2.2.2.2.2.2.2.2.2.2.2.1
theorem k0_dev99_lt : ∀ (v0 : BitVec 32) (k0_hw1 : k0_chk1 v0), (k0_dev99 v0) < nD := fun v0 k0_hw1 => k0_hw1.2.1.2.2.2.2.2.2.2.2.2.2.2.2.2.2.2.2.2.1
theorem k0_dev101_lt : ∀ (v0 : BitVec 32) (k0_hw1 : k0_chk1 v0), (k0_dev101 v0) < nD := fun v0 k0_hw1 => k0_hw1.2.1.2.2.2.2.2.2.2.2.2.2.2.2.2.2.2.2.2.2.1
theorem k0_dev103_lt : ∀ (v0 : BitVec 32) (k0_hw1 : k0_chk1 v0), (k0_dev103 v0) < nD := fun v0 k0_hw1 => k0_hw1.2.1.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.1.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.1.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.1.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.1.2.2.2.2.2.2.2.2.2.2.2.2.2.2.2.2.2.2.2.2.2.2.2.1
theorem k0_dev114_lt : ∀ (v0 : BitVec 32) (k0_hw1 : k0_chk1 v0), (k0_dev114 v0) < nD := fun v0 k0_hw1 => k0_hw1.2.1.2.2.2.2.2.2.2.2.2.2.2.2.2.2.2.2.2.2.2.2.2.2.2.2.1
theorem k0_dev115_lt : ∀ (v0 : BitVec 32) (k0_hw1 : k0_chk1 v0), (k0_dev115 v0) < nD := fun v0 k0_hw1 => k0_hw1.2.1.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.1.2.2.2.2.2.2.2.2.2.2.2.2.2.2.2.2.2.2.2.2.2.2.2.2.2.2.1
theorem k0_dev119_lt : ∀ (v0 : BitVec 32) (k0_hw1 : k0_chk1 v0), (k0_dev119 v0) < nD := fun v0 k0_hw1 => k0_hw1.2.1.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.1.2.2.2.2.2.2.2.2.2.2.2.2.2.2.2.2.2.2.2.2.2.2.2.2.2.2.2.2.1
theorem k0_dev124_lt : ∀ (v0 : BitVec 32) (k0_hw1 : k0_chk1 v0), (k0_dev124 v0) < nD := fun v0 k0_hw1 => k0_hw1.2.1.2.2.2.2.2.2.2.2.2.2.2.2.2.2.2.2.2.2.2.2.2.2.2.2.2.2.2.2.2.1
theorem k0_dev126_lt : ∀ (v0 : BitVec 32) (k0_hw1 : k0_chk1 v0), (k0_dev126 v0) < nD := fun v0 k0_hw1 => k0_hw1.2.1.2.2.2.2.2.2.2.2.2.2.2.2.2.2.2.2.2.2.2.2.2.2.2.2.2.2.2.2.2.2.1
theorem k0_dev128_lt : ∀ (v0 : BitVec 32) (k0_hw1 : k0_chk1 v0), (k0_dev128 v0) < nD := fun v0 k0_hw1 => k0_hw1.2.1.2.2.2.2.2.2.2.2.2.2.2.2.2.2.2.2.2.2.2.2.2.2.2.2.2.2.2.2.2.2.2
theorem k0_dev130_lt : ∀ (v0 : BitVec 32) (k0_hw1 : k0_chk1 v0), (k0_dev130 v0) < nD := fun v0 k0_hw1 => k0_hw1.2.2.1.1
theorem k0_dev131_lt : ∀ (v0 : BitVec 32) (k0_hw1 : k0_chk1 v0), (k0_dev131 v0) < nD := fun v0 k0_hw1 => k0_hw1.2.2.1.2.1
theorem k0_dev133_lt : ∀ (v0 : BitVec 32) (k0_hw1 : k0_chk1 v0), (k0_dev133 v0) < nD := fun v0 k0_hw1 => k0_hw1.2.2.1.2.2.1
theorem k0_dev135_lt : ∀ (v0 : BitVec 32) (k0_hw1 : k0_chk1 v0), (k0_dev135 v0) < nD := fun v0 k0_hw1 => k0_hw1.2.2.1.2.2.2.1
theorem k0_dev137_lt : ∀ (v0 : BitVec 32) (k0_hw1 : k0_chk1 v0), (k0_dev137 v0) < nD := fun v0 k0_hw1 => k0_hw1.2.2.1.2.2.2.2.1
theorem k0_dev140_lt : ∀ (v0 : BitVec 32) (k0_hw1 : k0_chk1 v0), (k0_dev140 v0) < nD := fun v0 k0_hw1 => k0_hw1.2.2.1.2.2.2.2.2.1
theorem k0_dev142_lt : ∀ (v0 : BitVec 32) (k0_hw1 : k0_chk1 v0), (k0_dev142 v0) < nD := fun v0 k0_hw1 => k0_hw1.2.2.1.2.2.2.2.2.2.1
theorem k0_dev144_lt : ∀ (v0 : BitVec 32) (k0_hw1 : k0_chk1 v0), (k0_dev144 v0) < nD := fun v0 k0_hw1 => k0_hw1.2.2.1.2.2.2.2.2.2.2.1
theorem k0_dev146_lt : ∀ (v0 : BitVec 32) (k0_hw1 : k0_chk1 v0), (k0_dev146 v0) < nD := fun v0 k0_hw1 => k0_hw1.2.2.1.2.2.2.2.2.2.2.2.1
theorem k0_dev147_lt : ∀ (v0 : BitVec 32) (k0_hw1 : k0_chk1 v0), (k0_dev147 v0) < nD := fun v0 k0_hw1 => k0_hw1.2.2.1.2.2.2.2.2.2.2.2.2.1
theorem k0_dev149_lt : ∀ (v0 : BitVec 32) (k0_hw1 : k0_chk1 v0), (k0_dev149 v0) < nD := fun v0 k0_hw1 => k0_hw1.2.2.1.2.2.2.2.2.2.2.2.2.2.1
theorem k0_dev151_lt : ∀ (v0 : BitVec 32) (k0_hw1 : k0_chk1 v0), (k0_dev151 v0) < nD := fun v0 k0_hw1 => k0_hw1.2.2.1.2.2.2.2.2.2.2.2.2.2.2.1
theorem k0_dev153_lt : ∀ (v0 : BitVec 32) (k0_hw1 : k0_chk1 v0), (k0_dev153 v0) < nD := fun v0 k0_hw1 => k0_hw1.2.2.1.2.2.2.2.2.2.2.2.2.2.2.2.1
theorem k0_dev156_lt : ∀ (v0 : BitVec 32) (k0_hw1 : k0_chk1 v0), (k0_dev156 v0) < nD := fun v0 k0_hw1 => k0_hw1.2.2.1.2.2.2.2.2.2.2.2.2.2.2.2.2.1
theorem k0_dev158_lt : ∀ (v0 : BitVec 32) (k0_hw1 : k0_chk1 v0), (k0_dev158 v0) < nD := fun v0 k0_hw1 => k0_hw1.2.2.1.2.2.2.2.2.2.2.2.2.2.2.2.2.2.1
theorem k0_dev160_lt : ∀ (v0 : BitVec 32) (k0_hw1 : k0_chk1 v0), (k0_dev160 v0) < nD := fun v0 k0_hw1 => k0_hw1.2.2.1.2.2.2.2.2.2.2.2.2.2.2.2.2.2.2.1
theorem k0_dev162_lt : ∀ (v0 : BitVec 32) (k0_hw1 : k0_chk1 v0), (k0_dev162 v0) < nD := fun v0 k0_hw1 => k0_hw1.2.2.1.2.2.2.2.2.2.2.2.2.2.2.2.2.2.2.2.1
theorem k0_dev163_lt : ∀ (v0 : BitVec 32) (k0_hw1 : k0_chk1 v0), (k0_dev163 v0) < nD := fun v0 k0_hw1 => k0_hw1.2.2.1.2.2.2.2.2.2.2.2.2.2.2.2.2.2.2.2.2.1
theorem k0_dev165_lt : ∀ (v0 : BitVec 32) (k0_hw1 : k0_chk1 v0), (k0_dev165 v0) < nD := fun v0 k0_hw1 => k0_hw1.2.2.1.2.2.2.2.2.2.2.2.2.2.2.2.2.2.2.2.2.2.1
theorem k0_dev167_lt : ∀ (v0 : BitVec 32) (k0_hw1 : k0_chk1 v0), (k0_dev167 v0) < nD := fun v0 k0_hw1 => k0_hw1.2.2.1.2.2.2.2.2.2.2.2.2.2.2.2.2.2.2.2.2.2.2.1
theorem k0_dev169_lt : ∀ (v0 : BitVec 32) (k0_hw1 : k0_chk1 v0), (k0_dev169 v0) < nD := fun v0 k0_hw1 => k0_hw1.2.2.1.2.2.2.2.2.2.2.2.2.2.2.2.2.2.2.2.2.2.2.2.1
theorem k0_dev172_lt : ∀ (v0 : BitVec 32) (k0_hw1 : k0_chk1 v0), (k0_dev172 v0) < nD := fun v0 k0_hw1 => k0_hw1.2.2.1.2.2.2.2.2.2.2.2.2.2.2.2.2.2.2.2.2.2.2.2.2.1
theorem k0_dev174_lt : ∀ (v0 : BitVec 32) (k0_hw1 : k0_chk1 v0), (k0_dev174 v0) < nD := fun v0 k0_hw1 => k0_hw1.2.2.1.2.2.2.2.2.2.2.2.2.2.2.2.2.2.2.2.2.2.2.2.2.2.1
theorem k0_dev176_lt : ∀ (v0 : BitVec 32) (k0_hw1 : k0_chk1 v0), (k0_dev176 v0) < nD := fun v0 k0_hw1 => k0_hw1.2.2.1.2.2.2.2.2.2.2.2.2.2.2.2.2.2.2.2.2.2.2.2.2.2.2.1
theorem k0_dev178_lt : ∀ (v0 : BitVec 32) (k0_hw1 : k0_chk1 v0), (k0_dev178 v0) < nD := fun v0 k0_hw1 => k0_hw1.2.2.1.2.2.2.2.2.2.2.2.2.2.2.2.2.2.2.2.2.2.2.2.2.2.2.2.1
theorem k0_dev179_lt : ∀ (v0 : BitVec 32) (k0_hw1 : k0_chk1 v0), (k0_dev179 v0) < nD := fun v0 k0_hw1 => k0_hw1.2.2.1.2.2.2.2.2.2.2.2.2.2.2.2.2.2.2.2.2.2.2.2.2.2.2.2.2.1
theorem k0_dev181_lt : ∀ (v0 : BitVec 32) (k0_hw1 : k0_chk1 v0), (k0_dev181 v0) < nD := fun v0 k0_hw1 => k0_hw1.2.2.1.2.2.2.2.2.2.2.2.2.2.2.2.2.2.2.2.2.2.2.2.2.2.2.2.2.2.1
theorem k0_dev183_lt : ∀ (v0 : BitVec 32) (k0_hw1 : k0_chk1 v0), (k0_dev183 v0) < nD := fun v0 k0_hw1 => k0_hw1.2.2.1.2.2.2.2.2.2.2.2.2.2.2.2.2.2.2.2.2.2.2.2.2.2.2.2.2.2.2.1
theorem k0_dev185_lt : ∀ (v0 : BitVec 32) (k0_hw1 : k0_chk1 v0), (k0_dev185 v0) < nD := fun v0 k0_hw1 => k0_hw1.2.2.1.2.2.2.2.2.2.2.2.2.2.2.2.2.2.2.2.2.2.2.2.2.2.2.2.2.2.2.2.1
theorem k0_dev188_lt : ∀ (v0 : BitVec 32) (k0_hw1 : k0_chk1 v0), (k0_dev188 v0) < nD := fun v0 k0_hw1 => k0_hw1.2.2.1.2.2.2.2.2.2.2.2.2.2.2.2.2.2.2.2.2.2.2.2.2.2.2.2.2.2.2.2.2.1
theorem k0_dev190_lt : ∀ (v0 : BitVec 32) (k0_hw1 : k0_chk1 v0), (k0_dev190 v0) < nD := fun v0 k0_hw1 => k0_hw1.2.2.1.2.2.2.2.2.2.2.2.2.2.2.2.2.2.2.2.2.2.2.2.2.2.2.2.2.2.2.2.2.2.1
theorem k0_dev192_lt : ∀ (v0 : BitVec 32) (k0_hw1 : k0_chk1 v0), (k0_dev192 v0) < nD := fun v0 k0_hw1 => k0_hw1.2.2.1.2.2.2.2.2.2.2.2.2.2.2.2.2.2.2.2.2.2.2.2.2.2.2.2.2.2.2.2.2.2.2
theorem k0_dev194_lt : ∀ (v0 : BitVec 32) (k0_hw1 : k0_chk1 v0), (k0_dev194 v0) < nD := fun v0 k0_hw1 => k0_hw1.2.2.2.1
theorem k0_dev195_lt : ∀ (v0 : BitVec 32) (k0_hw1 : k0_chk1 v0), (k0_dev195 v0) < nD := fun v0 k0_hw1 => k0_hw1.2.2.2.2.1
theorem k0_dev197_lt : ∀ (v0 : BitVec 32) (k0_hw1 : k0_chk1 v0), (k0_dev197 v0) < nD := fun v0 k0_hw1 => k0_hw1.2.2.2.2.2.1
theorem k0_dev199_lt : ∀ (v0 : BitVec 32) (k0_hw1 : k0_chk1 v0), (k0_dev199 v0) < nD := fun v0 k0_hw1 => k0_hw1.2.2.2.2.2.2.1
theorem k0_dev201_lt : ∀ (v0 : BitVec 32) (k0_hw1 : k0_chk1 v0), (k0_dev201 v0) < nD := fun v0 k0_hw1 => k0_hw1.2.2.2.2.2.2.2.1
theorem k0_dev204_lt : ∀ (v0 : BitVec 32) (k0_hw1 : k0_chk1 v0), (k0_dev204 v0) < nD := fun v0 k0_hw1 => k0_hw1.2.2.2.2.2.2.2.2.1
theorem k0_dev206_lt : ∀ (v0 : BitVec 32) (k0_hw1 : k0_chk1 v0), (k0_dev206 v0) < nD := fun v0 k0_hw1 => k0_hw1.2.2.2.2.2.2.2.2.2.1
theorem k0_dev208_lt : ∀ (v0 : BitVec 32) (k0_hw1 : k0_chk1 v0), (k0_dev208 v0) < nD := fun v0 k0_hw1 => k0_hw1.2.2.2.2.2.2.2.2.2.2.1
theorem k0_dev210_lt : ∀ (v0 : BitVec 32) (k0_hw1 : k0_chk1 v0), (k0_dev210 v0) < nD := fun v0 k0_hw1 => k0_hw1.2.2.2.2.2.2.2.2.2.2.2.1
theorem k0_dev211_lt : ∀ (v0 : BitVec 32) (k0_hw1 : k0_chk1 v0), (k0_dev211 v0) < nD := fun v0 k0_hw1 => k0_hw1.2.2.2.2.2.2.2.2.2.2.2.2.1
theorem k0_dev213_lt : ∀ (v0 : BitVec 32) (k0_hw1 : k0_chk1 v0), (k0_dev213 v0) < nD := fun v0 k0_hw1 => k0_hw1.2.2.2.2.2.2.2.2.2.2.2.2.2.1
theorem k0_dev215_lt : ∀ (v0 : BitVec 32) (k0_hw1 : k0_chk1 v0), (k0_dev215 v0) < nD := fun v0 k0_hw1 => k0_hw1.2.2.2.2.2.2.2.2.2.2.2.2.2.2.1
theorem k0_dev217_lt : ∀ (v0 : BitVec 32) (k0_hw1 : k0_chk1 v0), (k0_dev217 v0) < nD := fun v0 k0_hw1 => k0_hw1.2.2.2.2.2.2.2.2.2.2.2.2.2.2.2.1
theorem k0_dev220_lt : ∀ (v0 : BitVec 32) (k0_hw1 : k0_chk1 v0), (k0_dev220 v0) < nD := fun v0 k0_hw1 => k0_hw1.2.2.2.2.2.2.2.2.2.2.2.2.2.2.2.2.1
theorem k0_dev222_lt : ∀ (v0 : BitVec 32) (k0_hw1 : k0_chk1 v0), (k0_dev222 v0) < nD := fun v0 k0_hw1 => k0_hw1.2.2.2.2.2.2.2.2.2.2.2.2.2.2.2.2.2.1
theorem k0_dev224_lt : ∀ (v0 : BitVec 32) (k0_hw1 : k0_chk1 v0), (k0_dev224 v0) < nD := fun v0 k0_hw1 => k0_hw1.2.2.2.2.2.2.2.2.2.2.2.2.2.2.2.2.2.2.1
theorem k0_dev226_lt : ∀ (v0 : BitVec 32) (k0_hw1 : k0_chk1 v0), (k0_dev226 v0) < nD := fun v0 k0_hw1 => k0_hw1.2.2.2.2.2.2.2.2.2.2.2.2.2.2.2.2.2.2.2.1
theorem k0_dev227_lt : ∀ (v0 : BitVec 32) (k0_hw1 : k0_chk1 v0), (k0_dev227 v0) < nD := fun v0 k0_hw1 => k0_hw1.2.2.2.2.2.2.2.2.2.2.2.2.2.2.2.2.2.2.2.2.1
theorem k0_dev228_lt : ∀ (v0 : BitVec 32) (k0_hw1 : k0_chk1 v0), (k0_dev228 v0) < nD := fun v0 k0_hw1 => k0_hw1.2.2.2.2.2.2.2.2.2.2.2.2.2.2.2.2.2.2.2.2.2.1
theorem k0_dev229_lt : ∀ (v0 : BitVec 32) (k0_hw1 : k0_chk1 v0), (k0_dev229 v0) < nD := fun v0 k0_hw1 => k0_hw1.2.2.2.2.2.2.2.2.2.2.2.2.2.2.2.2.2.2.2.2.2.2.1
theorem k0_dev230_lt : ∀ (v0 : BitVec 32) (k0_hw1 : k0_chk1 v0), (k0_dev230 v0) < nD := fun v0 k0_hw1 => k0_hw1.2.2.2.2.2.2.2.2.2.2.2.2.2.2.2.2.2.2.2.2.2.2.2

def k0_dev231 (v1 : BitVec 32) : Nat :=
  let c0_i32_5875 : BitVec 32 := 0#32
  let c1_i32_5874 : BitVec 32 := 1#32
  let v4424 : BitVec 32 := Scalar.muli v1 c1_i32_5874
  let v4425 : BitVec 32 := Scalar.addi c0_i32_5875 v4424
  v4425.toNat
def k0_dev232 (v1 : BitVec 32) : Nat :=
  let c0_i32_5913 : BitVec 32 := 0#32
  let c1_i32_5912 : BitVec 32 := 1#32
  let v4450 : BitVec 32 := Scalar.muli v1 c1_i32_5912
  let v4451 : BitVec 32 := Scalar.addi c0_i32_5913 v4450
  v4451.toNat
def k0_dev233 (v1 : BitVec 32) : Nat :=
  let c0_i32_5951 : BitVec 32 := 0#32
  let c1_i32_5950 : BitVec 32 := 1#32
  let v4476 : BitVec 32 := Scalar.muli v1 c1_i32_5950
  let v4477 : BitVec 32 := Scalar.addi c0_i32_5951 v4476
  v4477.toNat
def k0_dev234 (v1 : BitVec 32) : Nat :=
  let c0_i32_5989 : BitVec 32 := 0#32
  let c1_i32_5988 : BitVec 32 := 1#32
  let v4502 : BitVec 32 := Scalar.muli v1 c1_i32_5988
  let v4503 : BitVec 32 := Scalar.addi c0_i32_5989 v4502
  v4503.toNat

def k0_chk2_0 (v1 : BitVec 32) : Prop :=
  ((k0_dev2 v1) < nD) ∧
  ((k0_dev3 v1) < nD) ∧
  ((k0_dev5 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev20 v1) < nD) ∧
  ((k0_dev22 v1) < nD) ∧
  ((k0_dev24 v1) < nD) ∧
  ((k0_dev26 v1) < nD) ∧
  ((k0_dev27 v1) < nD) ∧
  ((k0_dev29 v1) < nD) ∧
  ((k0_dev31 v1) < nD) ∧
  ((k0_dev33 v1) < nD) ∧
  ((k0_dev36 v1) < nD) ∧
  ((k0_dev38 v1) < nD) ∧
  ((k0_dev40 v1) < nD) ∧
  ((k0_dev42 v1) < nD) ∧
  ((k0_dev43 v1) < nD) ∧
  ((k0_dev45 v1) < nD) ∧
  ((k0_dev47 v1) < nD) ∧
  ((k0_dev49 v1) < nD) ∧
  ((k0_dev52 v1) < nD) ∧
  ((k0_dev54 v1) < nD) ∧
  ((k0_dev56 v1) < nD) ∧
  ((k0_dev58 v1) < nD) ∧
  ((k0_dev59 v1) < nD) ∧
  ((k0_dev61 v1) < nD) ∧
  ((k0_dev63 v1) < nD)
def k0_chk2_1 (v1 : BitVec 32) : Prop :=
  ((k0_dev65 v1) < nD) ∧
  ((k0_dev68 v1) < nD) ∧
  ((k0_dev70 v1) < nD) ∧
  ((k0_dev72 v1) < nD) ∧
  ((k0_dev74 v1) < nD) ∧
  ((k0_dev75 v1) < nD) ∧
  ((k0_dev77 v1) < nD) ∧
  ((k0_dev79 v1) < nD) ∧
  ((k0_dev81 v1) < nD) ∧
  ((k0_dev84 v1) < nD) ∧
  ((k0_dev86 v1) < nD) ∧
  ((k0_dev88 v1) < nD) ∧
  ((k0_dev90 v1) < nD) ∧
  ((k0_dev91 v1) < nD) ∧
  ((k0_dev93 v1) < nD) ∧
  ((k0_dev95 v1) < nD) ∧
  ((k0_dev97 v1) < nD) ∧
  ((k0_dev100 v1) < nD) ∧
  ((k0_dev102 v1) < nD) ∧
  ((k0_dev104 v1) < nD) ∧
  ((k0_dev106 v1) < nD) ∧
  ((k0_dev107 v1) < nD) ∧
  ((k0_dev109 v1) < nD) ∧
  ((k0_dev111 v1) < nD) ∧
  ((k0_dev113 v1) < nD) ∧
  ((k0_dev116 v1) < nD) ∧
  ((k0_dev118 v1) < nD) ∧
  ((k0_dev120 v1) < nD) ∧
  ((k0_dev122 v1) < nD) ∧
  ((k0_dev123 v1) < nD) ∧
  ((k0_dev125 v1) < nD) ∧
  ((k0_dev127 v1) < nD)
def k0_chk2_2 (v1 : BitVec 32) : Prop :=
  ((k0_dev129 v1) < nD) ∧
  ((k0_dev132 v1) < nD) ∧
  ((k0_dev134 v1) < nD) ∧
  ((k0_dev136 v1) < nD) ∧
  ((k0_dev138 v1) < nD) ∧
  ((k0_dev139 v1) < nD) ∧
  ((k0_dev141 v1) < nD) ∧
  ((k0_dev143 v1) < nD) ∧
  ((k0_dev145 v1) < nD) ∧
  ((k0_dev148 v1) < nD) ∧
  ((k0_dev150 v1) < nD) ∧
  ((k0_dev152 v1) < nD) ∧
  ((k0_dev154 v1) < nD) ∧
  ((k0_dev155 v1) < nD) ∧
  ((k0_dev157 v1) < nD) ∧
  ((k0_dev159 v1) < nD) ∧
  ((k0_dev161 v1) < nD) ∧
  ((k0_dev164 v1) < nD) ∧
  ((k0_dev166 v1) < nD) ∧
  ((k0_dev168 v1) < nD) ∧
  ((k0_dev170 v1) < nD) ∧
  ((k0_dev171 v1) < nD) ∧
  ((k0_dev173 v1) < nD) ∧
  ((k0_dev175 v1) < nD) ∧
  ((k0_dev177 v1) < nD) ∧
  ((k0_dev180 v1) < nD) ∧
  ((k0_dev182 v1) < nD) ∧
  ((k0_dev184 v1) < nD) ∧
  ((k0_dev186 v1) < nD) ∧
  ((k0_dev187 v1) < nD) ∧
  ((k0_dev189 v1) < nD) ∧
  ((k0_dev191 v1) < nD)
def k0_chk2_3 (v1 : BitVec 32) : Prop :=
  ((k0_dev193 v1) < nD) ∧
  ((k0_dev196 v1) < nD) ∧
  ((k0_dev198 v1) < nD) ∧
  ((k0_dev200 v1) < nD) ∧
  ((k0_dev202 v1) < nD) ∧
  ((k0_dev203 v1) < nD) ∧
  ((k0_dev205 v1) < nD) ∧
  ((k0_dev207 v1) < nD) ∧
  ((k0_dev209 v1) < nD) ∧
  ((k0_dev212 v1) < nD) ∧
  ((k0_dev214 v1) < nD) ∧
  ((k0_dev216 v1) < nD) ∧
  ((k0_dev218 v1) < nD) ∧
  ((k0_dev219 v1) < nD) ∧
  ((k0_dev221 v1) < nD) ∧
  ((k0_dev223 v1) < nD) ∧
  ((k0_dev225 v1) < nD) ∧
  ((k0_dev231 v1) < nD) ∧
  ((k0_dev232 v1) < nD) ∧
  ((k0_dev233 v1) < nD) ∧
  ((k0_dev234 v1) < nD)
def k0_chk2 (v1 : BitVec 32) : Prop :=
  k0_chk2_0 v1 ∧
  k0_chk2_1 v1 ∧
  k0_chk2_2 v1 ∧
  k0_chk2_3 v1
theorem k0_dev2_lt : ∀ (v1 : BitVec 32) (k0_hw2 : k0_chk2 v1), (k0_dev2 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev20_lt : ∀ (v1 : BitVec 32) (k0_hw2 : k0_chk2 v1), (k0_dev20 v1) < nD := fun v1 k0_hw2 => k0_hw2.1.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1.1
theorem k0_dev68_lt : ∀ (v1 : BitVec 32) (k0_hw2 : k0_chk2 v1), (k0_dev68 v1) < nD := fun v1 k0_hw2 => k0_hw2.2.1.2.1
theorem k0_dev70_lt : ∀ (v1 : BitVec 32) (k0_hw2 : k0_chk2 v1), (k0_dev70 v1) < nD := fun v1 k0_hw2 => k0_hw2.2.1.2.2.1
theorem k0_dev72_lt : ∀ (v1 : BitVec 32) (k0_hw2 : k0_chk2 v1), (k0_dev72 v1) < nD := fun v1 k0_hw2 => k0_hw2.2.1.2.2.2.1
theorem k0_dev74_lt : ∀ (v1 : BitVec 32) (k0_hw2 : k0_chk2 v1), (k0_dev74 v1) < nD := fun v1 k0_hw2 => k0_hw2.2.1.2.2.2.2.1
theorem k0_dev75_lt : ∀ (v1 : BitVec 32) (k0_hw2 : k0_chk2 v1), (k0_dev75 v1) < nD := fun v1 k0_hw2 => k0_hw2.2.1.2.2.2.2.2.1
theorem k0_dev77_lt : ∀ (v1 : BitVec 32) (k0_hw2 : k0_chk2 v1), (k0_dev77 v1) < nD := fun v1 k0_hw2 => k0_hw2.2.1.2.2.2.2.2.2.1
theorem k0_dev79_lt : ∀ (v1 : BitVec 32) (k0_hw2 : k0_chk2 v1), (k0_dev79 v1) < nD := fun v1 k0_hw2 => k0_hw2.2.1.2.2.2.2.2.2.2.1
theorem k0_dev81_lt : ∀ (v1 : BitVec 32) (k0_hw2 : k0_chk2 v1), (k0_dev81 v1) < nD := fun v1 k0_hw2 => k0_hw2.2.1.2.2.2.2.2.2.2.2.1
theorem k0_dev84_lt : ∀ (v1 : BitVec 32) (k0_hw2 : k0_chk2 v1), (k0_dev84 v1) < nD := fun v1 k0_hw2 => k0_hw2.2.1.2.2.2.2.2.2.2.2.2.1
theorem k0_dev86_lt : ∀ (v1 : BitVec 32) (k0_hw2 : k0_chk2 v1), (k0_dev86 v1) < nD := fun v1 k0_hw2 => k0_hw2.2.1.2.2.2.2.2.2.2.2.2.2.1
theorem k0_dev88_lt : ∀ (v1 : BitVec 32) (k0_hw2 : k0_chk2 v1), (k0_dev88 v1) < nD := fun v1 k0_hw2 => k0_hw2.2.1.2.2.2.2.2.2.2.2.2.2.2.1
theorem k0_dev90_lt : ∀ (v1 : BitVec 32) (k0_hw2 : k0_chk2 v1), (k0_dev90 v1) < nD := fun v1 k0_hw2 => k0_hw2.2.1.2.2.2.2.2.2.2.2.2.2.2.2.1
theorem k0_dev91_lt : ∀ (v1 : BitVec 32) (k0_hw2 : k0_chk2 v1), (k0_dev91 v1) < nD := fun v1 k0_hw2 => k0_hw2.2.1.2.2.2.2.2.2.2.2.2.2.2.2.2.1
theorem k0_dev93_lt : ∀ (v1 : BitVec 32) (k0_hw2 : k0_chk2 v1), (k0_dev93 v1) < nD := fun v1 k0_hw2 => k0_hw2.2.1.2.2.2.2.2.2.2.2.2.2.2.2.2.2.1
theorem k0_dev95_lt : ∀ (v1 : BitVec 32) (k0_hw2 : k0_chk2 v1), (k0_dev95 v1) < nD := fun v1 k0_hw2 => k0_hw2.2.1.2.2.2.2.2.2.2.2.2.2.2.2.2.2.2.1
theorem k0_dev97_lt : ∀ (v1 : BitVec 32) (k0_hw2 : k0_chk2 v1), (k0_dev97 v1) < nD := fun v1 k0_hw2 => k0_hw2.2.1.2.2.2.2.2.2.2.2.2.2.2.2.2.2.2.2.1
theorem k0_dev100_lt : ∀ (v1 : BitVec 32) (k0_hw2 : k0_chk2 v1), (k0_dev100 v1) < nD := fun v1 k0_hw2 => k0_hw2.2.1.2.2.2.2.2.2.2.2.2.2.2.2.2.2.2.2.2.1
theorem k0_dev102_lt : ∀ (v1 : BitVec 32) (k0_hw2 : k0_chk2 v1), (k0_dev102 v1) < nD := fun v1 k0_hw2 => k0_hw2.2.1.2.2.2.2.2.2.2.2.2.2.2.2.2.2.2.2.2.2.1
theorem k0_dev104_lt : ∀ (v1 : BitVec 32) (k0_hw2 : k0_chk2 v1), (k0_dev104 v1) < nD := fun v1 k0_hw2 => k0_hw2.2.1.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.1.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.1.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.1.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.1.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.1.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.1.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.1.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.1.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.1.2.2.2.2.2.2.2.2.2.2.2.2.2.2.2.2.2.2.2.2.2.2.2.2.2.2.2.2.1
theorem k0_dev123_lt : ∀ (v1 : BitVec 32) (k0_hw2 : k0_chk2 v1), (k0_dev123 v1) < nD := fun v1 k0_hw2 => k0_hw2.2.1.2.2.2.2.2.2.2.2.2.2.2.2.2.2.2.2.2.2.2.2.2.2.2.2.2.2.2.2.2.1
theorem k0_dev125_lt : ∀ (v1 : BitVec 32) (k0_hw2 : k0_chk2 v1), (k0_dev125 v1) < nD := fun v1 k0_hw2 => k0_hw2.2.1.2.2.2.2.2.2.2.2.2.2.2.2.2.2.2.2.2.2.2.2.2.2.2.2.2.2.2.2.2.2.1
theorem k0_dev127_lt : ∀ (v1 : BitVec 32) (k0_hw2 : k0_chk2 v1), (k0_dev127 v1) < nD := fun v1 k0_hw2 => k0_hw2.2.1.2.2.2.2.2.2.2.2.2.2.2.2.2.2.2.2.2.2.2.2.2.2.2.2.2.2.2.2.2.2.2
theorem k0_dev129_lt : ∀ (v1 : BitVec 32) (k0_hw2 : k0_chk2 v1), (k0_dev129 v1) < nD := fun v1 k0_hw2 => k0_hw2.2.2.1.1
theorem k0_dev132_lt : ∀ (v1 : BitVec 32) (k0_hw2 : k0_chk2 v1), (k0_dev132 v1) < nD := fun v1 k0_hw2 => k0_hw2.2.2.1.2.1
theorem k0_dev134_lt : ∀ (v1 : BitVec 32) (k0_hw2 : k0_chk2 v1), (k0_dev134 v1) < nD := fun v1 k0_hw2 => k0_hw2.2.2.1.2.2.1
theorem k0_dev136_lt : ∀ (v1 : BitVec 32) (k0_hw2 : k0_chk2 v1), (k0_dev136 v1) < nD := fun v1 k0_hw2 => k0_hw2.2.2.1.2.2.2.1
theorem k0_dev138_lt : ∀ (v1 : BitVec 32) (k0_hw2 : k0_chk2 v1), (k0_dev138 v1) < nD := fun v1 k0_hw2 => k0_hw2.2.2.1.2.2.2.2.1
theorem k0_dev139_lt : ∀ (v1 : BitVec 32) (k0_hw2 : k0_chk2 v1), (k0_dev139 v1) < nD := fun v1 k0_hw2 => k0_hw2.2.2.1.2.2.2.2.2.1
theorem k0_dev141_lt : ∀ (v1 : BitVec 32) (k0_hw2 : k0_chk2 v1), (k0_dev141 v1) < nD := fun v1 k0_hw2 => k0_hw2.2.2.1.2.2.2.2.2.2.1
theorem k0_dev143_lt : ∀ (v1 : BitVec 32) (k0_hw2 : k0_chk2 v1), (k0_dev143 v1) < nD := fun v1 k0_hw2 => k0_hw2.2.2.1.2.2.2.2.2.2.2.1
theorem k0_dev145_lt : ∀ (v1 : BitVec 32) (k0_hw2 : k0_chk2 v1), (k0_dev145 v1) < nD := fun v1 k0_hw2 => k0_hw2.2.2.1.2.2.2.2.2.2.2.2.1
theorem k0_dev148_lt : ∀ (v1 : BitVec 32) (k0_hw2 : k0_chk2 v1), (k0_dev148 v1) < nD := fun v1 k0_hw2 => k0_hw2.2.2.1.2.2.2.2.2.2.2.2.2.1
theorem k0_dev150_lt : ∀ (v1 : BitVec 32) (k0_hw2 : k0_chk2 v1), (k0_dev150 v1) < nD := fun v1 k0_hw2 => k0_hw2.2.2.1.2.2.2.2.2.2.2.2.2.2.1
theorem k0_dev152_lt : ∀ (v1 : BitVec 32) (k0_hw2 : k0_chk2 v1), (k0_dev152 v1) < nD := fun v1 k0_hw2 => k0_hw2.2.2.1.2.2.2.2.2.2.2.2.2.2.2.1
theorem k0_dev154_lt : ∀ (v1 : BitVec 32) (k0_hw2 : k0_chk2 v1), (k0_dev154 v1) < nD := fun v1 k0_hw2 => k0_hw2.2.2.1.2.2.2.2.2.2.2.2.2.2.2.2.1
theorem k0_dev155_lt : ∀ (v1 : BitVec 32) (k0_hw2 : k0_chk2 v1), (k0_dev155 v1) < nD := fun v1 k0_hw2 => k0_hw2.2.2.1.2.2.2.2.2.2.2.2.2.2.2.2.2.1
theorem k0_dev157_lt : ∀ (v1 : BitVec 32) (k0_hw2 : k0_chk2 v1), (k0_dev157 v1) < nD := fun v1 k0_hw2 => k0_hw2.2.2.1.2.2.2.2.2.2.2.2.2.2.2.2.2.2.1
theorem k0_dev159_lt : ∀ (v1 : BitVec 32) (k0_hw2 : k0_chk2 v1), (k0_dev159 v1) < nD := fun v1 k0_hw2 => k0_hw2.2.2.1.2.2.2.2.2.2.2.2.2.2.2.2.2.2.2.1
theorem k0_dev161_lt : ∀ (v1 : BitVec 32) (k0_hw2 : k0_chk2 v1), (k0_dev161 v1) < nD := fun v1 k0_hw2 => k0_hw2.2.2.1.2.2.2.2.2.2.2.2.2.2.2.2.2.2.2.2.1
theorem k0_dev164_lt : ∀ (v1 : BitVec 32) (k0_hw2 : k0_chk2 v1), (k0_dev164 v1) < nD := fun v1 k0_hw2 => k0_hw2.2.2.1.2.2.2.2.2.2.2.2.2.2.2.2.2.2.2.2.2.1
theorem k0_dev166_lt : ∀ (v1 : BitVec 32) (k0_hw2 : k0_chk2 v1), (k0_dev166 v1) < nD := fun v1 k0_hw2 => k0_hw2.2.2.1.2.2.2.2.2.2.2.2.2.2.2.2.2.2.2.2.2.2.1
theorem k0_dev168_lt : ∀ (v1 : BitVec 32) (k0_hw2 : k0_chk2 v1), (k0_dev168 v1) < nD := fun v1 k0_hw2 => k0_hw2.2.2.1.2.2.2.2.2.2.2.2.2.2.2.2.2.2.2.2.2.2.2.1
theorem k0_dev170_lt : ∀ (v1 : BitVec 32) (k0_hw2 : k0_chk2 v1), (k0_dev170 v1) < nD := fun v1 k0_hw2 => k0_hw2.2.2.1.2.2.2.2.2.2.2.2.2.2.2.2.2.2.2.2.2.2.2.2.1
theorem k0_dev171_lt : ∀ (v1 : BitVec 32) (k0_hw2 : k0_chk2 v1), (k0_dev171 v1) < nD := fun v1 k0_hw2 => k0_hw2.2.2.1.2.2.2.2.2.2.2.2.2.2.2.2.2.2.2.2.2.2.2.2.2.1
theorem k0_dev173_lt : ∀ (v1 : BitVec 32) (k0_hw2 : k0_chk2 v1), (k0_dev173 v1) < nD := fun v1 k0_hw2 => k0_hw2.2.2.1.2.2.2.2.2.2.2.2.2.2.2.2.2.2.2.2.2.2.2.2.2.2.1
theorem k0_dev175_lt : ∀ (v1 : BitVec 32) (k0_hw2 : k0_chk2 v1), (k0_dev175 v1) < nD := fun v1 k0_hw2 => k0_hw2.2.2.1.2.2.2.2.2.2.2.2.2.2.2.2.2.2.2.2.2.2.2.2.2.2.2.1
theorem k0_dev177_lt : ∀ (v1 : BitVec 32) (k0_hw2 : k0_chk2 v1), (k0_dev177 v1) < nD := fun v1 k0_hw2 => k0_hw2.2.2.1.2.2.2.2.2.2.2.2.2.2.2.2.2.2.2.2.2.2.2.2.2.2.2.2.1
theorem k0_dev180_lt : ∀ (v1 : BitVec 32) (k0_hw2 : k0_chk2 v1), (k0_dev180 v1) < nD := fun v1 k0_hw2 => k0_hw2.2.2.1.2.2.2.2.2.2.2.2.2.2.2.2.2.2.2.2.2.2.2.2.2.2.2.2.2.1
theorem k0_dev182_lt : ∀ (v1 : BitVec 32) (k0_hw2 : k0_chk2 v1), (k0_dev182 v1) < nD := fun v1 k0_hw2 => k0_hw2.2.2.1.2.2.2.2.2.2.2.2.2.2.2.2.2.2.2.2.2.2.2.2.2.2.2.2.2.2.1
theorem k0_dev184_lt : ∀ (v1 : BitVec 32) (k0_hw2 : k0_chk2 v1), (k0_dev184 v1) < nD := fun v1 k0_hw2 => k0_hw2.2.2.1.2.2.2.2.2.2.2.2.2.2.2.2.2.2.2.2.2.2.2.2.2.2.2.2.2.2.2.1
theorem k0_dev186_lt : ∀ (v1 : BitVec 32) (k0_hw2 : k0_chk2 v1), (k0_dev186 v1) < nD := fun v1 k0_hw2 => k0_hw2.2.2.1.2.2.2.2.2.2.2.2.2.2.2.2.2.2.2.2.2.2.2.2.2.2.2.2.2.2.2.2.1
theorem k0_dev187_lt : ∀ (v1 : BitVec 32) (k0_hw2 : k0_chk2 v1), (k0_dev187 v1) < nD := fun v1 k0_hw2 => k0_hw2.2.2.1.2.2.2.2.2.2.2.2.2.2.2.2.2.2.2.2.2.2.2.2.2.2.2.2.2.2.2.2.2.1
theorem k0_dev189_lt : ∀ (v1 : BitVec 32) (k0_hw2 : k0_chk2 v1), (k0_dev189 v1) < nD := fun v1 k0_hw2 => k0_hw2.2.2.1.2.2.2.2.2.2.2.2.2.2.2.2.2.2.2.2.2.2.2.2.2.2.2.2.2.2.2.2.2.2.1
theorem k0_dev191_lt : ∀ (v1 : BitVec 32) (k0_hw2 : k0_chk2 v1), (k0_dev191 v1) < nD := fun v1 k0_hw2 => k0_hw2.2.2.1.2.2.2.2.2.2.2.2.2.2.2.2.2.2.2.2.2.2.2.2.2.2.2.2.2.2.2.2.2.2.2
theorem k0_dev193_lt : ∀ (v1 : BitVec 32) (k0_hw2 : k0_chk2 v1), (k0_dev193 v1) < nD := fun v1 k0_hw2 => k0_hw2.2.2.2.1
theorem k0_dev196_lt : ∀ (v1 : BitVec 32) (k0_hw2 : k0_chk2 v1), (k0_dev196 v1) < nD := fun v1 k0_hw2 => k0_hw2.2.2.2.2.1
theorem k0_dev198_lt : ∀ (v1 : BitVec 32) (k0_hw2 : k0_chk2 v1), (k0_dev198 v1) < nD := fun v1 k0_hw2 => k0_hw2.2.2.2.2.2.1
theorem k0_dev200_lt : ∀ (v1 : BitVec 32) (k0_hw2 : k0_chk2 v1), (k0_dev200 v1) < nD := fun v1 k0_hw2 => k0_hw2.2.2.2.2.2.2.1
theorem k0_dev202_lt : ∀ (v1 : BitVec 32) (k0_hw2 : k0_chk2 v1), (k0_dev202 v1) < nD := fun v1 k0_hw2 => k0_hw2.2.2.2.2.2.2.2.1
theorem k0_dev203_lt : ∀ (v1 : BitVec 32) (k0_hw2 : k0_chk2 v1), (k0_dev203 v1) < nD := fun v1 k0_hw2 => k0_hw2.2.2.2.2.2.2.2.2.1
theorem k0_dev205_lt : ∀ (v1 : BitVec 32) (k0_hw2 : k0_chk2 v1), (k0_dev205 v1) < nD := fun v1 k0_hw2 => k0_hw2.2.2.2.2.2.2.2.2.2.1
theorem k0_dev207_lt : ∀ (v1 : BitVec 32) (k0_hw2 : k0_chk2 v1), (k0_dev207 v1) < nD := fun v1 k0_hw2 => k0_hw2.2.2.2.2.2.2.2.2.2.2.1
theorem k0_dev209_lt : ∀ (v1 : BitVec 32) (k0_hw2 : k0_chk2 v1), (k0_dev209 v1) < nD := fun v1 k0_hw2 => k0_hw2.2.2.2.2.2.2.2.2.2.2.2.1
theorem k0_dev212_lt : ∀ (v1 : BitVec 32) (k0_hw2 : k0_chk2 v1), (k0_dev212 v1) < nD := fun v1 k0_hw2 => k0_hw2.2.2.2.2.2.2.2.2.2.2.2.2.1
theorem k0_dev214_lt : ∀ (v1 : BitVec 32) (k0_hw2 : k0_chk2 v1), (k0_dev214 v1) < nD := fun v1 k0_hw2 => k0_hw2.2.2.2.2.2.2.2.2.2.2.2.2.2.1
theorem k0_dev216_lt : ∀ (v1 : BitVec 32) (k0_hw2 : k0_chk2 v1), (k0_dev216 v1) < nD := fun v1 k0_hw2 => k0_hw2.2.2.2.2.2.2.2.2.2.2.2.2.2.2.1
theorem k0_dev218_lt : ∀ (v1 : BitVec 32) (k0_hw2 : k0_chk2 v1), (k0_dev218 v1) < nD := fun v1 k0_hw2 => k0_hw2.2.2.2.2.2.2.2.2.2.2.2.2.2.2.2.1
theorem k0_dev219_lt : ∀ (v1 : BitVec 32) (k0_hw2 : k0_chk2 v1), (k0_dev219 v1) < nD := fun v1 k0_hw2 => k0_hw2.2.2.2.2.2.2.2.2.2.2.2.2.2.2.2.2.1
theorem k0_dev221_lt : ∀ (v1 : BitVec 32) (k0_hw2 : k0_chk2 v1), (k0_dev221 v1) < nD := fun v1 k0_hw2 => k0_hw2.2.2.2.2.2.2.2.2.2.2.2.2.2.2.2.2.2.1
theorem k0_dev223_lt : ∀ (v1 : BitVec 32) (k0_hw2 : k0_chk2 v1), (k0_dev223 v1) < nD := fun v1 k0_hw2 => k0_hw2.2.2.2.2.2.2.2.2.2.2.2.2.2.2.2.2.2.2.1
theorem k0_dev225_lt : ∀ (v1 : BitVec 32) (k0_hw2 : k0_chk2 v1), (k0_dev225 v1) < nD := fun v1 k0_hw2 => k0_hw2.2.2.2.2.2.2.2.2.2.2.2.2.2.2.2.2.2.2.2.1
theorem k0_dev231_lt : ∀ (v1 : BitVec 32) (k0_hw2 : k0_chk2 v1), (k0_dev231 v1) < nD := fun v1 k0_hw2 => k0_hw2.2.2.2.2.2.2.2.2.2.2.2.2.2.2.2.2.2.2.2.2.1
theorem k0_dev232_lt : ∀ (v1 : BitVec 32) (k0_hw2 : k0_chk2 v1), (k0_dev232 v1) < nD := fun v1 k0_hw2 => k0_hw2.2.2.2.2.2.2.2.2.2.2.2.2.2.2.2.2.2.2.2.2.2.1
theorem k0_dev233_lt : ∀ (v1 : BitVec 32) (k0_hw2 : k0_chk2 v1), (k0_dev233 v1) < nD := fun v1 k0_hw2 => k0_hw2.2.2.2.2.2.2.2.2.2.2.2.2.2.2.2.2.2.2.2.2.2.2.1
theorem k0_dev234_lt : ∀ (v1 : BitVec 32) (k0_hw2 : k0_chk2 v1), (k0_dev234 v1) < nD := fun v1 k0_hw2 => k0_hw2.2.2.2.2.2.2.2.2.2.2.2.2.2.2.2.2.2.2.2.2.2.2.2

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S16384x128 : Shape := ⟨2, ![16384, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S128x16384, .f32⟩
  | .hbm, ⟨4, _⟩ => ⟨S16384x16384, .f32⟩
  | .hbm, ⟨5, _⟩ => ⟨S_, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x16384, .f32⟩
  | .hbm, ⟨19, _⟩ => ⟨S16384x16384, .f32⟩
  | .hbm, ⟨20, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Shape.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace RingProof

open Idealize.ShloMosaic Idealize.ShloMosaic.TcCoe
open Idealize.SL Idealize.SL.Sem
open Cert.KernelIdeal Cert.KernelIdeal.Gen

variable {F : FTy → Type} [FloatOps F] [Named F]

/-- The kernel's program type. -/
abbrev K (F : FTy → Type) [FloatOps F] : Type → Type 1 := Prog (TpuEff nD τ sig (Elt F) Λ₀ .tc)

/-! ## The eight flows: their buffers and semaphores -/

/-- Flow `j`'s three-slot buffer. -/
def comm : Fin 8 → Memref sig .tc .vmem S3x2x128x128 .bf16
  | 0 => Memref.whole cc0_scratch0 | 1 => Memref.whole cc0_scratch1
  | 2 => Memref.whole cc0_scratch2 | 3 => Memref.whole cc0_scratch3
  | 4 => Memref.whole cc0_scratch4 | 5 => Memref.whole cc0_scratch5
  | 6 => Memref.whole cc0_scratch6 | 7 => Memref.whole cc0_scratch7

/-- It is a whole buffer. -/
theorem comm_whole : ∀ j, (comm j).IsWhole
  | 0 => Memref.isWhole_whole _ | 1 => Memref.isWhole_whole _ | 2 => Memref.isWhole_whole _ | 3 => Memref.isWhole_whole _
  | 4 => Memref.isWhole_whole _ | 5 => Memref.isWhole_whole _ | 6 => Memref.isWhole_whole _ | 7 => Memref.isWhole_whole _

/-- Flow `j`'s three send semaphores. -/
def sendA : Fin 8 → DmaSems sig S3
  | 0 => cc0_scratch8 | 1 => cc0_scratch9 | 2 => cc0_scratch10 | 3 => cc0_scratch11
  | 4 => cc0_scratch12 | 5 => cc0_scratch13 | 6 => cc0_scratch14 | 7 => cc0_scratch15

/-- Flow `j`'s three receive semaphores. -/
def recvA : Fin 8 → DmaSems sig S3
  | 0 => cc0_scratch16 | 1 => cc0_scratch17 | 2 => cc0_scratch18 | 3 => cc0_scratch19
  | 4 => cc0_scratch20 | 5 => cc0_scratch21 | 6 => cc0_scratch22 | 7 => cc0_scratch23

/-- Flow `j`'s credit semaphore. -/
def capA : Fin 8 → Sems sig S_
  | 0 => cc0_scratch24 | 1 => cc0_scratch25 | 2 => cc0_scratch26 | 3 => cc0_scratch27
  | 4 => cc0_scratch28 | 5 => cc0_scratch29 | 6 => cc0_scratch30 | 7 => cc0_scratch31

/-- The slot of hop `n`. -/
abbrev sl (n : Nat) : Fin 3 := ⟨n % 3, Nat.mod_lt _ (by decide)⟩

theorem inbSlot : ∀ (s : Fin 3) (a), (![s.val, 0, 0, 0] : Fin 4 → Nat) a + S1x2x128x128.size a ≤ S3x2x128x128.size a := by decide
theorem inbHalf : ∀ (s : Fin 3) (b : Fin 2) (a), (![s.val, b.val, 0, 0] : Fin 4 → Nat) a + S1x1x128x128.size a ≤ S3x2x128x128.size a := by decide
theorem inbSem : ∀ (s : Fin 3) (a), (![s.val] : Fin 1 → Nat) a + S1.size a ≤ S3.size a := by decide

/-- The rectangle of slot `s`. -/
abbrev slotR (s : Fin 3) : Rect S3x2x128x128 := Rect.unit (s := S3x2x128x128) ![s.val, 0, 0, 0] S1x2x128x128.size (inbSlot s)
/-- The rectangle of half `b` of slot `s`: the keys at `b = 0`, the values at `b = 1`. -/
abbrev halfR (s : Fin 3) (b : Fin 2) : Rect S3x2x128x128 := Rect.unit (s := S3x2x128x128) ![s.val, b.val, 0, 0] S1x1x128x128.size (inbHalf s b)

theorem slotWords : ∀ s : Fin 3, (slotR s).WholeWords (EltTy.packing .bf16) := by decide
theorem halfPacked : ∀ (s : Fin 3) (b : Fin 2), (halfR s b).PackedRows (EltTy.packing .bf16) := by decide

/-- Slot `s` of flow `j`'s buffer. -/
abbrev slotM (j : Fin 8) (s : Fin 3) : Memref sig .tc .vmem S2x128x128 .bf16 :=
  ((comm j).slice (slotR s) (fun _ => rfl)).squeeze S2x128x128 squeezes_S1x2x128x128_S2x128x128

theorem slotExact (j : Fin 8) (s : Fin 3) : (slotM j s).view.WordExact :=
  ((comm_whole j).wordExact_slice rfl _ (slotWords s)).reshape _ _

/-- Flow `j`'s send semaphore of slot `s`. -/
abbrev sendS (j : Fin 8) (s : Fin 3) : DmaSem sig := (((sendA j).slice (Rect.unit (s := S3) ![s.val] S1.size (inbSem s))).squeeze S_ squeezes_S1_S_).sem
/-- Flow `j`'s receive semaphore of slot `s`. -/
abbrev recvS (j : Fin 8) (s : Fin 3) : DmaSem sig := (((recvA j).slice (Rect.unit (s := S3) ![s.val] S1.size (inbSem s))).squeeze S_ squeezes_S1_S_).sem
/-- Flow `j`'s credit semaphore. -/
abbrev capS (j : Fin 8) : Sem sig := (capA j).sem
/-- The barrier's semaphore. -/
abbrev barS : Sem sig := (SemArray.scalar (sig.barrier 0 rfl) : Sems sig S_).sem

/-- Whether flow `j` runs to the right. -/
abbrev rightward (j : Fin 8) : Bool := j.val % 2 == 0
/-- How many hops flow `j` makes. -/
abbrev hops (j : Fin 8) : Nat := if rightward j then 16 else 15

/-! ## The program, by flow and hop -/

/-- Wait for the arrival of hop `h - 1`. -/
def recvWait (j : Fin 8) (h : Nat) : K F PUnit :=
  Prog.lift (.waitDma2 (recvS j (sl h)) (slotM j (sl (h - 1))) (slotM j (sl h)) (slotExact _ _) (slotExact _ _))

/-- Start hop `h` towards `dst`. -/
def startHop (dst : Dev nD) (j : Fin 8) (h : Nat) : K F PUnit :=
  Prog.lift (.enqueueDma (slotM j (sl h)) (.remote (Dev.tc dst) (slotM j (sl (h + 1))) (.dma (sendS j (sl h)))) (.dma (recvS j (sl (h + 1))))
    (slotExact _ _) (slotExact _ _) ⟨⟨rfl, Or.inl rfl⟩, trivial⟩)

/-- A flow's opening of iteration `h`: take the arrival of the last hop, and start the next one when the
    slot that it fills has been handed back. -/
def openF (lf rt : Dev nD) (h : Nat) (j : Fin 8) : K F PUnit := do
  if 1 ≤ h ∧ h ≤ hops j then recvWait j h
  if h < hops j then
    if 2 ≤ h then semWaitWord (capS j) 1#32
    startHop (if rightward j then rt else lf) j h

/-- The exponentials of the scores of one arrived block. -/
def pexp (q : FVec F S512x128 .bf16) (kc : Vec F S1x1x128x128 .bf16) : FVec F S512x128 .f32 :=
  exp (matmul dot_S512x128_S128x128_S512x128_1_1_0_0_n_n none q (shapeCast S128x128 kc shapeCasts_S1x1x128x128_S128x128) (constant S512x128 .f32 0x00000000#32))

/-- The row sums of one arrived block added to the denominators. -/
def updL (q : FVec F S512x128 .bf16) (l : FVec F S512x1 .f32) (kc : Vec F S1x1x128x128 .bf16) : FVec F S512x1 .f32 :=
  addf l (shapeCast S512x1 (multiReduction .add [1] S512 (pexp q kc) 0x00000000#32 reduces_S512x128_S512 (.inl rfl) rfl) shapeCasts_S512_S512x1)

/-- The weighted values of one arrived block added to the numerators. -/
def updA (q : FVec F S512x128 .bf16) (a : FVec F S512x128 .f32) (kc vc : Vec F S1x1x128x128 .bf16) : FVec F S512x128 .f32 :=
  addf a (matmul dot_S512x128_S128x128_S512x128_1_0_0_1_n_n none (truncf .bf16 (pexp q kc) bitsLt_bf16_f32)
    (shapeCast S128x128 vc shapeCasts_S1x1x128x128_S128x128) (constant S512x128 .f32 0x00000000#32))

/-- The running pair: denominators and numerators. -/
abbrev St (F : FTy → Type) [FloatOps F] : Type := FVec F S512x1 .f32 × FVec F S512x128 .f32

/-- Load half `b` of slot `s` of flow `j`. -/
def loadHalf (j : Fin 8) (s : Fin 3) (b : Fin 2) : K F (Vec F S1x1x128x128 .bf16) :=
  Prog.lift (.load (comm j) (halfR s b).toLoadRect (View.loadsAt_vmem h_S1x1x128x128))

/-- A flow's update in iteration `h`. -/
def updF (q : FVec F S512x128 .bf16) (h : Nat) (st : St F) (j : Fin 8) : K F (St F) :=
  if h ≤ hops j then do
    let kc ← loadHalf j (sl h) 0
    let vc ← loadHalf j (sl h) 1
    pure (updL q st.1 kc, updA q st.2 kc vc)
  else pure st

/-- A flow's closing of iteration `h`: the last hop's source is free again, and the slot goes back to its writer. -/
def closeF (lf rt : Dev nD) (h : Nat) (j : Fin 8) : K F PUnit :=
  if h ≤ hops j then do
    Prog.lift (.waitDma2 (sendS j (sl (h - 1))) (slotM j (sl h)) (slotM j (sl (h - 1))) (slotExact _ _) (slotExact _ _))
    if h + 2 ≤ hops j then semSignalWord (if rightward j then lf else rt) (capS j) 1#32
  else pure ()

/-- One action per flow, in order. -/
def each (f : Fin 8 → K F PUnit) : List (Fin 8) → K F PUnit
  | [] => pure ()
  | j :: js => do f j; each f js

/-- One update per flow, in order. -/
def eachU (q : FVec F S512x128 .bf16) (h : Nat) : St F → List (Fin 8) → K F (St F)
  | st, [] => pure st
  | st, j :: js => do
    let st' ← updF q h st j
    eachU q h st' js

/-- The flows in the order of the text. -/
abbrev flows : List (Fin 8) := [0, 1, 2, 3, 4, 5, 6, 7]

/-- Iteration `h` of the loop, `h` at least 1. -/
def iter (lf rt : Dev nD) (q : FVec F S512x128 .bf16) (h : Nat) (st : St F) : K F (St F) := do
  each (openF lf rt h) flows
  let st' ← eachU q h st flows
  each (closeF lf rt h) flows
  pure st'

/-- `n` iterations from `h` on. -/
def loop (lf rt : Dev nD) (q : FVec F S512x128 .bf16) : Nat → Nat → St F → K F (St F)
  | 0, _, st => pure st
  | n + 1, h, st => do
    let st' ← iter lf rt q h st
    loop lf rt q n (h + 1) st'

theorem slicesQ : ∀ i : Fin 4, S512x128.Slices ![128 * i.val, 0] S128x128 := by decide

/-- Quarter `i` of a device's own rows, in a slot's shape. -/
def quarter (x : FVec F S512x128 .bf16) (i : Fin 4) : FVec F S1x1x128x128 .bf16 :=
  shapeCast S1x1x128x128 (extractStridedSlice S128x128 ![128 * i.val, 0] x (slicesQ i)) shapeCasts_S128x128_S1x1x128x128

/-- The quarter that flow `j` carries. -/
abbrev quarterOf (j : Fin 8) : Fin 4 := ⟨j.val / 2, by omega⟩

/-- Store the own rows of flow `j` into half `b` of its slot 0. -/
def putHalf (x : FVec F S512x128 .bf16) (b : Fin 2) (j : Fin 8) : K F PUnit := do
  let _ ← loadHalf (F := F) j 0 b
  Prog.lift (.store (comm j) (halfR 0 b) (quarter x (quarterOf j)) Finset.univ
    (View.stores_vmem h_S1x1x128x128 ((comm_whole j).storeExact_slice rfl _ (halfPacked 0 b)) (fun _ => rfl)) (.inl rfl))

/-- Store the own keys and values into flow `j`'s slot 0. -/
def putF (kk vv : FVec F S512x128 .bf16) (j : Fin 8) : K F PUnit := do
  putHalf kk 0 j
  putHalf vv 1 j

/-- The opening handshake: tell both neighbours, wait for both. -/
def meet (lf rt : Dev nD) : K F PUnit := do
  semSignalWord lf barS 1#32
  semSignalWord rt barS 1#32
  semWaitWord barS 2#32

/-- The own rows into every flow, the first hops, then the sixteen iterations. -/
def talk (lf rt : Dev nD) (q : FVec F S512x128 .f32) (kk vv : FVec F S512x128 .bf16) : K F (St F) := do
  each (openF lf rt 0) flows
  loop lf rt (k0_pay23 q) 16 1 (k0_pay25 kk (k0_pay23 q), k0_pay26 kk vv (k0_pay23 q))

/-- Load a whole staged block. -/
def loadW (m : Memref sig .tc .vmem S512x128 .f32) : K F (Vec F S512x128 .f32) :=
  Prog.lift (.load m (Rect.unit (s := S512x128) ![0, 0] S512x128.size inb_S512x128_S512x128_0_0).toLoadRect (View.loadsAt_vmem h_S512x128))

/-- The whole kernel, once the neighbours are known. -/
def main₂ (Q Km V O : Memref sig .tc .vmem S512x128 .f32) (lf rt : Dev nD) : K F PUnit := do
  meet lf rt
  let kk ← loadW Km
  let vv ← loadW V
  each (putF (k0_pay2 kk) (k0_pay3 vv)) flows
  let qq ← loadW Q
  let st ← talk lf rt (k0_pay22 qq) (k0_pay2 kk) (k0_pay3 vv)
  let _ ← loadW (F := F) O
  Prog.lift (.store O (Rect.unit (s := S512x128) ![0, 0] S512x128.size inb_S512x128_S512x128_0_0) (k0_pay1 st.1 st.2) Finset.univ
    (View.stores_vmem_bits_univ h_S512x128 rfl) (.inl rfl))

/-- The whole kernel. -/
def whole (Q Km V : Memref sig .tc .vmem S512x128 .f32) (Nb : Memref sig .tc .smem S2 .i32) (O : Memref sig .tc .vmem S512x128 .f32) : K F PUnit := do
  let v0 : Elt F .i32 ← smemLoad Nb (Rect.unit (s := S2) ![0] S1.size inb_S2_S1_0) numel1_S1 rfl
  have hw1 : k0_chk1 v0 := (← Prog.lift (TpuEff.assume (k0_chk1 v0) (k0_chk1.dec v0))).down
  let v1 : Elt F .i32 ← smemLoad Nb (Rect.unit (s := S2) ![1] S1.size inb_S2_S1_1) numel1_S1 rfl
  have hw2 : k0_chk2 v1 := (← Prog.lift (TpuEff.assume (k0_chk2 v1) (k0_chk2.dec v1))).down
  main₂ Q Km V O ⟨k0_dev1 v0, k0_dev1_lt v0 hw1⟩ ⟨k0_dev2 v1, k0_dev2_lt v1 hw2⟩

set_option maxRecDepth 65536 in
/-- The printed body is that program. -/
theorem body_eq (Q : Memref sig .tc .vmem S512x128 .f32) (hQ : Q.IsWhole) (Km : Memref sig .tc .vmem S512x128 .f32) (hK : Km.IsWhole)
    (V : Memref sig .tc .vmem S512x128 .f32) (hV : V.IsWhole) (Nb : Memref sig .tc .smem S2 .i32) (hN : Nb.IsWhole)
    (O : Memref sig .tc .vmem S512x128 .f32) (hO : O.IsWhole) :
    cc0_body (F := F) Q hQ Km hK V hV Nb hN O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31
      = whole Q Km V Nb O := by
  chain_rfl

end RingProof

end
-- ==== Proof.Protocol.lean ====
module

public import proofs.«01_k».proof.Proof.Shape
public import Idealize.ShloMosaic.Lib.Rounds
public import Idealize.ShloMosaic.Lib.Release
public import Idealize.ShloMosaic.Lib.Pipeline.RegionTalk

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## The ring of devices -/

/-- The left neighbour, as the host's table lists it. -/
def lfD (c : Dev nD) : Dev nD := ⟨(lit0 c).toNat, by revert c; decide⟩
/-- The right neighbour, as the host's table lists it. -/
def rtD (c : Dev nD) : Dev nD := ⟨(lit1 c).toNat, by revert c; decide⟩

theorem lf_rt : ∀ c : Dev nD, lfD (rtD c) = c := by decide
theorem rt_lf : ∀ c : Dev nD, rtD (lfD c) = c := by decide

/-- The two neighbour maps as one permutation. -/
def ring : Dev nD ≃ Dev nD := ⟨rtD, lfD, lf_rt, rt_lf⟩

/-- The device to which flow `j` of device `c` sends. -/
abbrev dst (c : Dev nD) (j : Fin 8) : Dev nD := if rightward j then rtD c else lfD c
/-- The device that sends to flow `j` of device `c`. -/
abbrev csrc (c : Dev nD) (j : Fin 8) : Dev nD := if rightward j then lfD c else rtD c

theorem dst_csrc (c : Dev nD) (j : Fin 8) : dst (csrc c j) j = c := by
  unfold dst csrc; split
  · exact rt_lf c
  · exact lf_rt c
theorem csrc_dst (c : Dev nD) (j : Fin 8) : csrc (dst c j) j = c := by
  unfold dst csrc; split
  · exact lf_rt c
  · exact rt_lf c

/-- The device whose rows flow `j` of device `c` holds after `n` hops. -/
def org (j : Fin 8) : ℕ → Dev nD → Dev nD
  | 0, c => c
  | n + 1, c => org j n (csrc c j)

/-! ## Cells -/

abbrev barCell (c : Dev nD) : GSem nD τ sig := ((c : Thread nD τ), .reg barS)
abbrev capCell (c : Dev nD) (j : Fin 8) : GSem nD τ sig := ((c : Thread nD τ), .reg (capS j))
abbrev sendCell (c : Dev nD) (j : Fin 8) (s : Fin 3) : GSem nD τ sig := ((c : Thread nD τ), .dma (sendS j s))
abbrev recvCell (c : Dev nD) (j : Fin 8) (s : Fin 3) : GSem nD τ sig := ((c : Thread nD τ), .dma (recvS j s))

/-- What a semaphore is for. -/
inductive Role
  | bar | cap (j : Fin 8) | send (j : Fin 8) (s : Fin 3) | recv (j : Fin 8) (s : Fin 3) | other
deriving DecidableEq

/-- The role of each semaphore. -/
def role : SemLoc sig → Role
  | .reg i => if h : i.val < 8 then .cap ⟨i.val, h⟩ else .bar
  | .dma i =>
    if i.val < 5 then .other
    else if h : (i.val - 5) / 3 < 8 then .send ⟨(i.val - 5) / 3, h⟩ (sl (i.val - 5))
    else if h : (i.val - 29) / 3 < 8 then .recv ⟨(i.val - 29) / 3, h⟩ (sl (i.val - 29))
    else .other

theorem role_bar : role (.reg barS) = .bar := by decide
theorem role_cap : ∀ j, role (.reg (capS j)) = .cap j := by decide
theorem role_send : ∀ j s, role (.dma (sendS j s)) = .send j s := by decide
theorem role_recv : ∀ j s, role (.dma (recvS j s)) = .recv j s := by decide

/-! ## The ghost state's algebra -/

/-- A credit: the device that frees the slot, the flow, the credit's number. -/
abbrev Key : Type := Dev nD × Fin 8 × ℕ

abbrev UP : Type := UR sig nD τ
abbrev UB : Type := URounds (GSem nD τ sig) ℕ × Release.USlots Key
abbrev UU : Type := UP × UB

abbrev EP (F : FTy → Type) [FloatOps F] : Emb UP (MT nD τ sig ℕ (Elt F) ℕ UU ℕ) := embL
abbrev ER (F : FTy → Type) [FloatOps F] : Emb (URounds (GSem nD τ sig) ℕ) (MT nD τ sig ℕ (Elt F) ℕ UU ℕ) := Emb.inl.trans embR
abbrev ES (F : FTy → Type) [FloatOps F] : Emb (Release.USlots Key) (MT nD τ sig ℕ (Elt F) ℕ UU ℕ) := Emb.inr.trans embR

local notation "𝕄" => MT nD τ sig ℕ (Elt F) ℕ UU ℕ

example : (ER F).LandsIn (upEmb : UEmb _ 𝕄) := inferInstance
example : (ES F).LandsIn (upEmb : UEmb _ 𝕄) := inferInstance

/-! ## Slots -/

/-- Slot `s` of flow `j` on device `c`, at contents `f` and share `q`. -/
abbrev slotPts (c : Dev nD) (j : Fin 8) (s : Fin 3) (q : PosShare TreeShare) (f : Buf (Elt F) ((slotM j s).view.loc (c : Thread nD τ))) : sProp 𝕄 :=
  (slotM j s).view.loc (c : Thread nD τ) ↦[(slotM j s).view.set]{q} f

/-- The same at contents not chosen. -/
def slotAny (c : Dev nD) (j : Fin 8) (s : Fin 3) : sProp 𝕄 := iprop(∃ f, slotPts (F := F) c j s fullShare f)

/-- The same at contents that read as `V`. -/
def slotAt (c : Dev nD) (j : Fin 8) (s : Fin 3) (q : PosShare TreeShare) (V : S2x128x128.Idx → Elt F .bf16) : sProp 𝕄 :=
  iprop(∃ f, ⌜(slotM j s).view.read (Elt F) f = V⌝ ∗ slotPts (F := F) c j s q f)

instance slotAny_storable (c : Dev nD) (j : Fin 8) (s : Fin 3) : Storable (upEmb : UEmb _ 𝕄) (slotAny (F := F) c j s) := by
  unfold slotAny; infer_instance
instance slotAt_storable (c : Dev nD) (j : Fin 8) (s : Fin 3) (q : PosShare TreeShare) (V : S2x128x128.Idx → Elt F .bf16) :
    Storable (upEmb : UEmb _ 𝕄) (slotAt (F := F) c j s q V) := by
  unfold slotAt; infer_instance

/-- The bytes of one hop, in the units its semaphores count. -/
abbrev hopN : ℕ := (slotM 0 0).view.dmaCredit
theorem hopN_pos : 0 < hopN := View.dmaCredit_pos _ (by decide)
theorem hopN_eq : ∀ (j : Fin 8) (s : Fin 3), (slotM j s).view.dmaCredit = hopN
  | 0, _ => rfl | 1, _ => rfl | 2, _ => rfl | 3, _ => rfl | 4, _ => rfl | 5, _ => rfl | 6, _ => rfl | 7, _ => rfl

/-! ## The schedule -/

/-- What device `w` needs for hop `n` of flow `j`: the slot that it fills, and that the round in which the
    hop lands has been reached. -/
def perm (w : Dev nD) (j : Fin 8) (n : ℕ) : sProp 𝕄 :=
  iprop(slotAny (F := F) (dst w j) j (sl (n + 1)) ∗ reached (ER F) (recvCell (dst w j) j (sl (n + 1))) (n / 3))

instance perm_storable (w : Dev nD) (j : Fin 8) (n : ℕ) : Storable (upEmb : UEmb _ 𝕄) (perm (F := F) w j n) := by
  unfold perm; infer_instance

/-- What a credit's key guards: the permission for the hop two later, on the device that sends there. -/
abbrev keyS (k : Key) : sProp 𝕄 := perm (F := F) (csrc k.1 k.2.1) k.2.1 (k.2.2 + 2)

/-- One flow's part of the handshake that the neighbour on side `b` (`true`: right) gives to device `c`. -/
def barItem (c : Dev nD) (b : Bool) (j : Fin 8) : sProp 𝕄 :=
  if rightward j = b then iprop(perm (F := F) c j 0 ∗ perm (F := F) c j 1) else reached (ER F) (capCell (csrc c j) j) 0

instance barItem_storable (c : Dev nD) (b : Bool) (j : Fin 8) : Storable (upEmb : UEmb _ 𝕄) (barItem (F := F) c b j) := by
  unfold barItem; split <;> infer_instance

/-- What the neighbour on side `b` gives to device `c` in the handshake. -/
def barPay (c : Dev nD) (b : Bool) : sProp 𝕄 := bigSep Finset.univ (barItem (F := F) c b)

/-- What credit `d` of flow `j` tells device `c`: every credit up to it has been given. -/
def capPay (c : Dev nD) (j : Fin 8) (d : ℕ) : sProp 𝕄 :=
  bigSep (Finset.range (d + 1)) fun i => Release.released (ES F) (dst c j, j, i) 1

instance barPay_storable (c : Dev nD) (b : Bool) : Storable (upEmb : UEmb _ 𝕄) (barPay (F := F) c b) := by
  unfold barPay; infer_instance
instance capPay_storable (c : Dev nD) (j : Fin 8) (d : ℕ) : Storable (upEmb : UEmb _ 𝕄) (capPay (F := F) c j d) := by
  unfold capPay; infer_instance
instance capPay_persistent (c : Dev nD) (j : Fin 8) (d : ℕ) : BI.Persistent (capPay (F := F) c j d) := by
  unfold capPay; infer_instance

/-- The hop of round `r` on the receive cell of slot `s`. -/
abbrev hopR (s : Fin 3) (r : ℕ) : ℕ := 3 * r + (s.val + 2) % 3
/-- The hop of round `r` on the send cell of slot `s`. -/
abbrev hopS (s : Fin 3) (r : ℕ) : ℕ := 3 * r + s.val

/-- A device's rows as flow `j` carries them. -/
abbrev Slabs (F : FTy → Type) : Type := Dev nD → Fin 8 → (S2x128x128.Idx → Elt F .bf16)

variable (B : Slabs F)

/-- The duties by role and round. -/
def roleDuties : Role → ℕ → Finset ℕ
  | .bar, r => if r = 0 then {0, 1} else ∅
  | .cap j, r => if r = 0 then Finset.range (hops j - 2) else ∅
  | .send j s, r => if hopS s r < hops j then {0} else ∅
  | .recv j s, r => if hopR s r < hops j then {0} else ∅
  | .other, _ => ∅

/-- The payloads by role and round. -/
def rolePay (c : Dev nD) : Role → ℕ → ℕ → sProp 𝕄
  | .bar, _, d => barPay c (d == 0)
  | .cap j, _, d => capPay c j d
  | .send j s, r, _ => slotAt c j s fullShare.right (B (org j (hopS s r) c) j)
  | .recv j s, r, _ => slotAt c j s fullShare (B (org j (hopR s r + 1) c) j)
  | .other, _, _ => iprop(emp)

/-- The units by role. -/
def roleAmount : Role → ℕ
  | .bar => 1 | .cap _ => 1 | .send _ _ => hopN | .recv _ _ => hopN | .other => 1

/-- The protocol: per cell and round, who pays and what it hands over. -/
def sched : Rounds.Schedule (GSem nD τ sig) ℕ 𝕄 where
  duties g r := if g.1.2 = .tc then roleDuties (role g.2) r else ∅
  unitless _ := False
  amount g _ _ := roleAmount (role g.2)
  payload g r d := rolePay B g.1.1 (role g.2) r d
  amount_pos g _ _ _ := by
    show 0 < roleAmount (role g.2)
    unfold roleAmount; split <;> first | exact Nat.one_pos | exact hopN_pos

instance sched_storable (g : GSem nD τ sig) (r : ℕ) (d : ℕ) : BI.Storable (upEmb : UEmb _ 𝕄) ((sched (F := F) B).payload g r d) := by
  show BI.Storable upEmb (rolePay B g.1.1 (role g.2) r d)
  unfold rolePay; split <;> infer_instance

section Sched

variable (c : Dev nD) (j : Fin 8)

theorem duties_bar : (sched (F := F) B).duties (barCell c) 0 = {0, 1} := by
  show (if (c : Thread nD τ).2 = .tc then roleDuties (role (.reg barS)) 0 else ∅) = _
  rw [role_bar, if_pos rfl]; rfl
theorem duties_cap : (sched (F := F) B).duties (capCell c j) 0 = Finset.range (hops j - 2) := by
  show (if (c : Thread nD τ).2 = .tc then roleDuties (role (.reg (capS j))) 0 else ∅) = _
  rw [role_cap, if_pos rfl]; rfl
theorem duties_sendR (s : Fin 3) (r : ℕ) : (sched (F := F) B).duties (sendCell c j s) r = if hopS s r < hops j then {0} else ∅ := by
  show (if (c : Thread nD τ).2 = .tc then roleDuties (role (.dma (sendS j s))) r else ∅) = _
  rw [role_send, if_pos rfl]; rfl
theorem duties_recvR (s : Fin 3) (r : ℕ) : (sched (F := F) B).duties (recvCell c j s) r = if hopR s r < hops j then {0} else ∅ := by
  show (if (c : Thread nD τ).2 = .tc then roleDuties (role (.dma (recvS j s))) r else ∅) = _
  rw [role_recv, if_pos rfl]; rfl
theorem duties_bar' (r : ℕ) (h : 1 ≤ r) : (sched (F := F) B).duties (barCell c) r = ∅ := by
  show (if (c : Thread nD τ).2 = .tc then roleDuties (role (.reg barS)) r else ∅) = _
  rw [role_bar, if_pos rfl]; exact if_neg (by omega)
theorem duties_cap' (r : ℕ) (h : 1 ≤ r) : (sched (F := F) B).duties (capCell c j) r = ∅ := by
  show (if (c : Thread nD τ).2 = .tc then roleDuties (role (.reg (capS j))) r else ∅) = _
  rw [role_cap, if_pos rfl]; exact if_neg (by omega)

theorem amount_bar (r d : ℕ) : (sched (F := F) B).amount (barCell c) r d = 1 := by
  show roleAmount (role (.reg barS)) = _; rw [role_bar]; rfl
theorem amount_cap (r d : ℕ) : (sched (F := F) B).amount (capCell c j) r d = 1 := by
  show roleAmount (role (.reg (capS j))) = _; rw [role_cap]; rfl
theorem amount_send (s : Fin 3) (r d : ℕ) : (sched (F := F) B).amount (sendCell c j s) r d = hopN := by
  show roleAmount (role (.dma (sendS j s))) = _; rw [role_send]; rfl
theorem amount_recv (s : Fin 3) (r d : ℕ) : (sched (F := F) B).amount (recvCell c j s) r d = hopN := by
  show roleAmount (role (.dma (recvS j s))) = _; rw [role_recv]; rfl

theorem payload_bar (r d : ℕ) : (sched (F := F) B).payload (barCell c) r d = barPay c (d == 0) := by
  show rolePay B c (role (.reg barS)) r d = _; rw [role_bar]; rfl
theorem payload_cap (r d : ℕ) : (sched (F := F) B).payload (capCell c j) r d = capPay c j d := by
  show rolePay B c (role (.reg (capS j))) r d = _; rw [role_cap]; rfl
theorem payload_send (s : Fin 3) (r d : ℕ) :
    (sched (F := F) B).payload (sendCell c j s) r d = slotAt c j s fullShare.right (B (org j (hopS s r) c) j) := by
  show rolePay B c (role (.dma (sendS j s))) r d = _; rw [role_send]; rfl
theorem payload_recv (s : Fin 3) (r d : ℕ) :
    (sched (F := F) B).payload (recvCell c j s) r d = slotAt c j s fullShare (B (org j (hopR s r + 1) c) j) := by
  show rolePay B c (role (.dma (recvS j s))) r d = _; rw [role_recv]; rfl

theorem hopS_sl (n : ℕ) : hopS (sl n) (n / 3) = n := by show 3 * (n / 3) + n % 3 = n; omega
theorem hopR_sl (n : ℕ) : hopR (sl (n + 1)) (n / 3) = n := by show 3 * (n / 3) + ((n + 1) % 3 + 2) % 3 = n; omega

/-- Hop `n` has its one duty on the send cell. -/
theorem duties_send {n : ℕ} (h : n < hops j) : (sched (F := F) B).duties (sendCell c j (sl n)) (n / 3) = {0} := by
  rw [duties_sendR, hopS_sl, if_pos h]
/-- Hop `n` has its one duty on the receive cell. -/
theorem duties_recv {n : ℕ} (h : n < hops j) : (sched (F := F) B).duties (recvCell c j (sl (n + 1))) (n / 3) = {0} := by
  rw [duties_recvR, hopR_sl, if_pos h]

theorem expect_bar : (sched (F := F) B).expect (barCell c) 0 = 2 := by
  unfold Schedule.expect Schedule.amountOf
  rw [duties_bar, Finset.sum_congr rfl fun d _ => amount_bar B c 0 d]; rfl
theorem expect_cap : (sched (F := F) B).expect (capCell c j) 0 = hops j - 2 := by
  unfold Schedule.expect Schedule.amountOf
  rw [duties_cap, Finset.sum_congr rfl fun d _ => amount_cap B c j 0 d, Finset.sum_const, Finset.card_range, smul_eq_mul, mul_one]
theorem expect_send {n : ℕ} (h : n < hops j) : (sched (F := F) B).expect (sendCell c j (sl n)) (n / 3) = hopN := by
  unfold Schedule.expect Schedule.amountOf; rw [duties_send B c j h, Finset.sum_singleton, amount_send]
theorem expect_recv {n : ℕ} (h : n < hops j) : (sched (F := F) B).expect (recvCell c j (sl (n + 1))) (n / 3) = hopN := by
  unfold Schedule.expect Schedule.amountOf; rw [duties_recv B c j h, Finset.sum_singleton, amount_recv]

theorem rest_bar : bigSep ((sched (F := F) B).duties (barCell c) 0 \ ∅) (fun u => (sched (F := F) B).payload (barCell c) 0 u)
    = iprop(barPay c true ∗ barPay (F := F) c false) := by
  rw [Finset.sdiff_empty, duties_bar, bigSep_insert (by decide), bigSep_singleton, payload_bar, payload_bar]; rfl
theorem rest_send {n : ℕ} (h : n < hops j) :
    bigSep ((sched (F := F) B).duties (sendCell c j (sl n)) (n / 3) \ ∅) (fun u => (sched (F := F) B).payload (sendCell c j (sl n)) (n / 3) u)
      = slotAt c j (sl n) fullShare.right (B (org j n c) j) := by
  rw [Finset.sdiff_empty, duties_send B c j h, bigSep_singleton, payload_send, hopS_sl]
theorem rest_recv {n : ℕ} (h : n < hops j) :
    bigSep ((sched (F := F) B).duties (recvCell c j (sl (n + 1))) (n / 3) \ ∅) (fun u => (sched (F := F) B).payload (recvCell c j (sl (n + 1))) (n / 3) u)
      = slotAt c j (sl (n + 1)) fullShare (B (org j (n + 1) c) j) := by
  rw [Finset.sdiff_empty, duties_recv B c j h, bigSep_singleton, payload_recv, hopR_sl]

end Sched

/-! ## Levels and what a device owes -/

/-- Thirty-two indices for every cell of a core. -/
def L (g : GSem nD τ sig) : Finset ℕ := if g.1.2 = .tc then Finset.range 32 else ∅

/-- The level of an index of a cell, by the cell's role. -/
def roleLev : Role → ℕ → ℕ
  | .bar, _ => 1 | .cap _, d => 2 * d + 5 | .send _ _, n => 2 * n + 2 | .recv _ _, n => 2 * n + 2 | .other, _ => 0
def lv (g : GSem nD τ sig) (i : ℕ) : ℕ := roleLev (role g.2) i

theorem L_of_ne (g : GSem nD τ sig) (h : g.1.2 ≠ .tc) : L g = ∅ := if_neg h
theorem L_tc (c : Dev nD) (sm : SemLoc sig) : L ((c : Thread nD τ), sm) = Finset.range 32 := if_pos rfl

/-- Everything in `O` sits above level `b`. -/
def Above (b : ℕ) (O : CellTallies nD τ sig ℕ) : Prop := ∀ (g : GSem nD τ sig) (i : ℕ), 0 < O g i → i ∈ L g ∧ b < lv g i

theorem Above.zero (b : ℕ) : Above b 0 := fun _ _ h => absurd h (Nat.lt_irrefl 0)
theorem Above.add {b : ℕ} {O O' : CellTallies nD τ sig ℕ} (h : Above b O) (h' : Above b O') : Above b (O + O') := fun g i hg => by
  rw [Pi.add_apply, Finsupp.add_apply] at hg
  rcases Nat.add_pos_iff_pos_or_pos.mp hg with hg | hg
  · exact h g i hg
  · exact h' g i hg
theorem Above.tally {b i n : ℕ} {g : GSem nD τ sig} (h : i ∈ L g) (h' : b < lv g i) : Above b (tallyAt g i n) := fun g' i' hg => by
  rw [tallyAt_apply] at hg
  by_cases e : g' = g ∧ i' = i
  · rw [e.1, e.2]; exact ⟨h, h'⟩
  · rw [if_neg e] at hg; exact absurd hg (Nat.lt_irrefl 0)
theorem Above.sum {T : Type} {b : ℕ} {S : Finset T} {O : T → CellTallies nD τ sig ℕ} (h : ∀ t ∈ S, Above b (O t)) : Above b (∑ t ∈ S, O t) := by
  classical
  induction S using Finset.induction_on with
  | empty => rw [Finset.sum_empty]; exact Above.zero b
  | insert t S ht ih =>
    rw [Finset.sum_insert ht]
    exact (h t (Finset.mem_insert_self _ _)).add (ih fun t' h' => h t' (Finset.mem_insert_of_mem h'))
theorem Above.mono {b b' : ℕ} {O : CellTallies nD τ sig ℕ} (hb : b' ≤ b) (h : Above b O) : Above b' O :=
  fun g i hg => ⟨(h g i hg).1, lt_of_le_of_lt hb (h g i hg).2⟩

/-- The levels, as one resource. -/
@[irreducible] def levs : sProp 𝕄 := levAts L lv
instance levs_persistent : BI.Persistent (levs (F := F)) := by unfold levs; infer_instance

/-- A device may wait below everything that it owes. -/
theorem mayWait (c : Dev nD) (sm : SemLoc sig) (i : ℕ) (hi : i < 32) {O : CellTallies nD τ sig ℕ} (h : Above (lv ((c : Thread nD τ), sm) i) O) :
    (levs : sProp 𝕄) ⊢ MayWait (c : Thread nD τ) sm i O := by
  unfold levs
  exact MayOwe.of_cut (L := L) (lev := lv) (lv ((c : Thread nD τ), sm) i)
    (fun p hp => by rw [Finset.mem_singleton.mp hp, L_tc]; exact Finset.mem_range.mpr hi)
    (fun g u hg => (h g u hg).1)
    (fun p hp => by rw [Finset.mem_singleton.mp hp])
    (fun g u hg => (h g u hg).2)

/-- What flow `j` of device `c` still owes with hops `n` on to send and credits `m` on to give. -/
def owedF (c : Dev nD) (j : Fin 8) (n m : ℕ) : CellTallies nD τ sig ℕ :=
  (∑ h ∈ Finset.Ico n (hops j), tallyAt (recvCell (dst c j) j (sl (h + 1))) h hopN)
    + ∑ d ∈ Finset.Ico m (hops j - 2), tallyAt (capCell (csrc c j) j) d 1

theorem lv_bar (c : Dev nD) (i : ℕ) : lv (barCell c) i = 1 := by show roleLev (role (.reg barS)) i = _; rw [role_bar]; rfl
theorem lv_cap (c : Dev nD) (j : Fin 8) (i : ℕ) : lv (capCell c j) i = 2 * i + 5 := by
  show roleLev (role (.reg (capS j))) i = _; rw [role_cap]; rfl
theorem lv_send (c : Dev nD) (j : Fin 8) (s : Fin 3) (i : ℕ) : lv (sendCell c j s) i = 2 * i + 2 := by
  show roleLev (role (.dma (sendS j s))) i = _; rw [role_send]; rfl
theorem lv_recv (c : Dev nD) (j : Fin 8) (s : Fin 3) (i : ℕ) : lv (recvCell c j s) i = 2 * i + 2 := by
  show roleLev (role (.dma (recvS j s))) i = _; rw [role_recv]; rfl

theorem hops_le (j : Fin 8) : hops j ≤ 16 := by unfold hops; split <;> decide
theorem hops_ge (j : Fin 8) : 15 ≤ hops j := by unfold hops; split <;> decide

theorem owedF_above {b : ℕ} (c : Dev nD) (j : Fin 8) {n m : ℕ} (hn : b < 2 * n + 2) (hm : b < 2 * m + 5) : Above b (owedF c j n m) := by
  have := hops_le j
  refine Above.add (Above.sum fun h hh => Above.tally ?_ ?_) (Above.sum fun d hd => Above.tally ?_ ?_)
  · have := Finset.mem_Ico.mp hh; rw [L_tc, Finset.mem_range]; omega
  · have := Finset.mem_Ico.mp hh; rw [lv_recv]; omega
  · have := Finset.mem_Ico.mp hd; rw [L_tc, Finset.mem_range]; omega
  · have := Finset.mem_Ico.mp hd; rw [lv_cap]; omega

theorem owedF_send (c : Dev nD) (j : Fin 8) {n : ℕ} (m : ℕ) (h : n < hops j) :
    owedF c j n m = owedF c j (n + 1) m + tallyAt (recvCell (dst c j) j (sl (n + 1))) n hopN := by
  unfold owedF
  rw [← Finset.sum_Ioo_add_eq_sum_Ico h, add_right_comm]; rfl
theorem owedF_cap (c : Dev nD) (j : Fin 8) (n : ℕ) {m : ℕ} (h : m < hops j - 2) :
    owedF c j n m = owedF c j n (m + 1) + tallyAt (capCell (csrc c j) j) m 1 := by
  unfold owedF
  rw [← Finset.sum_Ioo_add_eq_sum_Ico h, add_assoc]; rfl
theorem owedF_idle (c : Dev nD) (j : Fin 8) {n n' m m' : ℕ} (h : hops j ≤ n) (h' : hops j ≤ n') (hm : hops j - 2 ≤ m) (hm' : hops j - 2 ≤ m') :
    owedF c j n m = owedF c j n' m' := by
  unfold owedF
  rw [Finset.Ico_eq_empty_of_le h, Finset.Ico_eq_empty_of_le h', Finset.Ico_eq_empty_of_le hm, Finset.Ico_eq_empty_of_le hm']

end RingProof

end
-- ==== Proof.Moves.lean ====
module

public import proofs.«01_k».proof.Proof.Protocol

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open PCS URA Auth
open Cert.KernelIdeal Cert.KernelIdeal.Gen

variable {F : FTy → Type} [FloatOps F] [Named F]

local notation "𝕄" => MT nD τ sig ℕ (Elt F) ℕ UU ℕ

/-- No recursion in the kernel. -/
abbrev 𝒱₀ : Variants := Variants.none

/-- The weakest precondition of a piece of the kernel on device `c`. -/
abbrev WP (c : Dev nD) {α : Type} (p : K F α) (Q : α → sProp 𝕄) : sProp 𝕄 :=
  wp frame (wpE (defs₀ (F := F)) 𝒱₀ (c : Thread nD τ) none) Set.univ p Q

section Rules

variable {c : Dev nD} {α β : Type}

/-- One piece after another. -/
theorem WP_bind {P : sProp 𝕄} {p : K F α} {k : α → K F β} {Q : β → sProp 𝕄} (h : P ⊢ WP c p fun a => WP c (k a) Q) : P ⊢ WP c (p >>= k) Q :=
  BIBase.Entails.trans h (Entails.of_eq (wp_bind _ _ _ p k Q).symm)
theorem WP_seq {P : sProp 𝕄} {p : K F α} {k : α → K F β} {R : α → sProp 𝕄} {Q : β → sProp 𝕄} (h : P ⊢ WP c p R) (h' : ∀ a, R a ⊢ WP c (k a) Q) :
    P ⊢ WP c (p >>= k) Q :=
  WP_bind (BIBase.Entails.trans h (wp_mono _ _ _ h'))
/-- What a piece does not touch rides along. -/
theorem WP_frame {P P' : sProp 𝕄} {p : K F α} {R Q : α → sProp 𝕄} (S : sProp 𝕄) (h : P ⊢ WP c p R) (hp : P' ⊢ iprop(P ∗ S)) (hq : ∀ a, iprop(R a ∗ S) ⊢ Q a) :
    P' ⊢ WP c p Q :=
  BIBase.Entails.trans hp (BIBase.Entails.trans (sep_mono_l h) (BIBase.Entails.trans (wp_frame_r _ _ _) (wp_mono _ _ _ hq)))
theorem WP_post {P : sProp 𝕄} {p : K F α} {R Q : α → sProp 𝕄} (h : P ⊢ WP c p R) (hq : ∀ a, R a ⊢ Q a) : P ⊢ WP c p Q :=
  BIBase.Entails.trans h (wp_mono _ _ _ hq)
theorem WP_pure {P : sProp 𝕄} {a : α} {Q : α → sProp 𝕄} (h : P ⊢ Q a) : P ⊢ WP c (pure a : K F α) Q :=
  BIBase.Entails.trans h (le_wp_ret _ _ _ a Q)

end Rules

/-! ## The shared invariants -/

/-- The cells of one device's flows: per flow three send cells, three receive cells and the credit cell. -/
abbrev FC : Type := Fin 8 × (Fin 3 ⊕ Fin 3 ⊕ Unit)
/-- A flow cell's semaphore. -/
def fsem : FC → SemLoc sig
  | (j, .inl s) => .dma (sendS j s)
  | (j, .inr (.inl s)) => .dma (recvS j s)
  | (j, .inr (.inr _)) => .reg (capS j)
/-- The handshake's cells. -/
def barCells : Finset (GSem nD τ sig) := (Finset.univ : Finset (Dev nD)).image barCell
/-- The flows' cells. -/
def flowCells : Finset (GSem nD τ sig) := (Finset.univ : Finset (Dev nD × FC)).image fun x => ((x.1 : Thread nD τ), fsem x.2)
/-- The protocol's cells. -/
abbrev cells : Finset (GSem nD τ sig) := barCells ∪ flowCells
/-- The protocol's credits. -/
def keys : Finset Key := Finset.univ ×ˢ Finset.univ ×ˢ Finset.range 14

variable (B : Slabs F) (κ : GSem nD τ sig → ℕ) (ι : Key → ℕ)

theorem mem_bar (c : Dev nD) : barCell c ∈ cells :=
  Finset.mem_union_left _ (Finset.mem_image_of_mem _ (Finset.mem_univ c))
theorem mem_flow (c : Dev nD) (x : FC) : ((c : Thread nD τ), fsem x) ∈ cells :=
  Finset.mem_union_right _ (Finset.mem_image.mpr ⟨(c, x), Finset.mem_univ _, rfl⟩)
theorem mem_keys (c : Dev nD) (j : Fin 8) (d : ℕ) (h : d < 14) : (c, j, d) ∈ keys := by
  unfold keys; rw [Finset.mem_product, Finset.mem_product]; exact ⟨Finset.mem_univ _, Finset.mem_univ _, Finset.mem_range.mpr h⟩

/-- The levels, every cell's invariant and every credit's invariant. -/
def Inv : sProp 𝕄 :=
  iprop(levs ∗ bigSep cells (fun g => cellInv (ER F) (sched B) (κ g) g) ∗ bigSep keys (fun k => Release.slotInv (ES F) (ι k) k (keyS k)))

instance Inv_persistent : BI.Persistent (Inv B κ ι) := by unfold Inv; infer_instance

theorem Inv_lev : Inv B κ ι ⊢ levs := by unfold Inv; iintro ⟨H, -, -⟩; iexact H

theorem Inv_cell {g : GSem nD τ sig} (h : g ∈ cells) : Inv B κ ι ⊢ cellInv (ER F) (sched B) (κ g) g := by
  unfold Inv
  iintro ⟨-, H, -⟩
  iapply (show bigSep cells (fun g => cellInv (ER F) (sched B) (κ g) g) ⊢ cellInv (ER F) (sched B) (κ g) g from bigSep_elim h)
  iexact H

theorem Inv_bar (c : Dev nD) : Inv B κ ι ⊢ cellInv (ER F) (sched B) (κ (barCell c)) (barCell c) :=
  Inv_cell B κ ι (mem_bar c)
theorem Inv_cap (c : Dev nD) (j : Fin 8) : Inv B κ ι ⊢ cellInv (ER F) (sched B) (κ (capCell c j)) (capCell c j) :=
  Inv_cell B κ ι (mem_flow c (j, .inr (.inr ())))
theorem Inv_send (c : Dev nD) (j : Fin 8) (s : Fin 3) : Inv B κ ι ⊢ cellInv (ER F) (sched B) (κ (sendCell c j s)) (sendCell c j s) :=
  Inv_cell B κ ι (mem_flow c (j, .inl s))
theorem Inv_recv (c : Dev nD) (j : Fin 8) (s : Fin 3) : Inv B κ ι ⊢ cellInv (ER F) (sched B) (κ (recvCell c j s)) (recvCell c j s) :=
  Inv_cell B κ ι (mem_flow c (j, .inr (.inl s)))

theorem Inv_key (c : Dev nD) (j : Fin 8) (d : ℕ) (h : d < 14) :
    Inv B κ ι ⊢ Release.slotInv (ES F) (ι (c, j, d)) (c, j, d) (keyS (c, j, d)) := by
  unfold Inv
  iintro ⟨-, -, H⟩
  iapply (show bigSep keys (fun k => Release.slotInv (ES F) (ι k) k (keyS k)) ⊢ Release.slotInv (ES F) (ι (c, j, d)) (c, j, d) (keyS (c, j, d)) from
    bigSep_elim (Φ := fun k => Release.slotInv (ES F) (ι k) k (keyS k)) (mem_keys c j d h))
  iexact H

theorem may_recv (c : Dev nD) (j : Fin 8) (s : Fin 3) (i : ℕ) (hi : i < 32) {O : CellTallies nD τ sig ℕ} (h : Above (2 * i + 2) O) :
    Inv B κ ι ⊢ MayWait (c : Thread nD τ) (.dma (recvS j s)) i O :=
  (Inv_lev B κ ι).trans (mayWait c _ i hi (by rw [lv_recv]; exact h))
theorem may_send (c : Dev nD) (j : Fin 8) (s : Fin 3) (i : ℕ) (hi : i < 32) {O : CellTallies nD τ sig ℕ} (h : Above (2 * i + 2) O) :
    Inv B κ ι ⊢ MayWait (c : Thread nD τ) (.dma (sendS j s)) i O :=
  (Inv_lev B κ ι).trans (mayWait c _ i hi (by rw [lv_send]; exact h))
theorem may_cap (c : Dev nD) (j : Fin 8) (i : ℕ) (hi : i < 32) {O : CellTallies nD τ sig ℕ} (h : Above (2 * i + 5) O) :
    Inv B κ ι ⊢ MayWait (c : Thread nD τ) (.reg (capS j)) i O :=
  (Inv_lev B κ ι).trans (mayWait c _ i hi (by rw [lv_cap]; exact h))
theorem may_bar (c : Dev nD) (i : ℕ) (hi : i < 32) {O : CellTallies nD τ sig ℕ} (h : Above 1 O) :
    Inv B κ ι ⊢ MayWait (c : Thread nD τ) (.reg barS) i O :=
  (Inv_lev B κ ι).trans (mayWait c _ i hi (by rw [lv_bar]; exact h))

/-- What a device owes, whatever it has waited for. -/
abbrev debt (c : Dev nD) (O : CellTallies nD τ sig ℕ) : sProp 𝕄 := iprop(∃ W, owes (c : Thread nD τ) O W)

/-! ## The moves -/

theorem left_right : (fullShare : PosShare TreeShare) ∈ fullShare.left ·? fullShare.right := PosShare.mem_left_op_right fullShare

/-- A whole slot is its two halves. -/
theorem slotPts_halves (c : Dev nD) (j : Fin 8) (s : Fin 3) (f : Buf (Elt F) ((slotM j s).view.loc (c : Thread nD τ))) :
    slotPts c j s fullShare f ⊣⊢ iprop(slotPts c j s fullShare.left f ∗ slotPts (F := F) c j s fullShare.right f) :=
  pointsTo_share left_right

/-- What a device keeps of a slot whose contents are on their way. -/
def flight (c : Dev nD) (j : Fin 8) (n : ℕ) : sProp 𝕄 :=
  iprop(slotAt c j (sl n) fullShare.left (B (org j n c) j) ∗ cred (tallyAt (sendCell c j (sl n)) n hopN))

/-- Start hop `n` of flow `j`. -/
theorem start_hop (c : Dev nD) (j : Fin 8) (n : ℕ) (hn : n < hops j) (O : CellTallies nD τ sig ℕ) (m : ℕ) :
    iprop(Inv B κ ι ∗ slotAt c j (sl n) fullShare (B (org j n c) j) ∗ perm c j n
        ∗ reached (ER F) (sendCell c j (sl n)) (n / 3)
        ∗ dutyTok (ER F) (sendCell c j (sl n)) (n / 3) 0 ∗ dutyTok (ER F) (recvCell (dst c j) j (sl (n + 1))) (n / 3) 0
        ∗ debt c (O + owedF c j n m))
      ⊢ WP c (startHop (dst c j) j n) fun _ => iprop(flight B c j n ∗ debt c (O + owedF c j (n + 1) m)) := by
  unfold startHop slotAt perm slotAny flight
  iintro ⟨#HI, ⟨%f, %hf, Hs⟩, ⟨⟨%fd, Hd⟩, #HrD⟩, #HrS, HtS, HtD, ⟨%W, HO⟩⟩
  ihave Hh := (slotPts_halves c j (sl n) f).1 $$ Hs
  icases Hh with ⟨HsL, HsR⟩
  iapply (Rounds.wp_send_pointsTo 𝒱₀ (ER F) (sched B) (c : Thread nD τ) none (c' := (dst c j : Thread nD τ)) (src := slotM j (sl n)) (dst := slotM j (sl (n + 1)))
      (sS := .dma (sendS j (sl n))) (sem := .dma (recvS j (sl (n + 1)))) (q := fullShare.right) (fs := f) (fd := fd)
      (κ₁ := κ (sendCell c j (sl n))) (κ₂ := κ (recvCell (dst c j) j (sl (n + 1))))
      (r₁ := n / 3) (r₂ := n / 3) (d₁ := 0) (d₂ := 0)
      (by rw [duties_send B c j hn]; exact Finset.mem_singleton_self _) (by rw [duties_recv B (dst c j) j hn]; exact Finset.mem_singleton_self _)
      n n hopN (hopN_eq _ _) (amount_send B c j _ _ _) (amount_recv B (dst c j) j _ _ _) (O + owedF c j (n + 1) m)
      (O₀ := O + owedF c j n m) (by rw [owedF_send c j m hn, add_assoc]) (W := W)
      (by rw [payload_send, hopS_sl]; unfold slotAt; iintro H; iexists f; isplitr; · ipureintro; exact hf
          iexact H)
      (by rw [payload_recv, hopR_sl]; unfold slotAt; iintro H; iexists _; isplitr
          rotate_left; · iexact H
          ipureintro; rw [View.read_write_univ, hf]; show _ = B (org j n (csrc (dst c j) j)) j; rw [csrc_dst])) $$ [HsR Hd HO HtS HtD]
  · isplitr; · iapply (Inv_send B κ ι c j (sl n)); iexact HI
    isplitr; · iapply (Inv_recv B κ ι (dst c j) j (sl (n + 1))); iexact HI
    isplitl [HsR]; · iexact HsR
    isplitl [Hd]; · iexact Hd
    isplitl [HO]; · iexact HO
    isplitl [HtS]; · iexact HtS
    isplitr; · iexact HrS
    isplitl [HtD]; · iexact HtD
    iexact HrD
  iintro ⟨Hc, HO⟩
  rw [wp_ret]; imodintro
  isplitl [HsL Hc]
  · isplitl [HsL]
    · unfold slotAt; iexists f; isplitr; · ipureintro; exact hf
      iexact HsL
    · iexact Hc
  · iexists W; iexact HO

/-- Take the arrival of hop `n`: the slot that it filled, at the rows of the device `n + 1` hops back. -/
theorem recv_hop (c : Dev nD) (j : Fin 8) (n : ℕ) (hn : n < hops j) (O : CellTallies nD τ sig ℕ) (hO : Above (2 * n + 2) O) :
    iprop(Inv B κ ι ∗ cred (tallyAt (recvCell c j (sl (n + 1))) n hopN) ∗ atPos (ER F) (recvCell c j (sl (n + 1))) (n / 3) ∅ 0 ∗ debt c O)
      ⊢ WP c (recvWait j (n + 1)) fun _ => iprop(slotAt c j (sl (n + 1)) fullShare (B (org j (n + 1) c) j)
        ∗ (atPos (ER F) (recvCell c j (sl (n + 1))) (n / 3 + 1) ∅ 0 ∗ reached (ER F) (recvCell c j (sl (n + 1))) (n / 3 + 1)) ∗ debt c O) := by
  have hj := hops_le j
  unfold recvWait
  iintro ⟨#HI, Hc, Hat, ⟨%W, HO⟩⟩
  iapply (Rounds.wp_wait_rest_token 𝒱₀ (ER F) (sched B) (c : Thread nD τ) none (κ := κ (recvCell c j (sl (n + 1))))
      (wpE_waitDma2_eq 𝒱₀ (c : Thread nD τ) none Set.univ) (Set.mem_univ _) n (O := O) (W := W) (R := n / 3) (m := 0) (T := ∅)
      (by rw [Nat.zero_add, hopN_eq, expect_recv B c j hn])) $$ [Hc HO Hat]
  · isplitr; · iapply (Inv_recv B κ ι c j (sl (n + 1))); iexact HI
    isplitl [Hc]; · rw [hopN_eq]; iexact Hc
    isplitl [HO]; · iexact HO
    isplitr
    · iapply (may_recv B κ ι c j (sl (n + 1)) n (by omega) hO); iexact HI
    iexact Hat
  iintro ⟨HO, Hat, #Hr, Hpay⟩
  ihave Hs := (Entails.of_eq (rest_recv B c j hn)) $$ Hpay
  rw [wp_ret]; imodintro
  isplitl [Hs]; · iexact Hs
  isplitl [Hat]; · isplitl; · iexact Hat
                   iexact Hr
  iexists _; iexact HO

/-- Hop `n` has left its slot: the slot is whole again. -/
theorem send_done (c : Dev nD) (j : Fin 8) (n : ℕ) (hn : n < hops j) (O : CellTallies nD τ sig ℕ) (hO : Above (2 * n + 2) O) :
    iprop(Inv B κ ι ∗ flight B c j n ∗ atPos (ER F) (sendCell c j (sl n)) (n / 3) ∅ 0 ∗ debt c O)
      ⊢ WP c (Prog.lift (.waitDma2 (sendS j (sl n)) (slotM j (sl (n + 1))) (slotM j (sl n)) (slotExact _ _) (slotExact _ _))) fun _ =>
        iprop(slotAny c j (sl n)
        ∗ (atPos (ER F) (sendCell c j (sl n)) (n / 3 + 1) ∅ 0 ∗ reached (ER F) (sendCell c j (sl n)) (n / 3 + 1)) ∗ debt c O) := by
  have hj := hops_le j
  unfold flight
  iintro ⟨#HI, ⟨HsL, Hc⟩, Hat, ⟨%W, HO⟩⟩
  iapply (Rounds.wp_wait_rest_token 𝒱₀ (ER F) (sched B) (c : Thread nD τ) none (κ := κ (sendCell c j (sl n)))
      (wpE_waitDma2_eq 𝒱₀ (c : Thread nD τ) none Set.univ) (Set.mem_univ _) n (O := O) (W := W) (R := n / 3) (m := 0) (T := ∅)
      (by rw [Nat.zero_add, hopN_eq, expect_send B c j hn])) $$ [Hc HO Hat]
  · isplitr; · iapply (Inv_send B κ ι c j (sl n)); iexact HI
    isplitl [Hc]; · rw [hopN_eq]; iexact Hc
    isplitl [HO]; · iexact HO
    isplitr
    · iapply (may_send B κ ι c j (sl n) n (by omega) hO); iexact HI
    iexact Hat
  iintro ⟨HO, Hat, #Hr, Hpay⟩
  ihave HsR := (Entails.of_eq (rest_send B c j hn)) $$ Hpay
  unfold slotAt slotAny
  icases HsL with ⟨%f, -, HsL⟩
  icases HsR with ⟨%g, -, HsR⟩
  rw [wp_ret]; imodintro
  isplitl [HsL HsR]
  · ihave %he := pointsTo_agree $$ [HsL HsR]
    · isplitl [HsL]; · iexact HsL
      iexact HsR
    ihave HsR := (Entails.of_eq (pointsTo_congr (q := fullShare.right) (f := g) (g := f) fun i hi => (he i (Finset.mem_inter.mpr ⟨hi, hi⟩)).1.symm)) $$ HsR
    iexists f
    iapply (slotPts_halves c j (sl n) f).2
    isplitl [HsL]; · iexact HsL
    iexact HsR
  isplitl [Hat]; · isplitl; · iexact Hat
                   iexact Hr
  iexists _; iexact HO

/-- Where a device stands on its credit cell after taking `m` credits. -/
def capPos (c : Dev nD) (j : Fin 8) (m : ℕ) : sProp 𝕄 :=
  iprop(∃ S : Finset ℕ, ⌜S ⊆ Finset.range (hops j - 2) ∧ m + (Finset.range (hops j - 2) \ S).card ≤ hops j - 2⌝
    ∗ atPos (ER F) (capCell c j) 0 S m ∗ bigSep S (capPay c j))

/-- Take a credit: hop `d + 2` may start. -/
theorem take_credit (c : Dev nD) (j : Fin 8) (d : ℕ) (hd : d < hops j - 2) (O : CellTallies nD τ sig ℕ) (hO : Above (2 * d + 5) O) :
    iprop(Inv B κ ι ∗ cred (tallyAt (capCell c j) d 1) ∗ Release.writeTok (ES F) (dst c j, j, d) 1 ∗ capPos c j d ∗ debt c O)
      ⊢ WP c (semWaitWord (capS j) 1#32) fun _ => iprop(perm c j (d + 2) ∗ capPos c j (d + 1) ∗ debt c O) := by
  have hj := hops_le j
  show _ ⊢ wp frame (wpE (defs₀ (F := F)) 𝒱₀ (c : Thread nD τ) none) Set.univ (.op (.semWait (capS j) ((1 : ℕ) : ℤ)) .ret) _
  unfold capPos
  iintro ⟨#HI, Hc, Hw, ⟨%T, %hT, Hat, #HT⟩, ⟨%W, HO⟩⟩
  iapply (Rounds.wp_wait 𝒱₀ (ER F) (sched B) (c : Thread nD τ) none (κ := κ (capCell c j)) (k' := 1)
      (wpE_semWait_eq 𝒱₀ (c : Thread nD τ) none Set.univ) (Set.mem_univ _) {(SemLoc.reg (capS j), d)} (cr := Finsupp.single d 1) (O := O) (W := W) (R := 0) (m := d) (T := T)
      (by rw [Util.total_single]) (image_single_subset _ _ _)) $$ [Hc HO Hat]
  · isplitr; · iapply (Inv_cap B κ ι c j); iexact HI
    isplitl [Hc]; · iexact Hc
    isplitl [HO]; · iexact HO
    isplitr
    · iapply (may_cap B κ ι c j d (by omega) hO); iexact HI
    iexact Hat
  iintro %S ⟨%hS, HO, Hat, Hpay⟩
  obtain ⟨hTS, hSD, hm⟩ := hS
  rw [duties_cap] at hSD hm
  rw [expect_cap] at hm
  ihave #Hall := (show iprop(bigSep T (capPay c j) ∗ bigSep (S \ T) (fun u => (sched B).payload (capCell c j) 0 u)) ⊢ bigSep S (capPay c j) from by
    rw [bigSep_congr fun u _ => payload_cap B c j 0 u]
    exact Entails.of_eq (bigSep_sdiff_split hTS (Φ := capPay c j)).symm) $$ [Hpay]
  · isplitr; · iexact HT
    iexact Hpay
  have hcard := Finset.card_sdiff_add_card_eq_card hSD
  rw [Finset.card_range] at hcard
  have hex : ∃ e ∈ S, d ≤ e := by
    by_contra hno
    push Not at hno
    have := Finset.card_le_card (show S ⊆ Finset.range d from fun e he => Finset.mem_range.mpr (hno e he))
    rw [Finset.card_range] at this
    omega
  obtain ⟨e, heS, hde⟩ := hex
  ihave #Hrel := (show bigSep S (capPay c j) ⊢ Release.released (ES F) (dst c j, j, d) 1 from
    (bigSep_elim heS (Φ := capPay c j)).trans (bigSep_elim (Finset.mem_range.mpr (by omega)))) $$ Hall
  imod (Release.slot_take (ES F) (ι := ι (dst c j, j, d)) (k := (dst c j, j, d)) (S := keyS (dst c j, j, d)) (Set.mem_univ _) 1) $$ [Hw] with HS
  · isplitr; · iapply (Inv_key B κ ι (dst c j) j d (by omega)); iexact HI
    isplitr; · iexact Hrel
    iexact Hw
  rw [wp_ret]; imodintro
  isplitl [HS]
  · iapply (Entails.of_eq (show keyS (F := F) (dst c j, j, d) = perm c j (d + 2) from by unfold keyS; rw [csrc_dst])); iexact HS
  isplitl [Hat]
  · iexists S
    isplitr; · ipureintro; exact ⟨hSD, hm⟩
    isplitl [Hat]; · iexact Hat
    iexact Hall
  iexists _; iexact HO

end RingProof

end
-- ==== Proof.Slots.lean ====
module

public import proofs.«01_k».proof.Proof.Moves
public import Idealize.ShloMosaic.Lib.ValueLayout

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

/-! ## The elements of a slot and of its halves -/

/-- Element `x` of half `b`, as an element of the slot. -/
def inSlot (b : Fin 2) (x : S1x1x128x128.Idx) : S2x128x128.Idx := ValueIdx.ix3 b (x 2) (x 3)
/-- An element of a slot, as an element of its half. -/
def inHalf (i : S2x128x128.Idx) : S1x1x128x128.Idx := ValueIdx.ix4 (0 : Fin 1) (0 : Fin 1) (i 1) (i 2)

/-- Which half an element of a slot lies in. -/
def sideOf (i : S2x128x128.Idx) : Fin 2 := i 0

theorem inSlot_inHalf (i : S2x128x128.Idx) : inSlot (sideOf i) (inHalf i) = i := (ValueIdx.eq_ix3 i).symm

/-- Half `b` of a slot's contents. -/
def halfOf (V : S2x128x128.Idx → Elt F .bf16) (b : Fin 2) : Vec F S1x1x128x128 .bf16 := fun x => V (inSlot b x)

/-- A slot put together from its halves. -/
def slabOf (kk vv : Vec F S1x1x128x128 .bf16) : S2x128x128.Idx → Elt F .bf16 := fun i => if sideOf i = 0 then kk (inHalf i) else vv (inHalf i)

theorem halfOf_slabOf_zero (kk vv : Vec F S1x1x128x128 .bf16) : halfOf (slabOf kk vv) 0 = kk := by
  funext x
  have e : slabOf kk vv (inSlot 0 x) = kk (inHalf (inSlot 0 x)) := if_pos rfl
  show slabOf kk vv (inSlot 0 x) = kk x
  rw [e]; congr 1; funext a
  match a with
  | ⟨0, _⟩ => exact Fin.ext (by have h : (x 0).val < 1 := (x 0).isLt
                                have e : (inHalf (inSlot 0 x) 0).val = 0 := rfl
                                show (inHalf (inSlot 0 x) 0).val = (x 0).val; omega)
  | ⟨1, _⟩ => exact Fin.ext (by have h : (x 1).val < 1 := (x 1).isLt
                                have e : (inHalf (inSlot 0 x) 1).val = 0 := rfl
                                show (inHalf (inSlot 0 x) 1).val = (x 1).val; omega)
  | ⟨2, _⟩ => rfl
  | ⟨3, _⟩ => rfl
theorem halfOf_slabOf_one (kk vv : Vec F S1x1x128x128 .bf16) : halfOf (slabOf kk vv) 1 = vv := by
  funext x
  have e : slabOf kk vv (inSlot 1 x) = vv (inHalf (inSlot 1 x)) := if_neg (show ¬ (1 : Fin 2) = 0 by decide)
  show slabOf kk vv (inSlot 1 x) = vv x
  rw [e]; congr 1; funext a
  match a with
  | ⟨0, _⟩ => exact Fin.ext (by have h : (x 0).val < 1 := (x 0).isLt
                                have e : (inHalf (inSlot 1 x) 0).val = 0 := rfl
                                show (inHalf (inSlot 1 x) 0).val = (x 0).val; omega)
  | ⟨1, _⟩ => exact Fin.ext (by have h : (x 1).val < 1 := (x 1).isLt
                                have e : (inHalf (inSlot 1 x) 1).val = 0 := rfl
                                show (inHalf (inSlot 1 x) 1).val = (x 1).val; omega)
  | ⟨2, _⟩ => rfl
  | ⟨3, _⟩ => rfl

/-- Element `(a, b, d)` of slot `s` in the whole buffer. -/
theorem slotR_emb (s : Fin 3) (a : Fin 2) (b d : Fin 128) :
    (slotR s).emb (Shape.reshapeEquiv squeezes_S1x2x128x128_S2x128x128.numel_eq (ValueIdx.ix3 a b d)) = (ValueIdx.ix4 s a b d : S3x2x128x128.Idx) := by
  refine (congrArg (slotR s).emb (ValueIdx.reshapeEquiv_ix3_1abc (a := 2) (b := 128) (c := 128) squeezes_S1x2x128x128_S2x128x128.numel_eq a b d)).trans ?_
  funext i
  match i with
  | ⟨0, _⟩ => exact Fin.ext (by show s.val + 1 * 0 = s.val; omega)
  | ⟨1, _⟩ => exact Fin.ext (by show 0 + 1 * a.val = a.val; omega)
  | ⟨2, _⟩ => exact Fin.ext (by show 0 + 1 * b.val = b.val; omega)
  | ⟨3, _⟩ => exact Fin.ext (by show 0 + 1 * d.val = d.val; omega)

/-- Element `(z, w, b, d)` of half `h` of slot `s` in the whole buffer. -/
theorem halfR_emb (s : Fin 3) (h : Fin 2) (x : S1x1x128x128.Idx) :
    (halfR s h).emb x = (ValueIdx.ix4 s h (x 2) (x 3) : S3x2x128x128.Idx) := by
  have h0 : (x 0).val < 1 := (x 0).isLt
  have h1 : (x 1).val < 1 := (x 1).isLt
  funext i
  match i with
  | ⟨0, _⟩ => exact Fin.ext (by show s.val + 1 * (x 0).val = s.val; omega)
  | ⟨1, _⟩ => exact Fin.ext (by show h.val + 1 * (x 1).val = h.val; omega)
  | ⟨2, _⟩ => exact Fin.ext (by show 0 + 1 * (x 2).val = (x 2).val; omega)
  | ⟨3, _⟩ => exact Fin.ext (by show 0 + 1 * (x 3).val = (x 3).val; omega)

/-- The whole buffer's element that element `x` of half `b` of slot `s` is. -/
theorem half_emb (j : Fin 8) (s : Fin 3) (b : Fin 2) (x : S1x1x128x128.Idx) :
    ((comm j).access (halfR s b)).emb x = (slotM j s).view.emb (inSlot b x) :=
  congrArg (comm j).view.emb ((halfR_emb s b x).trans (slotR_emb s b (x 2) (x 3)).symm)

theorem half_subset (j : Fin 8) (s : Fin 3) (b : Fin 2) : ((comm j).access (halfR s b)).set ⊆ (slotM j s).view.set := fun y hy => by
  obtain ⟨x, -, rfl⟩ := Finset.mem_map.mp hy
  rw [half_emb]; exact View.emb_mem_set _ _

/-- Reading half `b` of a slot reads that half of its contents. -/
theorem read_half (c : Dev nD) (j : Fin 8) (s : Fin 3) (b : Fin 2) (f : Buf (Elt F) ((slotM j s).view.loc (c : Thread nD τ))) :
    ((comm j).access (halfR s b)).read (Elt F) f = halfOf ((slotM j s).view.read (Elt F) f) b := by
  funext x
  show _ = (slotM j s).view.read (Elt F) f (inSlot b x)
  rw [View.read_apply, View.read_apply, half_emb]

/-- Writing both halves of a slot makes it the two put together. -/
theorem read_halves (c : Dev nD) (j : Fin 8) (s : Fin 3) (kk vv : Vec F S1x1x128x128 .bf16) (f : Buf (Elt F) ((slotM j s).view.loc (c : Thread nD τ))) :
    (slotM j s).view.read (Elt F) (((comm j).access (halfR s 1)).write (Elt F) (((comm j).access (halfR s 0)).write (Elt F) f kk Finset.univ) vv Finset.univ)
      = slabOf kk vv := by
  funext i
  have hi : i = inSlot (sideOf i) (inHalf i) := (inSlot_inHalf i).symm
  have hside : sideOf i = 0 ∨ sideOf i = 1 := (by decide : ∀ b : Fin 2, b = 0 ∨ b = 1) _
  rcases hside with h | h
  · have hs : slabOf kk vv i = kk (inHalf i) := if_pos h
    rw [hs]; rw [h] at hi
    rw [View.read_apply]
    generalize inHalf i = x at hi ⊢
    subst hi
    have hno : (slotM j s).view.emb (inSlot 0 x) ∉ ((comm j).access (halfR s 1)).setOn Finset.univ := fun hm => by
      obtain ⟨y, -, hy⟩ := Finset.mem_map.mp hm
      rw [half_emb] at hy
      have h10 : (1 : Fin 2) = 0 := congrFun ((slotM j s).view.emb.injective hy) 0
      exact absurd h10 (by decide)
    have e1 := View.write_of_not_mem (Val := Elt F) (v := (comm j).access (halfR s 1)) (((comm j).access (halfR s 0)).write (Elt F) f kk Finset.univ) vv Finset.univ hno
    have e2 := View.write_emb_of_mem (Val := Elt F) (v := (comm j).access (halfR s 0)) f kk (Finset.mem_univ x)
    rw [half_emb] at e2
    rw [e1, e2]; exact cast_cast _ _ _
  · have hs : slabOf kk vv i = vv (inHalf i) := if_neg (by rw [h]; decide)
    rw [hs]; rw [h] at hi
    rw [View.read_apply]
    generalize inHalf i = x at hi ⊢
    subst hi
    have e2 := View.write_emb_of_mem (Val := Elt F) (v := (comm j).access (halfR s 1)) (((comm j).access (halfR s 0)).write (Elt F) f kk Finset.univ) vv (Finset.mem_univ x)
    rw [half_emb] at e2
    rw [e2]; exact cast_cast _ _ _

/-! ## Loading and storing halves -/

/-- Load half `b` of a slot. -/
theorem load_half (c : Dev nD) (j : Fin 8) (s : Fin 3) (b : Fin 2) (q : PosShare TreeShare) (V : S2x128x128.Idx → Elt F .bf16) :
    (slotAt c j s q V : sProp 𝕄) ⊢ WP c (loadHalf j s b) fun v => iprop(⌜v = halfOf V b⌝ ∗ slotAt c j s q V) := by
  unfold loadHalf slotAt
  iintro ⟨%f, %hf, Hs⟩
  iapply (wp_load_rect 𝒱₀ (c : Thread nD τ) none Set.univ (m := comm j) (r := halfR s b) (S := (slotM j s).view.set) (q := q) (f := f) (half_subset j s b)) $$ [Hs]
  · iexact Hs
  iintro Hs
  rw [wp_ret]; imodintro
  isplitr
  · ipureintro; rw [← hf]; exact read_half c j s b f
  iexists f; isplitr; · ipureintro; exact hf
  iexact Hs

/-- Store the own rows into half `b` of a flow's slot 0. -/
theorem put_half (c : Dev nD) (j : Fin 8) (b : Fin 2) (x : FVec F S512x128 .bf16) (f : Buf (Elt F) ((slotM j 0).view.loc (c : Thread nD τ))) :
    (slotPts c j 0 fullShare f : sProp 𝕄) ⊢ WP c (putHalf x b j) fun _ =>
      slotPts c j 0 fullShare (((comm j).access (halfR 0 b)).write (Elt F) f (quarter x (quarterOf j)) Finset.univ) := by
  unfold putHalf
  unfold loadHalf
  refine WP_bind ?_
  iintro Hs
  iapply (wp_load_rect 𝒱₀ (c : Thread nD τ) none Set.univ (m := comm j) (r := halfR 0 b) (S := (slotM j 0).view.set) (q := fullShare) (f := f) (half_subset j 0 b)) $$ [Hs]
  · iexact Hs
  iintro Hs
  rw [wp_ret]; imodintro
  iapply (wp_store 𝒱₀ (c : Thread nD τ) none Set.univ (m := comm j) (r := halfR 0 b) (S := (slotM j 0).view.set) (f := f) (half_subset j 0 b)) $$ [Hs]
  · iexact Hs
  iintro Hs
  rw [wp_ret]; imodintro
  iexact Hs

/-- A flow's own rows. -/
def slabIn (kk vv : FVec F S512x128 .bf16) (j : Fin 8) : S2x128x128.Idx → Elt F .bf16 := slabOf (quarter kk (quarterOf j)) (quarter vv (quarterOf j))

/-- Store the own rows into a flow's slot 0. -/
theorem put_flow (c : Dev nD) (j : Fin 8) (kk vv : FVec F S512x128 .bf16) :
    (slotAny c j 0 : sProp 𝕄) ⊢ WP c (putF kk vv j) fun _ => slotAt c j 0 fullShare (slabIn kk vv j) := by
  unfold putF slotAny slotAt
  refine WP_bind ?_
  iintro ⟨%f, Hs⟩
  iapply (wp_wand (Fr := frame) (wpE := wpE (defs₀ (F := F)) 𝒱₀ (c : Thread nD τ) none) (E := Set.univ)) $$ [Hs]
  · iapply (put_half c j 0 kk f); iexact Hs
  iintro %_ Hs
  iapply (wp_wand (Fr := frame) (wpE := wpE (defs₀ (F := F)) 𝒱₀ (c : Thread nD τ) none) (E := Set.univ)) $$ [Hs]
  · iapply (put_half c j 1 vv _); iexact Hs
  iintro %_ Hs
  iexists _
  isplitr
  rotate_left
  · iexact Hs
  ipureintro
  exact read_halves c j 0 _ _ f

end RingProof

end
-- ==== Proof.Credit.lean ====
module

public import proofs.«01_k».proof.Proof.Slots
public import Idealize.SL.BI.BigOpNat

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

variable (B : Slabs F) (κ : GSem nD τ sig → ℕ) (ι : Key → ℕ)

/-- One member of a separating conjunction set apart. -/
theorem bs_erase {I : Type} [DecidableEq I] {s : Finset I} {i : I} (hi : i ∈ s) (Φ : I → sProp 𝕄) : bigSep s Φ = iprop(Φ i ∗ bigSep (s.erase i) Φ) :=
  bigSep_erase hi
theorem bs_sep {I : Type} (s : Finset I) (Φ Ψ : I → sProp 𝕄) : bigSep s (fun i => iprop(Φ i ∗ Ψ i)) = iprop(bigSep s Φ ∗ bigSep s Ψ) :=
  bigSep_sep s Φ Ψ

theorem sl_eq {a b : ℕ} (h : a % 3 = b % 3) : sl a = sl b := Fin.ext h

/-- A piece whose triple is known, inside a larger goal. -/
theorem WP_use {c : Dev nD} {α : Type} {P : sProp 𝕄} {p : K F α} {R Q : α → sProp 𝕄} (h : P ⊢ WP c p R) :
    P ⊢ iprop((∀ a, R a -∗ Q a) -∗ WP c p Q) := by
  iintro HP HQ
  iapply (wp_wand (Fr := frame) (wpE := wpE (defs₀ (F := F)) 𝒱₀ (c : Thread nD τ) none) (E := Set.univ)) $$ [HP]
  · iapply h; iexact HP
  iexact HQ

/-- The same with more of the program to come. -/
theorem WP_then {c : Dev nD} {α β : Type} {P : sProp 𝕄} {p : K F α} {k : α → K F β} {R : α → sProp 𝕄} {Q : β → sProp 𝕄} (h : P ⊢ WP c p R) :
    P ⊢ iprop((∀ a, R a -∗ WP c (k a) Q) -∗ WP c (p >>= k) Q) := by
  iintro HP HQ
  iapply (show WP c p (fun a => WP c (k a) Q) ⊢ WP c (p >>= k) Q from WP_bind BIBase.Entails.refl)
  iapply (WP_use (Q := fun a => WP c (k a) Q) h) $$ [HP]
  · iexact HP
  iexact HQ

theorem slotAny_twice (c : Dev nD) (j : Fin 8) (s : Fin 3) : iprop(slotAny c j s ∗ slotAny c j s) ⊢ (False : sProp 𝕄) := by
  have hne : ((slotM j s).view.set).Nonempty := ⟨(slotM j s).view.emb (inSlot 0 (ValueIdx.ix4 0 0 0 0)), View.emb_mem_set _ _⟩
  exact Release.slot_slot_false (Ix := ℕ) (Val := Elt F) (Name := ℕ) (U := UU) (Lvl := ℕ) (ℓ := (slotM j s).view.loc (c : Thread nD τ)) hne

theorem perm_twice (c : Dev nD) (j : Fin 8) (n : ℕ) : iprop(perm c j n ∗ perm c j n) ⊢ (False : sProp 𝕄) := by
  unfold perm
  iintro ⟨⟨H, -⟩, ⟨H', -⟩⟩
  iapply (slotAny_twice (dst c j) j (sl (n + 1)))
  isplitl [H] <;> iassumption

/-- The credits that a device has given so far. -/
def gave (c : Dev nD) (j : Fin 8) (d : ℕ) : sProp 𝕄 :=
  bigSep (Finset.range (min d (hops j - 2))) fun i => Release.released (ES F) (c, j, i) 1

instance gave_persistent (c : Dev nD) (j : Fin 8) (d : ℕ) : BI.Persistent (gave (F := F) c j d) := by unfold gave; infer_instance

theorem gave_succ (c : Dev nD) (j : Fin 8) {d : ℕ} (hd : d < hops j - 2) :
    iprop(gave (F := F) c j d ∗ Release.released (ES F) (c, j, d) 1) ⊢ gave (F := F) c j (d + 1) := by
  unfold gave
  rw [Nat.min_eq_left hd.le, Nat.min_eq_left hd, bigSep_range_succ]
  iintro ⟨H, H'⟩
  isplitl [H'] <;> iassumption
theorem gave_idle (c : Dev nD) (j : Fin 8) {d d' : ℕ} (hd : hops j - 2 ≤ d) (hd' : hops j - 2 ≤ d') : gave (F := F) c j d = gave c j d' := by
  unfold gave; rw [Nat.min_eq_right hd, Nat.min_eq_right hd']

theorem gave_pay (c : Dev nD) (j : Fin 8) {d : ℕ} (hd : d < hops j - 2) : gave (F := F) c j (d + 1) ⊢ capPay (csrc c j) j d := by
  unfold gave capPay; rw [Nat.min_eq_left hd, dst_csrc]

/-- Give a credit: slot `d` goes back to the device that writes it, for hop `d + 2`. -/
theorem give_credit (c : Dev nD) (j : Fin 8) (d : ℕ) (hd : d < hops j - 2) (O : CellTallies nD τ sig ℕ) (n : ℕ) :
    iprop(Inv B κ ι ∗ slotAny c j (sl d) ∗ reached (ER F) (recvCell c j (sl d)) ((d + 2) / 3) ∗ Release.readerAt (ES F) (c, j, d) 0
        ∗ dutyTok (ER F) (capCell (csrc c j) j) 0 d ∗ reached (ER F) (capCell (csrc c j) j) 0 ∗ gave c j d ∗ debt c (O + owedF c j n d))
      ⊢ WP c (semSignalWord (csrc c j) (capS j) 1#32) fun _ => iprop(gave c j (d + 1) ∗ debt c (O + owedF c j n (d + 1))) := by
  have hj := hops_le j
  show _ ⊢ wp frame (wpE (defs₀ (F := F)) 𝒱₀ (c : Thread nD τ) none) Set.univ (.op (.semSignal (csrc c j : Thread nD τ) (capS j) ((1 : ℕ) : ℤ)) .ret) _
  have hkey : keyS (F := F) (c, j, d) = iprop(slotAny c j (sl d) ∗ reached (ER F) (recvCell c j (sl d)) ((d + 2) / 3)) := by
    show perm (csrc c j) j (d + 2) = _
    unfold perm; rw [dst_csrc, sl_eq (show (d + 2 + 1) % 3 = d % 3 by omega)]
  iintro ⟨#HI, Hs, #Hr, Hrd, Ht, #Hcap, #Hg, ⟨%W, HO⟩⟩
  imod (Release.slot_release (ES F) (ι := ι (c, j, d)) (k := (c, j, d)) (S := keyS (c, j, d)) (Set.mem_univ _) (perm_twice _ _ _) 0) $$ [Hs Hrd] with ⟨-, #Hrel⟩
  · isplitr; · iapply (Inv_key B κ ι c j d (by omega)); iexact HI
    isplitl [Hrd]; · iexact Hrd
    rw [hkey]; isplitl [Hs]; · iexact Hs
    iexact Hr
  ihave #Hg' := (gave_succ c j hd) $$ []
  · isplitr; · iexact Hg
    iexact Hrel
  iapply (Rounds.wp_signal 𝒱₀ (ER F) (sched B) (c : Thread nD τ) none (dst := (csrc c j : Thread nD τ)) (sem := capS j) (κ := κ (capCell (csrc c j) j)) (r := 0) (d := d) (k' := 1)
    (by rw [duties_cap]; exact Finset.mem_range.mpr hd) (amount_cap B (csrc c j) j 0 d) d (O₀ := O + owedF c j n d) (O + owedF c j n (d + 1))
    (by rw [owedF_cap c j n hd, add_assoc]) (W := W) (Es := Set.univ)) $$ [HO Ht]
  · isplitr; · iapply (Inv_cap B κ ι (csrc c j) j); iexact HI
    isplitl [HO]; · iexact HO
    isplitl [Ht]; · iexact Ht
    isplitr
    · rw [payload_cap]; iapply (gave_pay c j hd); iexact Hg'
    iexact Hcap
  iintro HO
  rw [wp_ret]; imodintro
  isplitr; · iexact Hg'
  iexists W; iexact HO

/-! ## Where a device stands on three cells that are used in turn -/

/-- The uses of cell `s` among the first `x`. -/
abbrev rnd (x : ℕ) (s : Fin 3) : ℕ := (x + 2 - s.val) / 3

/-- The positions after `x` uses in turn. -/
def pos (g : Fin 3 → GSem nD τ sig) (x : ℕ) : sProp 𝕄 :=
  bigSep Finset.univ fun s => iprop(atPos (ER F) (g s) (rnd x s) ∅ 0 ∗ reached (ER F) (g s) (rnd x s))

/-- The send cells, in the order of their use. -/
abbrev sendG (c : Dev nD) (j : Fin 8) (s : Fin 3) : GSem nD τ sig := sendCell c j s
/-- The receive cells, in the order of their use. -/
abbrev recvG (c : Dev nD) (j : Fin 8) (s : Fin 3) : GSem nD τ sig := recvCell c j (sl (s.val + 1))

theorem recvG_sl (c : Dev nD) (j : Fin 8) (n : ℕ) : recvG c j (sl n) = recvCell c j (sl (n + 1)) :=
  congrArg (recvCell c j) (sl_eq (show (n % 3 + 1) % 3 = (n + 1) % 3 by omega))

theorem rnd_sl (n : ℕ) : rnd n (sl n) = n / 3 := by show (n + 2 - n % 3) / 3 = n / 3; omega
theorem rnd_sl' (n : ℕ) : rnd (n + 1) (sl n) = n / 3 + 1 := by show (n + 1 + 2 - n % 3) / 3 = n / 3 + 1; omega
theorem rnd_ne (n : ℕ) (s : Fin 3) (h : s ≠ sl n) : rnd (n + 1) s = rnd n s := by
  have h1 : s.val ≠ n % 3 := fun e => h (Fin.ext e)
  have h2 := s.isLt
  show (n + 1 + 2 - s.val) / 3 = (n + 2 - s.val) / 3
  omega

/-- The next use takes the next cell in turn, and moves its position on by one. -/
theorem pos_use (g : Fin 3 → GSem nD τ sig) (n : ℕ) :
    pos g n ⊢ iprop((atPos (ER F) (g (sl n)) (n / 3) ∅ 0 ∗ reached (ER F) (g (sl n)) (n / 3))
      ∗ ((atPos (ER F) (g (sl n)) (n / 3 + 1) ∅ 0 ∗ reached (ER F) (g (sl n)) (n / 3 + 1)) -∗ pos g (n + 1))) := by
  unfold pos
  rw [bs_erase (Finset.mem_univ (sl n)) (fun s => iprop(atPos (ER F) (g s) (rnd n s) ∅ 0 ∗ reached (ER F) (g s) (rnd n s))),
    bs_erase (Finset.mem_univ (sl n)) (fun s => iprop(atPos (ER F) (g s) (rnd (n + 1) s) ∅ 0 ∗ reached (ER F) (g s) (rnd (n + 1) s))),
    rnd_sl, rnd_sl', bigSep_congr (s := Finset.univ.erase (sl n)) (Φ := fun s => iprop(atPos (ER F) (g s) (rnd (n + 1) s) ∅ 0 ∗ reached (ER F) (g s) (rnd (n + 1) s)))
      (Ψ := fun s => iprop(atPos (ER F) (g s) (rnd n s) ∅ 0 ∗ reached (ER F) (g s) (rnd n s))) (fun s hs => by rw [rnd_ne n s (Finset.ne_of_mem_erase hs)])]
  iintro ⟨H, HR⟩
  isplitl [H]; · iexact H
  iintro H
  isplitl [H]; · iexact H
  iexact HR

/-- Round `n / 3` of the cell next in turn has been reached. -/
theorem pos_next (g : Fin 3 → GSem nD τ sig) (n : ℕ) : pos (F := F) g n ⊢ reached (ER F) (g (sl n)) (n / 3) := by
  refine (pos_use g n).trans ?_
  iintro ⟨⟨-, H⟩, -⟩; iexact H

/-- So has round `(n + 1) / 3` of the one after. -/
theorem pos_ahead (g : Fin 3 → GSem nD τ sig) (n : ℕ) : pos (F := F) g n ⊢ reached (ER F) (g (sl (n + 1))) ((n + 1) / 3) := by
  unfold pos
  rw [bs_erase (Finset.mem_univ (sl (n + 1))) (fun s => iprop(atPos (ER F) (g s) (rnd n s) ∅ 0 ∗ reached (ER F) (g s) (rnd n s))),
    show rnd n (sl (n + 1)) = (n + 1) / 3 by show (n + 2 - (n + 1) % 3) / 3 = (n + 1) / 3; omega]
  iintro ⟨⟨-, H⟩, -⟩; iexact H

end RingProof

end
-- ==== Proof.Flow.lean ====
module

public import proofs.«01_k».proof.Proof.Credit
public import Idealize.SL.BI.BigOpNat

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

variable (B : Slabs F) (κ : GSem nD τ sig → ℕ) (ι : Key → ℕ)

/-! ## What a flow holds -/

section Parts

variable (c : Dev nD) (j : Fin 8)

/-- The permissions for hops 0 and 1 that the handshake gave and that are not used yet. -/
def early (n : ℕ) : sProp 𝕄 := bigSep (Finset.Ico n 2) (perm c j)
/-- The duties of the hops not started yet. -/
def toSend (n : ℕ) : sProp 𝕄 := bigSep (Finset.Ico n (hops j)) fun h =>
  iprop(dutyTok (ER F) (sendCell c j (sl h)) (h / 3) 0 ∗ dutyTok (ER F) (recvCell (dst c j) j (sl (h + 1))) (h / 3) 0)
/-- The arrivals not taken yet. -/
def toRecv (n : ℕ) : sProp 𝕄 := bigSep (Finset.Ico n (hops j)) fun h => cred (tallyAt (recvCell c j (sl (h + 1))) h hopN)
/-- The credits not given yet. -/
def toGive (n : ℕ) : sProp 𝕄 := bigSep (Finset.Ico n (hops j - 2)) fun d =>
  iprop(dutyTok (ER F) (capCell (csrc c j) j) 0 d ∗ Release.readerAt (ES F) (c, j, d) 0)
/-- The credits not taken yet. -/
def toTake (n : ℕ) : sProp 𝕄 := bigSep (Finset.Ico n (hops j - 2)) fun d =>
  iprop(cred (tallyAt (capCell c j) d 1) ∗ Release.writeTok (ES F) (dst c j, j, d) 1)
/-- The slots that nobody writes any more. -/
def loose (n : ℕ) : sProp 𝕄 := bigSep (Finset.Ico (hops j - 2) n) fun x => slotAny c j (sl x)

theorem early_use {n : ℕ} (h : n < 2) : early (F := F) c j n = iprop(perm c j n ∗ early (F := F) c j (n + 1)) := bigSep_Ico_succ_bot h _
theorem early_idle {n n' : ℕ} (h : 2 ≤ n) (h' : 2 ≤ n') : early (F := F) c j n = early c j n' := by
  unfold early; rw [Finset.Ico_eq_empty_of_le h, Finset.Ico_eq_empty_of_le h']
theorem toSend_use {n : ℕ} (h : n < hops j) : toSend (F := F) c j n = iprop((dutyTok (ER F) (sendCell c j (sl n)) (n / 3) 0
    ∗ dutyTok (ER F) (recvCell (dst c j) j (sl (n + 1))) (n / 3) 0) ∗ toSend (F := F) c j (n + 1)) := bigSep_Ico_succ_bot h _
theorem toSend_idle {n n' : ℕ} (h : hops j ≤ n) (h' : hops j ≤ n') : toSend (F := F) c j n = toSend c j n' := by
  unfold toSend; rw [Finset.Ico_eq_empty_of_le h, Finset.Ico_eq_empty_of_le h']
theorem toRecv_use {n : ℕ} (h : n < hops j) : toRecv (F := F) c j n = iprop(cred (tallyAt (recvCell c j (sl (n + 1))) n hopN) ∗ toRecv (F := F) c j (n + 1)) :=
  bigSep_Ico_succ_bot h _
theorem toGive_use {n : ℕ} (h : n < hops j - 2) : toGive (F := F) c j n = iprop((dutyTok (ER F) (capCell (csrc c j) j) 0 n
    ∗ Release.readerAt (ES F) (c, j, n) 0) ∗ toGive (F := F) c j (n + 1)) := bigSep_Ico_succ_bot h _
theorem toGive_idle {n n' : ℕ} (h : hops j - 2 ≤ n) (h' : hops j - 2 ≤ n') : toGive (F := F) c j n = toGive c j n' := by
  unfold toGive; rw [Finset.Ico_eq_empty_of_le h, Finset.Ico_eq_empty_of_le h']
theorem toTake_use {n : ℕ} (h : n < hops j - 2) : toTake (F := F) c j n = iprop((cred (tallyAt (capCell c j) n 1)
    ∗ Release.writeTok (ES F) (dst c j, j, n) 1) ∗ toTake (F := F) c j (n + 1)) := bigSep_Ico_succ_bot h _
theorem toTake_idle {n n' : ℕ} (h : hops j - 2 ≤ n) (h' : hops j - 2 ≤ n') : toTake (F := F) c j n = toTake c j n' := by
  unfold toTake; rw [Finset.Ico_eq_empty_of_le h, Finset.Ico_eq_empty_of_le h']
theorem loose_more {n : ℕ} (h : hops j - 2 ≤ n) : loose (F := F) c j (n + 1) = iprop(slotAny c j (sl n) ∗ loose (F := F) c j n) := bigSep_Ico_succ_top h _
theorem loose_idle {n n' : ℕ} (h : n ≤ hops j - 2) (h' : n' ≤ hops j - 2) : loose (F := F) c j n = loose c j n' := by
  unfold loose; rw [Finset.Ico_eq_empty_of_le h, Finset.Ico_eq_empty_of_le h']

/-- Where a device stands on its credit cell, at most at the end. -/
abbrev capTo (n : ℕ) : sProp 𝕄 := capPos (F := F) c j (min n (hops j - 2))
theorem capTo_idle {n n' : ℕ} (h : hops j - 2 ≤ n) (h' : hops j - 2 ≤ n') : capTo (F := F) c j n = capTo c j n' := by
  unfold capTo; rw [Nat.min_eq_right h, Nat.min_eq_right h']

/-- Slot `n` as it stands once its contents have arrived: on their way further, or whole at the last hop. -/
def held (n : ℕ) : sProp 𝕄 := if n < hops j then flight B c j n else slotAt c j (sl n) fullShare (B (org j n c) j)
/-- Slot `n` between two iterations: its contents on their way, or free after the last hop. -/
def fly (n : ℕ) : sProp 𝕄 := if n < hops j then flight B c j n else slotAny c j (sl n)

/-- What a flow holds before its first hop. -/
def ready : sProp 𝕄 :=
  iprop(slotAt c j (sl 0) fullShare (B (org j 0 c) j) ∗ early c j 0 ∗ toSend c j 0 ∗ toRecv c j 0 ∗ pos (sendG c j) 0 ∗ pos (recvG c j) 0
    ∗ toGive c j 0 ∗ gave c j 0 ∗ toTake c j 0 ∗ capTo c j 0 ∗ loose c j 0 ∗ reached (ER F) (capCell (csrc c j) j) 0)

/-- What a flow holds between iterations `n` and `n + 1`. -/
def between (n : ℕ) : sProp 𝕄 :=
  iprop(fly B c j n ∗ early c j (n + 1) ∗ toSend c j (n + 1) ∗ toRecv c j n ∗ pos (sendG c j) n ∗ pos (recvG c j) n
    ∗ toGive c j n ∗ gave c j n ∗ toTake c j (n - 1) ∗ capTo c j (n - 1) ∗ loose c j n ∗ reached (ER F) (capCell (csrc c j) j) 0)

/-- What a flow holds inside iteration `n + 1`, its arrival taken. -/
def during (n : ℕ) : sProp 𝕄 :=
  iprop(flight B c j n ∗ held B c j (n + 1) ∗ early c j (n + 2) ∗ toSend c j (n + 2) ∗ toRecv c j (n + 1) ∗ pos (sendG c j) n ∗ pos (recvG c j) (n + 1)
    ∗ toGive c j n ∗ gave c j n ∗ toTake c j n ∗ capTo c j n ∗ loose c j n ∗ reached (ER F) (capCell (csrc c j) j) 0)

/-- The two, a flow that has made its last hop standing still. -/
def betweenF (n : ℕ) : sProp 𝕄 := between B c j (min n (hops j))
def duringF (n : ℕ) : sProp 𝕄 := if n < hops j then during B c j n else between B c j (hops j)

end Parts

theorem owedF_sent (c : Dev nD) (j : Fin 8) (m : ℕ) {n n' : ℕ} (h : hops j ≤ n) (h' : hops j ≤ n') : owedF c j n m = owedF c j n' m := by
  unfold owedF; rw [Finset.Ico_eq_empty_of_le h, Finset.Ico_eq_empty_of_le h']
theorem owedF_given (c : Dev nD) (j : Fin 8) (n : ℕ) {m m' : ℕ} (h : hops j - 2 ≤ m) (h' : hops j - 2 ≤ m') : owedF c j n m = owedF c j n m' := by
  unfold owedF; rw [Finset.Ico_eq_empty_of_le h, Finset.Ico_eq_empty_of_le h']

/-! ## A flow's steps -/

variable (c : Dev nD) (lf rt : Dev nD) (hlf : lf = lfD c) (hrt : rt = rtD c)

include hlf hrt in
theorem dst_if (j : Fin 8) : (if rightward j then rt else lf) = dst c j := by rw [hlf, hrt]
include hlf hrt in
theorem csrc_if (j : Fin 8) : (if rightward j then lf else rt) = csrc c j := by rw [hlf, hrt]

include hlf hrt in
/-- The first hop. -/
theorem open_zero (j : Fin 8) (O : CellTallies nD τ sig ℕ) :
    iprop(Inv B κ ι ∗ ready B c j ∗ debt c (O + owedF c j 0 0)) ⊢ WP c (openF lf rt 0 j) fun _ => iprop(betweenF B c j 0 ∗ debt c (O + owedF c j 1 0)) := by
  have hj := hops_ge j
  unfold openF
  rw [if_neg (by omega), if_pos (by omega), if_neg (by omega), dst_if c lf rt hlf hrt]
  show _ ⊢ WP c (startHop (dst c j) j 0) _
  unfold ready betweenF between
  rw [Nat.min_eq_left (Nat.zero_le _), early_use c j (by decide : 0 < 2), toSend_use c j (show 0 < hops j by omega)]
  iintro ⟨#HI, ⟨Hs, ⟨Hp, Hea⟩, ⟨⟨HtS, HtD⟩, Hts⟩, Htr, HpS, HpR, Hgi, Hga, Hta, Hca, Hlo, #Hre⟩, HO⟩
  ihave #Hrs := (pos_next (sendG c j) 0) $$ HpS
  iapply (WP_use (start_hop B κ ι c j 0 (by omega) O 0)) $$ [Hs Hp HtS HtD HO]
  · isplitr; · iexact HI
    isplitl [Hs]; · iexact Hs
    isplitl [Hp]; · iexact Hp
    isplitr; · iexact Hrs
    isplitl [HtS]; · iexact HtS
    isplitl [HtD]; · iexact HtD
    iexact HO
  iintro %_ ⟨Hf, HO⟩
  isplitr [HO]
  · isplitl [Hf]; · unfold fly; rw [if_pos (by omega)]; iexact Hf
    iframe Hea Hts Htr HpS HpR Hgi Hga Hta Hca Hlo Hre
  iexact HO

/-- What a flow holds inside iteration `n + 1` before its next hop starts. -/
def taken (j : Fin 8) (n m : ℕ) : sProp 𝕄 :=
  iprop(flight B c j n ∗ slotAt c j (sl (n + 1)) fullShare (B (org j (n + 1) c) j) ∗ toSend c j (n + 1) ∗ toRecv c j (n + 1)
    ∗ pos (sendG c j) n ∗ pos (recvG c j) (n + 1) ∗ toGive c j n ∗ gave c j n ∗ toTake c j m ∗ capTo c j m ∗ loose c j n ∗ reached (ER F) (capCell (csrc c j) j) 0)

/-- Take the arrival. -/
theorem open_recv (j : Fin 8) (n : ℕ) (hn : n < hops j) (O : CellTallies nD τ sig ℕ) (hO : Above (2 * n + 2) O) :
    iprop(Inv B κ ι ∗ between B c j n ∗ debt c (O + owedF c j (n + 1) n)) ⊢ WP c (recvWait j (n + 1)) fun _ =>
      iprop(Inv B κ ι ∗ (taken B c j n (n - 1) ∗ early c j (n + 1)) ∗ debt c (O + owedF c j (n + 1) n)) := by
  unfold between taken fly
  rw [if_pos hn, toRecv_use c j hn]
  iintro ⟨#HI, ⟨Hf, Hea, Hts, ⟨Hcr, Htr⟩, HpS, HpR, Hgi, Hga, Hta, Hca, Hlo, #Hre⟩, HO⟩
  ihave Hpu := (pos_use (recvG c j) n) $$ HpR
  rw [recvG_sl]
  icases Hpu with ⟨⟨Hat, -⟩, Hback⟩
  iapply (WP_use (recv_hop B κ ι c j n hn (O + owedF c j (n + 1) n) (hO.add (owedF_above c j (by omega) (by omega))))) $$ [Hcr Hat HO]
  · isplitr; · iexact HI
    isplitl [Hcr]; · iexact Hcr
    isplitl [Hat]; · iexact Hat
    iexact HO
  iintro %_ ⟨Hs, Hat, HO⟩
  ihave HpR := Hback $$ Hat
  iframe HI Hf Hs Hea Hts Htr HpS HpR Hgi Hga Hta Hca Hlo Hre HO

/-- Take the credit. -/
theorem open_take (j : Fin 8) (d : ℕ) (hn : d + 2 < hops j) (O : CellTallies nD τ sig ℕ) (hO : Above (2 * d + 5) O) :
    iprop(Inv B κ ι ∗ (taken B c j (d + 1) d ∗ early c j (d + 2)) ∗ debt c (O + owedF c j (d + 2) (d + 1))) ⊢ WP c (semWaitWord (capS j) 1#32) fun _ =>
      iprop(Inv B κ ι ∗ (taken B c j (d + 1) (d + 1) ∗ perm c j (d + 2) ∗ early c j (d + 3)) ∗ debt c (O + owedF c j (d + 2) (d + 1))) := by
  unfold taken
  rw [toTake_use c j (show d < hops j - 2 by omega), early_idle c j (n := d + 2) (n' := d + 3) (by omega) (by omega)]
  unfold capTo
  rw [Nat.min_eq_left (show d ≤ hops j - 2 by omega), Nat.min_eq_left (show d + 1 ≤ hops j - 2 by omega)]
  iintro ⟨#HI, ⟨⟨Hf, Hs, Hts, Htr, HpS, HpR, Hgi, Hga, ⟨⟨Hcr, Hw⟩, Hta⟩, Hca, Hlo, #Hre⟩, Hea⟩, HO⟩
  iapply (WP_use (take_credit B κ ι c j d (by omega) (O + owedF c j (d + 2) (d + 1)) (hO.add (owedF_above c j (by omega) (by omega))))) $$ [Hcr Hw Hca HO]
  · isplitr; · iexact HI
    isplitl [Hcr]; · iexact Hcr
    isplitl [Hw]; · iexact Hw
    isplitl [Hca]; · iexact Hca
    iexact HO
  iintro %_ ⟨Hp, Hca, HO⟩
  iframe HI Hf Hs Hea Hts Htr HpS HpR Hgi Hga Hta Hca Hlo Hre HO Hp

/-- Start the next hop. -/
theorem open_send (j : Fin 8) (n : ℕ) (hn : n + 1 < hops j) (O : CellTallies nD τ sig ℕ) :
    iprop(Inv B κ ι ∗ (taken B c j n n ∗ perm c j (n + 1) ∗ early c j (n + 2)) ∗ debt c (O + owedF c j (n + 1) n)) ⊢ WP c (startHop (dst c j) j (n + 1)) fun _ =>
      iprop(during B c j n ∗ debt c (O + owedF c j (n + 2) n)) := by
  unfold taken during held
  rw [if_pos hn, toSend_use c j hn]
  iintro ⟨#HI, ⟨⟨Hf, Hs, ⟨⟨HtS, HtD⟩, Hts⟩, Htr, HpS, HpR, Hgi, Hga, Hta, Hca, Hlo, #Hre⟩, Hp, Hea⟩, HO⟩
  ihave #Hrs := (show pos (F := F) (sendG c j) n ⊢ reached (ER F) (sendCell c j (sl (n + 1))) ((n + 1) / 3) from pos_ahead (sendG c j) n) $$ HpS
  iapply (WP_use (start_hop B κ ι c j (n + 1) hn O n)) $$ [Hs Hp HtS HtD HO]
  · isplitr; · iexact HI
    isplitl [Hs]; · iexact Hs
    isplitl [Hp]; · iexact Hp
    isplitr; · iexact Hrs
    isplitl [HtS]; · iexact HtS
    isplitl [HtD]; · iexact HtD
    iexact HO
  iintro %_ ⟨Hfl, HO⟩
  iframe Hf Hfl Hea Hts Htr HpS HpR Hgi Hga Hta Hca Hlo Hre HO

include hlf hrt in
/-- A flow's opening of iteration `n + 1`. -/
theorem open_step (j : Fin 8) (n : ℕ) (O : CellTallies nD τ sig ℕ) (hO : Above (2 * n + 3) O) :
    iprop(Inv B κ ι ∗ betweenF B c j n ∗ debt c (O + owedF c j (n + 1) n)) ⊢ WP c (openF lf rt (n + 1) j) fun _ =>
      iprop(duringF B c j n ∗ debt c (O + owedF c j (n + 2) n)) := by
  have hj := hops_ge j
  have hj' := hops_le j
  have hO' : Above (2 * n + 2) O := hO.mono (by omega)
  unfold openF betweenF duringF
  by_cases hn : n < hops j
  rotate_left
  · rw [if_neg (by omega), if_neg (by omega), if_neg hn, Nat.min_eq_right (by omega), owedF_idle c j (n := n + 1) (n' := n + 2) (m := n) (m' := n) (by omega) (by omega) (by omega) (by omega)]
    refine WP_pure ?_
    iintro ⟨-, H, HO⟩
    iframe H HO
  rw [if_pos (by omega), if_pos hn, Nat.min_eq_left hn.le]
  by_cases hn1 : n + 1 < hops j
  rotate_left
  · rw [if_neg hn1]
    refine WP_seq (open_recv B κ ι c j n hn O hO') fun _ => WP_pure ?_
    rw [owedF_sent c j n (n := n + 1) (n' := n + 2) (by omega) (by omega)]
    unfold taken during held
    rw [if_neg hn1, early_idle c j (n := n + 1) (n' := n + 2) (by omega) (by omega), toSend_idle c j (n := n + 1) (n' := n + 2) (by omega) (by omega),
      toTake_idle c j (n := n - 1) (n' := n) (by omega) (by omega), capTo_idle c j (n := n - 1) (n' := n) (by omega) (by omega)]
    iintro ⟨-, ⟨⟨Hf, Hs, Hts, Htr, HpS, HpR, Hgi, Hga, Hta, Hca, Hlo, #Hre⟩, Hea⟩, HO⟩
    iframe Hf Hs Hea Hts Htr HpS HpR Hgi Hga Hta Hca Hlo Hre HO
  rw [if_pos hn1, dst_if c lf rt hlf hrt]
  refine WP_seq (open_recv B κ ι c j n hn O hO') fun _ => ?_
  cases n with
  | zero =>
    rw [if_neg (by omega)]
    refine BIBase.Entails.trans ?_ (open_send B κ ι c j 0 hn1 O)
    rw [early_use c j (by decide : 0 + 1 < 2)]
  | succ d =>
    rw [if_pos (by omega)]
    exact WP_seq (open_take B κ ι c j d hn1 O hO) fun _ => open_send B κ ι c j (d + 1) hn1 O

/-- Loading half `b` of the slot that iteration `n + 1` reads. -/
theorem load_held (j : Fin 8) (n : ℕ) (b : Fin 2) :
    held B c j n ⊢ WP c (loadHalf j (sl n) b) fun v => iprop(⌜v = halfOf (B (org j n c) j) b⌝ ∗ held B c j n) := by
  unfold held
  split
  · unfold flight
    refine WP_frame (cred (tallyAt (sendCell c j (sl n)) n hopN)) (load_half c j (sl n) b fullShare.left (B (org j n c) j)) BIBase.Entails.refl fun v => ?_
    iintro ⟨⟨%h, H⟩, H'⟩
    isplitr; · ipureintro; exact h
    iframe H H'
  · exact load_half c j (sl n) b fullShare (B (org j n c) j)

/-- The pair after a flow's update in iteration `n + 1`. -/
def stepSt (q : FVec F S512x128 .bf16) (n : ℕ) (st : St F) (j : Fin 8) : St F :=
  if n < hops j then (updL q st.1 (halfOf (B (org j (n + 1) c) j) 0), updA q st.2 (halfOf (B (org j (n + 1) c) j) 0) (halfOf (B (org j (n + 1) c) j) 1)) else st

/-- A flow's update in iteration `n + 1`. -/
theorem update_step (q : FVec F S512x128 .bf16) (j : Fin 8) (n : ℕ) (st : St F) :
    duringF B c j n ⊢ WP c (updF q (n + 1) st j) fun st' => iprop(⌜st' = stepSt B c q n st j⌝ ∗ duringF B c j n) := by
  unfold updF duringF stepSt
  by_cases hn : n < hops j
  rotate_left
  · rw [if_neg hn, if_neg (by omega), if_neg hn]
    refine WP_pure ?_
    iintro H
    isplitr; · ipureintro; rfl
    iexact H
  rw [if_pos hn, if_pos (by omega), if_pos hn]
  unfold during
  iintro ⟨Hf, Hh, HR⟩
  iapply (WP_then (load_held B c j (n + 1) 0)) $$ [Hh]
  · iexact Hh
  iintro %kc ⟨%hk, Hh⟩
  iapply (WP_then (load_held B c j (n + 1) 1)) $$ [Hh]
  · iexact Hh
  iintro %vc ⟨%hv, Hh⟩
  subst hk hv
  iapply (WP_pure (c := c) BIBase.Entails.refl)
  isplitr; · ipureintro; rfl
  iframe Hf Hh HR

/-- The last hop has left its slot. -/
theorem close_send (j : Fin 8) (n : ℕ) (hn : n < hops j) (O : CellTallies nD τ sig ℕ) (hO : Above (2 * n + 2) O) :
    iprop(Inv B κ ι ∗ during B c j n ∗ debt c (O + owedF c j (n + 2) n))
      ⊢ WP c (Prog.lift (.waitDma2 (sendS j (sl n)) (slotM j (sl (n + 1))) (slotM j (sl n)) (slotExact _ _) (slotExact _ _))) fun _ =>
        iprop(Inv B κ ι ∗ slotAny c j (sl n) ∗ (held B c j (n + 1) ∗ early c j (n + 2) ∗ toSend c j (n + 2) ∗ toRecv c j (n + 1) ∗ pos (sendG c j) (n + 1)
          ∗ pos (recvG c j) (n + 1) ∗ toGive c j n ∗ gave c j n ∗ toTake c j n ∗ capTo c j n ∗ loose c j n ∗ reached (ER F) (capCell (csrc c j) j) 0)
          ∗ debt c (O + owedF c j (n + 2) n)) := by
  unfold during
  iintro ⟨#HI, ⟨Hf, Hh, Hea, Hts, Htr, HpS, HpR, Hgi, Hga, Hta, Hca, Hlo, #Hre⟩, HO⟩
  ihave Hpu := (pos_use (sendG c j) n) $$ HpS
  icases Hpu with ⟨⟨Hat, -⟩, Hback⟩
  iapply (WP_use (send_done B κ ι c j n hn (O + owedF c j (n + 2) n) (hO.add (owedF_above c j (by omega) (by omega))))) $$ [Hf Hat HO]
  · isplitr; · iexact HI
    isplitl [Hf]; · iexact Hf
    isplitl [Hat]; · iexact Hat
    iexact HO
  iintro %_ ⟨Hs, Hat, HO⟩
  ihave HpS := Hback $$ Hat
  iframe HI Hs Hh Hea Hts Htr HpS HpR Hgi Hga Hta Hca Hlo Hre HO

/-- After the last hop's arrival is used, its slot is free. -/
theorem held_fly (j : Fin 8) (n : ℕ) : held B c j n ⊢ fly B c j n := by
  unfold held fly
  split
  · exact BIBase.Entails.refl
  · unfold slotAt slotAny
    iintro ⟨%f, -, H⟩
    iexists f; iexact H

include hlf hrt in
/-- A flow's closing of iteration `n + 1`. -/
theorem close_step (j : Fin 8) (n : ℕ) (O : CellTallies nD τ sig ℕ) (hO : Above (2 * n + 2) O) :
    iprop(Inv B κ ι ∗ duringF B c j n ∗ debt c (O + owedF c j (n + 2) n)) ⊢ WP c (closeF lf rt (n + 1) j) fun _ =>
      iprop(betweenF B c j (n + 1) ∗ debt c (O + owedF c j (n + 2) (n + 1))) := by
  have hj := hops_ge j
  have hj' := hops_le j
  unfold closeF betweenF duringF
  by_cases hn : n < hops j
  rotate_left
  · rw [if_neg hn, if_neg (show ¬n + 1 ≤ hops j by omega), Nat.min_eq_right (by omega), owedF_given c j (n + 2) (m := n) (m' := n + 1) (by omega) (by omega)]
    refine WP_pure ?_
    iintro ⟨-, H, HO⟩
    iframe H HO
  rw [if_pos hn, if_pos (show n + 1 ≤ hops j by omega), Nat.min_eq_left (show n + 1 ≤ hops j by omega), csrc_if c lf rt hlf hrt]
  refine WP_seq (close_send B κ ι c j n hn O hO) fun _ => ?_
  unfold between
  rw [Nat.add_sub_cancel]
  by_cases hg : n + 1 + 2 ≤ hops j
  · rw [if_pos hg, toGive_use c j (show n < hops j - 2 by omega), loose_idle c j (n := n) (n' := n + 1) (by omega) (by omega)]
    iintro ⟨#HI, Hs, ⟨Hh, Hea, Hts, Htr, HpS, HpR, ⟨⟨Ht, Hrd⟩, Hgi⟩, Hga, Hta, Hca, Hlo, #Hre⟩, HO⟩
    ihave #Hrr := (show pos (F := F) (recvG c j) (n + 1) ⊢ reached (ER F) (recvCell c j (sl n)) ((n + 2) / 3) from by
      have h := pos_ahead (F := F) (recvG c j) (n + 1)
      rw [recvG_sl, sl_eq (show (n + 1 + 1 + 1) % 3 = n % 3 by omega)] at h
      exact h) $$ HpR
    iapply (WP_use (give_credit B κ ι c j n (by omega) O (n + 2))) $$ [Hs Ht Hrd Hga HO]
    · isplitr; · iexact HI
      isplitl [Hs]; · iexact Hs
      isplitr; · iexact Hrr
      isplitl [Hrd]; · iexact Hrd
      isplitl [Ht]; · iexact Ht
      isplitr; · iexact Hre
      isplitl [Hga]; · iexact Hga
      iexact HO
    iintro %_ ⟨Hga, HO⟩
    ihave Hf := (held_fly B c j (n + 1)) $$ Hh
    iframe Hf Hea Hts Htr HpS HpR Hgi Hga Hta Hca Hlo Hre HO
  · rw [if_neg hg]
    refine WP_pure ?_
    rw [loose_more c j (show hops j - 2 ≤ n by omega), toGive_idle c j (n := n) (n' := n + 1) (by omega) (by omega), gave_idle c j (d := n) (d' := n + 1) (by omega) (by omega),
      owedF_given c j (n + 2) (m := n) (m' := n + 1) (by omega) (by omega)]
    iintro ⟨-, Hs, ⟨Hh, Hea, Hts, Htr, HpS, HpR, Hgi, Hga, Hta, Hca, Hlo, #Hre⟩, HO⟩
    ihave Hf := (held_fly B c j (n + 1)) $$ Hh
    iframe Hf Hea Hts Htr HpS HpR Hgi Hga Hta Hca Hlo Hre HO Hs

end RingProof

end
-- ==== Proof.Loop.lean ====
module

public import proofs.«01_k».proof.Proof.Flow

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

variable (B : Slabs F) (κ : GSem nD τ sig → ℕ) (ι : Key → ℕ)

/-! ## All flows in turn -/

/-- One resource per flow of a list. -/
def seps (A : Fin 8 → sProp 𝕄) : List (Fin 8) → sProp 𝕄
  | [] => iprop(emp)
  | j :: js => iprop(A j ∗ seps A js)

theorem seps_cons (A : Fin 8 → sProp 𝕄) (j : Fin 8) (js : List (Fin 8)) : seps A (j :: js) = iprop(A j ∗ seps A js) := rfl

theorem seps_eq (A : Fin 8 → sProp 𝕄) : ∀ l : List (Fin 8), l.Nodup → seps A l = bigSep l.toFinset A
  | [], _ => rfl
  | j :: js, h => by
    rw [List.toFinset_cons, bigSep_insert (by rw [List.mem_toFinset]; exact (List.nodup_cons.mp h).1)]
    exact congrArg (fun X => iprop(A j ∗ X)) (seps_eq A js (List.nodup_cons.mp h).2)

theorem seps_flows (A : Fin 8 → sProp 𝕄) : seps A flows = bigSep Finset.univ A :=
  (seps_eq A flows (by decide)).trans (congrArg (fun s => bigSep s A) (by decide))

variable (c : Dev nD)

/-- One action per flow, from what each flow needs to what it leaves. -/
theorem each_run (f : Fin 8 → K F PUnit) (A A' : Fin 8 → sProp 𝕄) (T T' : Fin 8 → CellTallies nD τ sig ℕ) (b : ℕ)
    (hT : ∀ j, Above b (T j)) (hT' : ∀ j, Above b (T' j))
    (hf : ∀ (j : Fin 8) (O : CellTallies nD τ sig ℕ), Above b O → iprop(Inv B κ ι ∗ A j ∗ debt c (O + T j)) ⊢ WP c (f j) fun _ => iprop(A' j ∗ debt c (O + T' j))) :
    ∀ (l : List (Fin 8)) (O : CellTallies nD τ sig ℕ), Above b O →
      iprop(Inv B κ ι ∗ seps A l ∗ debt c (O + (l.map T).sum)) ⊢ WP c (each f l) fun _ => iprop(seps A' l ∗ debt c (O + (l.map T').sum))
  | [], O, _ => by
    refine WP_pure ?_
    iintro ⟨-, H, HO⟩
    iframe H HO
  | j :: js, O, hO => by
    have hs : Above b (js.map T).sum := by
      clear hf
      induction js with
      | nil => exact Above.zero b
      | cons j' js' ih => exact (hT j').add ih
    have h1 : O + ((j :: js).map T).sum = (O + (js.map T).sum) + T j := by
      rw [List.map_cons, List.sum_cons, add_assoc, add_comm (T j)]
    have h2 : (O + (js.map T).sum) + T' j = (O + T' j) + (js.map T).sum := add_right_comm _ _ _
    have h3 : (O + T' j) + (js.map T').sum = O + ((j :: js).map T').sum := by
      rw [List.map_cons, List.sum_cons, add_assoc]
    rw [h1, ← h3]
    simp only [seps_cons]
    refine WP_seq (R := fun _ => iprop(Inv B κ ι ∗ seps A js ∗ A' j ∗ debt c ((O + T' j) + (js.map T).sum))) ?_ fun _ => ?_
    · rw [← h2]
      iintro ⟨#HI, ⟨HA, HR⟩, HO⟩
      iapply (WP_use (hf j (O + (js.map T).sum) (hO.add hs))) $$ [HA HO]
      · isplitr; · iexact HI
        isplitl [HA]; · iexact HA
        iexact HO
      iintro %_ ⟨HA, HO⟩
      iframe HI HR HA HO
    · show _ ⊢ WP c (each f js) _
      refine WP_frame (A' j) (each_run f A A' T T' b hT hT' hf js (O + T' j) (hO.add (hT' j))) ?_ fun _ => ?_
      · iintro ⟨HI, HR, HA, HO⟩; iframe HI HR HA HO
      · iintro ⟨⟨HR, HO⟩, HA⟩; iframe HR HA HO

/-- One update per flow. -/
theorem eachU_run (q : FVec F S512x128 .bf16) (n : ℕ) : ∀ (l : List (Fin 8)) (st : St F),
    seps (fun j => duringF B c j n) l ⊢ WP c (eachU q (n + 1) st l) fun st' => iprop(⌜st' = l.foldl (stepSt B c q n) st⌝ ∗ seps (fun j => duringF B c j n) l)
  | [], st => by
    refine WP_pure ?_
    iintro H
    isplitr; · ipureintro; rfl
    iexact H
  | j :: js, st => by
    simp only [seps_cons]
    refine WP_seq (R := fun st' => iprop(⌜st' = stepSt B c q n st j⌝ ∗ duringF B c j n ∗ seps (fun j => duringF B c j n) js)) ?_ fun st' => ?_
    · refine WP_frame (seps (fun j => duringF B c j n) js) (update_step B c q j n st) BIBase.Entails.refl fun _ => ?_
      iintro ⟨⟨H, H'⟩, H''⟩; iframe H H' H''
    · iintro ⟨%h, H⟩
      subst h
      iapply (WP_frame (duringF B c j n) (eachU_run q n js (stepSt B c q n st j)) (show iprop(duringF B c j n ∗ seps (fun j => duringF B c j n) js) ⊢ _ from by iintro ⟨H, H'⟩; iframe H' H)
        (fun _ => show iprop((⌜_⌝ ∗ seps (fun j => duringF B c j n) js) ∗ duringF B c j n) ⊢ _ from by
          iintro ⟨⟨%h, H⟩, H'⟩
          isplitr; · ipureintro; exact h
          iframe H' H))
      iexact H

/-- What a device owes with all flows between iterations `n` and `n + 1`. -/
abbrev owedAll (n m : ℕ) : CellTallies nD τ sig ℕ := (flows.map fun j => owedF c j n m).sum

variable (lf rt : Dev nD) (hlf : lf = lfD c) (hrt : rt = rtD c)

include hlf hrt in
/-- One iteration. -/
theorem iter_run (q : FVec F S512x128 .bf16) (n : ℕ) (st : St F) :
    iprop(Inv B κ ι ∗ seps (fun j => betweenF B c j n) flows ∗ debt c (0 + owedAll c (n + 1) n)) ⊢ WP c (iter lf rt q (n + 1) st) fun st' =>
      iprop(⌜st' = flows.foldl (stepSt B c q n) st⌝ ∗ seps (fun j => betweenF B c j (n + 1)) flows ∗ debt c (0 + owedAll c (n + 2) (n + 1))) := by
  have h1 := each_run B κ ι c (openF lf rt (n + 1)) (fun j => betweenF B c j n) (fun j => duringF B c j n) (fun j => owedF c j (n + 1) n) (fun j => owedF c j (n + 2) n)
    (2 * n + 3) (fun j => owedF_above c j (by omega) (by omega)) (fun j => owedF_above c j (by omega) (by omega))
    (fun j O hO => open_step B κ ι c lf rt hlf hrt j n O hO) flows 0 (Above.zero _)
  have h3 := each_run B κ ι c (closeF lf rt (n + 1)) (fun j => duringF B c j n) (fun j => betweenF B c j (n + 1)) (fun j => owedF c j (n + 2) n) (fun j => owedF c j (n + 2) (n + 1))
    (2 * n + 2) (fun j => owedF_above c j (by omega) (by omega)) (fun j => owedF_above c j (by omega) (by omega))
    (fun j O hO => close_step B κ ι c lf rt hlf hrt j n O hO) flows 0 (Above.zero _)
  have h2 := eachU_run B c q n flows st
  unfold iter
  refine WP_seq (R := fun _ => iprop(Inv B κ ι ∗ seps (fun j => duringF B c j n) flows ∗ debt c (0 + owedAll c (n + 2) n))) ?_ fun _ => ?_
  · iintro ⟨#HI, H⟩
    iapply (WP_use h1) $$ [H]
    · isplitr; · iexact HI
      iexact H
    iintro %_ H
    iframe HI H
  refine WP_seq (R := fun st' => iprop(⌜st' = flows.foldl (stepSt B c q n) st⌝ ∗ Inv B κ ι ∗ seps (fun j => duringF B c j n) flows ∗ debt c (0 + owedAll c (n + 2) n))) ?_ fun st' => ?_
  · iintro ⟨HI, H, HO⟩
    iapply (WP_use h2) $$ [H]
    · iexact H
    iintro %_ ⟨%h, H⟩
    isplitr; · ipureintro; exact h
    iframe HI H HO
  refine WP_seq (R := fun _ => iprop(⌜st' = flows.foldl (stepSt B c q n) st⌝ ∗ seps (fun j => betweenF B c j (n + 1)) flows ∗ debt c (0 + owedAll c (n + 2) (n + 1)))) ?_ fun _ => WP_pure BIBase.Entails.refl
  iintro ⟨%h, H⟩
  iapply (WP_use h3) $$ [H]
  · iexact H
  iintro %_ H
  isplitr; · ipureintro; exact h
  iexact H

/-- The pair after `k` iterations from iteration `n + 1` on. -/
def runSt (q : FVec F S512x128 .bf16) : ℕ → ℕ → St F → St F
  | 0, _, st => st
  | k + 1, n, st => runSt q k (n + 1) (flows.foldl (stepSt B c q n) st)

include hlf hrt in
/-- The loop. -/
theorem loop_run (q : FVec F S512x128 .bf16) : ∀ (k n : ℕ) (st : St F),
    iprop(Inv B κ ι ∗ seps (fun j => betweenF B c j n) flows ∗ debt c (0 + owedAll c (n + 1) n)) ⊢ WP c (loop lf rt q k (n + 1) st) fun st' =>
      iprop(⌜st' = runSt B c q k n st⌝ ∗ seps (fun j => betweenF B c j (n + k)) flows ∗ debt c (0 + owedAll c (n + k + 1) (n + k)))
  | 0, n, st => by
    refine WP_pure ?_
    iintro ⟨-, H⟩
    isplitr; · ipureintro; rfl
    iexact H
  | k + 1, n, st => by
    refine WP_seq (R := fun st' => iprop(⌜st' = flows.foldl (stepSt B c q n) st⌝ ∗ Inv B κ ι ∗ seps (fun j => betweenF B c j (n + 1)) flows ∗ debt c (0 + owedAll c (n + 2) (n + 1)))) ?_ fun st' => ?_
    · iintro ⟨#HI, H⟩
      iapply (WP_use (iter_run B κ ι c lf rt hlf hrt q n st)) $$ [H]
      · isplitr; · iexact HI
        iexact H
      iintro %_ ⟨%h, H⟩
      isplitr; · ipureintro; exact h
      iframe HI H
    · iintro ⟨%h, H⟩
      subst h
      have hl := loop_run q k (n + 1) (flows.foldl (stepSt B c q n) st)
      rw [show n + 1 + k = n + (k + 1) by omega] at hl
      iapply hl
      iexact H

include hlf hrt in
/-- The first hops and the sixteen iterations. -/
theorem talk_run (q : FVec F S512x128 .f32) (kk vv : FVec F S512x128 .bf16) :
    iprop(Inv B κ ι ∗ seps (ready B c) flows ∗ debt c (0 + owedAll c 0 0)) ⊢ WP c (talk lf rt q kk vv) fun st' =>
      iprop(⌜st' = runSt B c (k0_pay23 q) 16 0 (k0_pay25 kk (k0_pay23 q), k0_pay26 kk vv (k0_pay23 q))⌝ ∗ seps (fun j => betweenF B c j 16) flows ∗ debt c (0 + owedAll c 17 16)) := by
  have h1 := each_run B κ ι c (openF lf rt 0) (ready B c) (fun j => betweenF B c j 0) (fun j => owedF c j 0 0) (fun j => owedF c j 1 0)
    0 (fun j => owedF_above c j (by omega) (by omega)) (fun j => owedF_above c j (by omega) (by omega))
    (fun j O _ => open_zero B κ ι c lf rt hlf hrt j O) flows 0 (Above.zero _)
  unfold talk
  refine WP_seq (R := fun _ => iprop(Inv B κ ι ∗ seps (fun j => betweenF B c j 0) flows ∗ debt c (0 + owedAll c 1 0))) ?_ fun _ => ?_
  · iintro ⟨#HI, H⟩
    iapply (WP_use h1) $$ [H]
    · isplitr; · iexact HI
      iexact H
    iintro %_ H
    iframe HI H
  · have hl := loop_run B κ ι c lf rt hlf hrt (k0_pay23 q) 16 0 (k0_pay25 kk (k0_pay23 q), k0_pay26 kk vv (k0_pay23 q))
    simp only [Nat.zero_add, Nat.reduceAdd] at hl
    exact hl

end RingProof

end
-- ==== Proof.Body.lean ====
module

public import proofs.«01_k».proof.Proof.Loop

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

variable (B : Slabs F) (κ : GSem nD τ sig → ℕ) (ι : Key → ℕ)

theorem bs_empty {T : Type} (Φ : T → sProp 𝕄) : bigSep ∅ Φ = iprop(emp) := bigSep_empty

/-! ## Entry -/

section Parts

variable (c : Dev nD) (j : Fin 8)

/-- What a flow starts with. -/
def fresh : sProp 𝕄 :=
  iprop(slotAny c j 0 ∗ slotAny c j 1 ∗ slotAny c j 2 ∗ toSend c j 0 ∗ toRecv c j 0 ∗ pos (sendG c j) 0 ∗ pos (recvG c j) 0
    ∗ toGive c j 0 ∗ toTake c j 0 ∗ atPos (ER F) (capCell c j) 0 ∅ 0 ∗ reached (ER F) (capCell c j) 0)

/-- What a flow gives away in the handshake. -/
def offer : sProp 𝕄 := iprop(perm (F := F) (csrc c j) j 0 ∗ perm (F := F) (csrc c j) j 1 ∗ reached (ER F) (capCell c j) 0)

/-- What a flow gets in the handshake. -/
def gain : sProp 𝕄 := iprop(early (F := F) c j 0 ∗ reached (ER F) (capCell (csrc c j) j) 0)

/-- What a flow keeps, its slot 0 as `S` says. -/
def keep (S : sProp 𝕄) : sProp 𝕄 :=
  iprop(S ∗ toSend c j 0 ∗ toRecv c j 0 ∗ pos (sendG c j) 0 ∗ pos (recvG c j) 0 ∗ toGive c j 0 ∗ toTake c j 0 ∗ atPos (ER F) (capCell c j) 0 ∅ 0)

theorem fresh_split : fresh (F := F) c j ⊢ iprop(offer c j ∗ keep c j (slotAny c j 0)) := by
  unfold fresh offer keep perm
  rw [dst_csrc]
  iintro ⟨H0, H1, H2, Hts, Htr, HpS, HpR, Hgi, Hta, Hat, #Hr⟩
  ihave #Hr0 := (pos_next (recvG c j) 0) $$ HpR
  ihave #Hr1 := (pos_ahead (recvG c j) 0) $$ HpR
  isplitl [H1 H2]
  · isplitl [H1]
    · isplitl [H1]; · iexact H1
      iexact Hr0
    isplitl [H2]
    · isplitl [H2]; · iexact H2
      iexact Hr1
    iexact Hr
  iframe H0 Hts Htr HpS HpR Hgi Hta Hat

theorem offer_give : offer (F := F) c j ⊢ iprop(barItem (lfD c) true j ∗ barItem (rtD c) false j) := by
  unfold offer barItem csrc
  cases h : rightward j
  · simp only [Bool.false_eq_true, if_false, if_true, rt_lf]
    iintro ⟨H, H', H''⟩
    iframe H'' H H'
  · simp only [Bool.true_eq_false, if_false, if_true, lf_rt]
    iintro ⟨H, H', H''⟩
    iframe H H' H''

theorem gain_get : iprop(barItem (F := F) c true j ∗ barItem c false j) ⊢ gain c j := by
  unfold gain barItem
  rw [early_use c j (by decide : 0 < 2), early_use c j (by decide : 0 + 1 < 2)]
  unfold early
  rw [Finset.Ico_self, bs_empty]
  cases h : rightward j
  · simp only [Bool.false_eq_true, if_false, if_true]
    iintro ⟨H, H', H''⟩
    iframe H H' H''
  · simp only [Bool.true_eq_false, if_false, if_true]
    iintro ⟨⟨H, H'⟩, H''⟩
    iframe H H' H''

theorem keep_ready : iprop(gain c j ∗ keep c j (slotAt c j 0 fullShare (B c j))) ⊢ ready B c j := by
  unfold gain keep ready gave capTo capPos loose
  rw [Nat.zero_min, Finset.range_zero, bs_empty, Finset.Ico_eq_empty_of_le (Nat.zero_le _), bs_empty]
  iintro ⟨⟨He, Hr⟩, Hs, Hts, Htr, HpS, HpR, Hgi, Hta, Hat⟩
  isplitl [Hs]; · iexact Hs
  isplitl [He]; · iexact He
  isplitl [Hts]; · iexact Hts
  isplitl [Htr]; · iexact Htr
  isplitl [HpS]; · iexact HpS
  isplitl [HpR]; · iexact HpR
  isplitl [Hgi]; · iexact Hgi
  isplitr; · iempintro
  isplitl [Hta]; · iexact Hta
  isplitl [Hat]
  · iexists ∅
    isplitr; · ipureintro; refine ⟨Finset.empty_subset _, ?_⟩; rw [Finset.sdiff_empty, Finset.card_range, Nat.zero_add]
    isplitl [Hat]; · iexact Hat
    rw [bs_empty]; iempintro
  isplitr; · iempintro
  iexact Hr

end Parts

/-! ## Lists of flows -/

theorem seps_mono {A A' : Fin 8 → sProp 𝕄} (h : ∀ j, A j ⊢ A' j) : ∀ l, seps A l ⊢ seps A' l
  | [] => BIBase.Entails.refl
  | j :: js => BIClass.sep_mono (h j) (seps_mono h js)
theorem seps_sep (A A' : Fin 8 → sProp 𝕄) : ∀ l, seps (fun j => iprop(A j ∗ A' j)) l ⊢ iprop(seps A l ∗ seps A' l)
  | [] => by show (iprop(emp) : sProp 𝕄) ⊢ iprop(emp ∗ emp); iintro -; isplitr <;> iempintro
  | j :: js => by
    have h := seps_sep A A' js
    simp only [seps_cons]
    iintro ⟨⟨H, H'⟩, HR⟩
    ihave HR := h $$ HR
    icases HR with ⟨HR, HR'⟩
    iframe H HR H' HR'
theorem seps_join (A A' : Fin 8 → sProp 𝕄) : ∀ l, iprop(seps A l ∗ seps A' l) ⊢ seps (fun j => iprop(A j ∗ A' j)) l
  | [] => by show iprop(emp ∗ emp) ⊢ (iprop(emp) : sProp 𝕄); iintro -; iempintro
  | j :: js => by
    have h := seps_join A A' js
    simp only [seps_cons]
    iintro ⟨⟨H, HR⟩, H', HR'⟩
    isplitl [H H']; · iframe H H'
    iapply h; iframe HR HR'
theorem seps_fupd {A A' : Fin 8 → sProp 𝕄} (P : sProp 𝕄) [BI.Persistent P] (h : ∀ j, iprop(P ∗ A j) ⊢ iprop(|={Set.univ}=> A' j)) :
    ∀ l, iprop(P ∗ seps A l) ⊢ iprop(|={Set.univ}=> seps A' l)
  | [] => by show iprop(P ∗ emp) ⊢ iprop(|={Set.univ}=> emp); iintro -; imodintro; iempintro
  | j :: js => by
    have hs := seps_fupd P h js
    simp only [seps_cons]
    iintro ⟨#HP, H, HR⟩
    imod (h j) $$ [H] with H
    · isplitr; · iexact HP
      iexact H
    imod hs $$ [HR] with HR
    · isplitr; · iexact HP
      iexact HR
    imodintro
    iframe H HR

/-! ## The handshake -/

variable (c : Dev nD)

/-- The duties of the handshake. -/
def toMeet : sProp 𝕄 :=
  iprop(dutyTok (ER F) (barCell (lfD c)) 0 0 ∗ dutyTok (ER F) (barCell (rtD c)) 0 1 ∗ reached (ER F) (barCell (lfD c)) 0 ∗ reached (ER F) (barCell (rtD c)) 0
    ∗ atPos (ER F) (barCell c) 0 ∅ 0 ∗ cred (tallyAt (barCell c) 0 2))

theorem meet_run (O : CellTallies nD τ sig ℕ) (hO : Above 1 O) :
    iprop(Inv B κ ι ∗ toMeet c ∗ seps (offer c) flows ∗ debt c (O + tallyAt (barCell (rtD c)) 0 1 + tallyAt (barCell (lfD c)) 0 1))
      ⊢ WP c (meet (lfD c) (rtD c)) fun _ => iprop(seps (gain c) flows ∗ atPos (ER F) (barCell c) 1 ∅ 0 ∗ debt c O) := by
  have hgive : seps (offer c) flows ⊢ iprop(barPay (F := F) (lfD c) true ∗ barPay (F := F) (rtD c) false) := by
    refine (seps_mono (offer_give c) flows).trans ((seps_sep _ _ flows).trans ?_)
    rw [seps_flows, seps_flows]; exact BIBase.Entails.refl
  have hget : iprop(barPay (F := F) c true ∗ barPay (F := F) c false) ⊢ seps (gain c) flows := by
    refine BIBase.Entails.trans ?_ ((seps_join _ _ flows).trans (seps_mono (gain_get c) flows))
    rw [seps_flows, seps_flows]; exact BIBase.Entails.refl
  show _ ⊢ wp frame (wpE (defs₀ (F := F)) 𝒱₀ (c : Thread nD τ) none) Set.univ
    (.op (.semSignal (lfD c : Thread nD τ) barS ((1 : ℕ) : ℤ)) fun _ => .op (.semSignal (rtD c : Thread nD τ) barS ((1 : ℕ) : ℤ)) fun _ => .op (.semWait barS ((2 : ℕ) : ℤ)) .ret) _
  unfold toMeet
  iintro ⟨#HI, ⟨HtL, HtR, #HrL, #HrR, Hat, Hc⟩, Hof, ⟨%W, HO⟩⟩
  ihave Hof := hgive $$ Hof
  icases Hof with ⟨HoL, HoR⟩
  iapply (Rounds.wp_signal 𝒱₀ (ER F) (sched B) (c : Thread nD τ) none (dst := (lfD c : Thread nD τ)) (sem := barS) (κ := κ (barCell (lfD c))) (r := 0) (d := 0) (k' := 1)
    (by rw [duties_bar]; decide) (amount_bar B (lfD c) 0 0) 0 (O₀ := O + tallyAt (barCell (rtD c)) 0 1 + tallyAt (barCell (lfD c)) 0 1) (O + tallyAt (barCell (rtD c)) 0 1) rfl (W := W) (Es := Set.univ)) $$ [HO HtL HoL]
  · isplitr; · iapply (Inv_bar B κ ι (lfD c)); iexact HI
    isplitl [HO]; · iexact HO
    isplitl [HtL]; · iexact HtL
    isplitl [HoL]; · rw [payload_bar]; iexact HoL
    iexact HrL
  iintro HO
  iapply (Rounds.wp_signal 𝒱₀ (ER F) (sched B) (c : Thread nD τ) none (dst := (rtD c : Thread nD τ)) (sem := barS) (κ := κ (barCell (rtD c))) (r := 0) (d := 1) (k' := 1)
    (by rw [duties_bar]; decide) (amount_bar B (rtD c) 0 1) 0 (O₀ := O + tallyAt (barCell (rtD c)) 0 1) O rfl (W := W) (Es := Set.univ)) $$ [HO HtR HoR]
  · isplitr; · iapply (Inv_bar B κ ι (rtD c)); iexact HI
    isplitl [HO]; · iexact HO
    isplitl [HtR]; · iexact HtR
    isplitl [HoR]; · rw [payload_bar]; iexact HoR
    iexact HrR
  iintro HO
  iapply (Rounds.wp_wait_rest_token 𝒱₀ (ER F) (sched B) (c : Thread nD τ) none (κ := κ (barCell c)) (k' := 2)
      (wpE_semWait_eq 𝒱₀ (c : Thread nD τ) none Set.univ) (Set.mem_univ _) 0 (O := O) (W := W) (R := 0) (m := 0) (T := ∅)
      (by rw [expect_bar])) $$ [Hc HO Hat]
  · isplitr; · iapply (Inv_bar B κ ι c); iexact HI
    isplitl [Hc]; · iexact Hc
    isplitl [HO]; · iexact HO
    isplitr
    · iapply (may_bar B κ ι c 0 (by omega) hO); iexact HI
    iexact Hat
  iintro ⟨HO, Hat, -, Hpay⟩
  ihave Hpay := (Entails.of_eq (rest_bar B c)) $$ Hpay
  rw [wp_ret]; imodintro
  isplitl [Hpay]; · iapply hget; iexact Hpay
  isplitl [Hat]; · iexact Hat
  iexists _; iexact HO

/-! ## The end -/

/-- What a flow ends with. -/
def done (j : Fin 8) : sProp 𝕄 :=
  iprop((slotAny c j 0 ∗ slotAny c j 1 ∗ slotAny c j 2) ∗ bigSep Finset.univ (fun s => semVal (sendCell c j s) 0) ∗ bigSep Finset.univ (fun s => semVal (recvCell c j s) 0)
    ∗ semVal (capCell c j) 0)

theorem bigSep_three (Φ : Fin 3 → sProp 𝕄) : bigSep Finset.univ Φ = iprop(Φ 0 ∗ Φ 1 ∗ Φ 2) :=
  bigSep_univ_eq_bigSepL [0, 1, 2] (by decide) (by decide) Φ

/-- Three cells used in turn are closed once all their duties are past. -/
theorem pos_close (g : Fin 3 → GSem nD τ sig) (x : ℕ) (hg : ∀ s, Inv B κ ι ⊢ cellInv (ER F) (sched B) (κ (g s)) (g s))
    (hd : ∀ s r, rnd x s ≤ r → (sched (F := F) B).duties (g s) r = ∅) :
    iprop(Inv B κ ι ∗ pos g x) ⊢ iprop(|={Set.univ}=> bigSep Finset.univ fun s => semVal (g s) 0) := by
  unfold pos
  rw [bigSep_three, bigSep_three]
  iintro ⟨#HI, ⟨H0, -⟩, ⟨H1, -⟩, ⟨H2, -⟩⟩
  imod (Rounds.cell_close (ER F) (sched B) (g := g 0) (Set.mem_univ (κ (g 0))) (fun h => h) (hd 0)) $$ [H0] with H0
  · isplitr; · iapply (hg 0); iexact HI
    iexact H0
  imod (Rounds.cell_close (ER F) (sched B) (g := g 1) (Set.mem_univ (κ (g 1))) (fun h => h) (hd 1)) $$ [H1] with H1
  · isplitr; · iapply (hg 1); iexact HI
    iexact H1
  imod (Rounds.cell_close (ER F) (sched B) (g := g 2) (Set.mem_univ (κ (g 2))) (fun h => h) (hd 2)) $$ [H2] with H2
  · isplitr; · iapply (hg 2); iexact HI
    iexact H2
  imodintro
  iframe H0 H1 H2

/-- The three slots, once the last contents are read. -/
theorem slots_back (j : Fin 8) : iprop(fly B c j (hops j) ∗ loose c j (hops j)) ⊢ iprop(slotAny c j 0 ∗ slotAny c j 1 ∗ slotAny c j 2) := by
  have hj := hops_ge j
  have h1 : loose (F := F) c j (hops j) = iprop(slotAny c j (sl (hops j - 1)) ∗ slotAny c j (sl (hops j - 2)) ∗ emp) := by
    conv_lhs => rw [show hops j = hops j - 2 + 1 + 1 by omega]
    rw [loose_more c j (by omega), loose_more c j (by omega), loose_idle c j (n := hops j - 2) (n' := 0) (by omega) (by omega)]
    unfold loose
    rw [Finset.Ico_eq_empty_of_le (Nat.zero_le _), bs_empty, show hops j - 2 + 1 = hops j - 1 by omega]
  unfold fly
  rw [if_neg (Nat.lt_irrefl _), h1]
  unfold hops
  split
  · show iprop(slotAny c j 1 ∗ slotAny c j 0 ∗ slotAny c j 2 ∗ emp) ⊢ _
    iintro ⟨H1, H0, H2, -⟩; iframe H0 H1 H2
  · show iprop(slotAny c j 0 ∗ slotAny c j 2 ∗ slotAny c j 1 ∗ emp) ⊢ _
    iintro ⟨H0, H2, H1, -⟩; iframe H0 H1 H2

theorem cap_close (j : Fin 8) : iprop(Inv B κ ι ∗ capPos c j (hops j - 2)) ⊢ iprop(|={Set.univ}=> semVal (capCell c j) 0) := by
  unfold capPos
  iintro ⟨#HI, ⟨%S, %hS, Hat, -⟩⟩
  have hS' : (sched (F := F) B).duties (capCell c j) 0 ⊆ S := by
    rw [duties_cap, ← Finset.sdiff_eq_empty_iff_subset, ← Finset.card_eq_zero]; omega
  imod (Rounds.fupd_skip (ER F) (sched B) (κ := κ (capCell c j)) hS' (expect_cap B c j).symm (Set.mem_univ _)) $$ [Hat] with ⟨Hat, -⟩
  · isplitr; · iapply (Inv_cap B κ ι c j); iexact HI
    iexact Hat
  imod (Rounds.cell_close (ER F) (sched B) (g := capCell c j) (Set.mem_univ (κ (capCell c j))) (fun h => h) (duties_cap' B c j)) $$ [Hat] with H
  · isplitr; · iapply (Inv_cap B κ ι c j); iexact HI
    iexact Hat
  imodintro
  iexact H

/-- A flow at its end gives its slots and its counters back. -/
theorem flow_done (j : Fin 8) : iprop(Inv B κ ι ∗ betweenF B c j 16) ⊢ iprop(|={Set.univ}=> done c j) := by
  have hj := hops_le j
  have hj' := hops_ge j
  have hS := pos_close B κ ι (sendG c j) (hops j) (fun s => Inv_send B κ ι c j s) (fun s r h => by
    have := s.isLt
    rw [duties_sendR, if_neg]; show ¬ 3 * r + s.val < hops j
    replace h : (hops j + 2 - s.val) / 3 ≤ r := h
    omega)
  have hR := pos_close B κ ι (recvG c j) (hops j) (fun s => Inv_recv B κ ι c j _) (fun s r h => by
    have := s.isLt
    rw [duties_recvR, if_neg]; show ¬ 3 * r + ((s.val + 1) % 3 + 2) % 3 < hops j
    replace h : (hops j + 2 - s.val) / 3 ≤ r := h
    omega)
  have hperm : bigSep Finset.univ (fun s => semVal (recvG c j s) 0) ⊢ bigSep Finset.univ fun s => (semVal (recvCell c j s) 0 : sProp 𝕄) := by
    rw [bigSep_three, bigSep_three]
    show iprop(semVal (recvCell c j 1) 0 ∗ semVal (recvCell c j 2) 0 ∗ semVal (recvCell c j 0) 0) ⊢ _
    iintro ⟨H1, H2, H0⟩; iframe H0 H1 H2
  have hcap := cap_close B κ ι c j
  have hsl := slots_back B c j
  unfold betweenF between done
  rw [Nat.min_eq_right hj]
  unfold capTo
  rw [Nat.min_eq_right (by omega : hops j - 2 ≤ hops j - 1)]
  iintro ⟨#HI, Hf, -, -, -, HpS, HpR, -, -, -, Hca, Hlo, -⟩
  imod hS $$ [HpS] with HS
  · isplitr; · iexact HI
    iexact HpS
  imod hR $$ [HpR] with HR
  · isplitr; · iexact HI
    iexact HpR
  imod hcap $$ [Hca] with HC
  · isplitr; · iexact HI
    iexact Hca
  imodintro
  isplitl [Hf Hlo]; · iapply hsl; iframe Hf Hlo
  isplitl [HS]; · iexact HS
  isplitl [HR]; · iapply hperm; iexact HR
  iexact HC

theorem owedAll_end : owedAll c 17 16 = 0 := by
  have h : ∀ l : List (Fin 8), (l.map fun j => owedF c j 17 16).sum = 0 := fun l => by
    induction l with
    | nil => rfl
    | cons j js ih =>
      have := hops_le j
      rw [List.map_cons, List.sum_cons, ih, add_zero]
      unfold owedF
      rw [Finset.Ico_eq_empty_of_le (by omega), Finset.Ico_eq_empty_of_le (by omega), Finset.sum_empty, Finset.sum_empty, add_zero]
  exact h flows

/-! ## The whole body -/

/-- What device `c` owes at the start. -/
def O₀ : CellTallies nD τ sig ℕ := (0 + owedAll c 0 0) + tallyAt (barCell (rtD c)) 0 1 + tallyAt (barCell (lfD c)) 0 1

/-- The result of device `c`'s run. -/
def outV (q k v : FVec F S512x128 .f32) : FVec F S512x128 .f32 :=
  k0_pay1 (runSt B c (k0_pay23 (k0_pay22 q)) 16 0 (k0_pay25 (k0_pay2 k) (k0_pay23 (k0_pay22 q)), k0_pay26 (k0_pay2 k) (k0_pay3 v) (k0_pay23 (k0_pay22 q)))).1
    (runSt B c (k0_pay23 (k0_pay22 q)) 16 0 (k0_pay25 (k0_pay2 k) (k0_pay23 (k0_pay22 q)), k0_pay26 (k0_pay2 k) (k0_pay3 v) (k0_pay23 (k0_pay22 q)))).2

abbrev qM : Memref sig .tc .vmem S512x128 .f32 := Memref.whole cc0_stg0_0
abbrev kM : Memref sig .tc .vmem S512x128 .f32 := Memref.whole cc0_stg1_0
abbrev vM : Memref sig .tc .vmem S512x128 .f32 := Memref.whole cc0_stg2_0
abbrev nM : Memref sig .tc .smem S2 .i32 := Memref.whole cc0_stg3_0
abbrev oM : Memref sig .tc .vmem S512x128 .f32 := Memref.whole cc0_stg4_0

/-- A staged block, whole. -/
abbrev blk (m : Memref sig .tc .vmem S512x128 .f32) (f : Buf (Elt F) (m.view.loc (c : Thread nD τ))) : sProp 𝕄 := m.view.loc (c : Thread nD τ) ↦{fullShare} f

theorem hz : (![0, 0] : Fin 2 → ℕ) = fun _ => 0 := by decide

theorem loadQ (f : FVec F S512x128 .f32) : blk c qM f ⊢ WP c (loadW qM) fun v => iprop(⌜v = f⌝ ∗ blk c qM f) := by
  unfold loadW
  iintro H
  iapply (wp_load 𝒱₀ (c : Thread nD τ) none Set.univ (m := qM) (Finset.subset_univ _)) $$ H; iintro H
  rw [wp_ret]; imodintro
  isplitr; · ipureintro; exact Memref.readAt_unit_zero (Elt F) cc0_stg0_0 hz _ f
  iexact H
theorem loadK (f : FVec F S512x128 .f32) : blk c kM f ⊢ WP c (loadW kM) fun v => iprop(⌜v = f⌝ ∗ blk c kM f) := by
  unfold loadW
  iintro H
  iapply (wp_load 𝒱₀ (c : Thread nD τ) none Set.univ (m := kM) (Finset.subset_univ _)) $$ H; iintro H
  rw [wp_ret]; imodintro
  isplitr; · ipureintro; exact Memref.readAt_unit_zero (Elt F) cc0_stg1_0 hz _ f
  iexact H
theorem loadV (f : FVec F S512x128 .f32) : blk c vM f ⊢ WP c (loadW vM) fun v => iprop(⌜v = f⌝ ∗ blk c vM f) := by
  unfold loadW
  iintro H
  iapply (wp_load 𝒱₀ (c : Thread nD τ) none Set.univ (m := vM) (Finset.subset_univ _)) $$ H; iintro H
  rw [wp_ret]; imodintro
  isplitr; · ipureintro; exact Memref.readAt_unit_zero (Elt F) cc0_stg2_0 hz _ f
  iexact H

/-- The result's dead load and its store. -/
theorem store_out (o w : FVec F S512x128 .f32) : blk c oM o ⊢ WP c (do
    let _ ← loadW (F := F) oM
    Prog.lift (.store oM (Rect.unit (s := S512x128) ![0, 0] S512x128.size inb_S512x128_S512x128_0_0) w Finset.univ
      (View.stores_vmem_bits_univ h_S512x128 rfl) (.inl rfl))) fun _ => blk c oM w := by
  have hw : (oM.access (Rect.unit (s := S512x128) ![0, 0] S512x128.size inb_S512x128_S512x128_0_0) : View sig .tc _ _ _).write (Elt F) o w Finset.univ = w :=
    Memref.write_access_unit_zero_univ (Elt F) cc0_stg4_0 hz inb_S512x128_S512x128_0_0 o w
  unfold loadW
  iintro HO
  iapply (wp_load 𝒱₀ (c : Thread nD τ) none Set.univ (m := oM) (Finset.subset_univ _)) $$ HO; iintro HO
  iapply (wp_store 𝒱₀ (c : Thread nD τ) none Set.univ (m := oM) (r := Rect.unit (s := S512x128) ![0, 0] S512x128.size inb_S512x128_S512x128_0_0) (Mk := Finset.univ)
    (Finset.subset_univ _)) $$ HO; iintro HO
  rw [hw, wp_ret]
  imodintro
  iexact HO

/-- Put every flow's own rows. -/
theorem put_all (kk vv : FVec F S512x128 .bf16) : ∀ l : List (Fin 8),
    seps (fun j => keep c j (slotAny c j 0)) l ⊢ WP c (each (putF kk vv) l) fun _ => seps (fun j => keep c j (slotAt c j 0 fullShare (slabIn kk vv j))) l
  | [] => WP_pure BIBase.Entails.refl
  | j :: js => by
    have h := put_all kk vv js
    simp only [seps_cons]
    refine WP_seq (R := fun _ => iprop(seps (fun j => keep c j (slotAny c j 0)) js ∗ keep c j (slotAt c j 0 fullShare (slabIn kk vv j)))) ?_ fun _ =>
      WP_frame (keep c j (slotAt c j 0 fullShare (slabIn kk vv j))) h BIBase.Entails.refl fun _ => by iintro ⟨H, H'⟩; iframe H' H
    unfold keep
    iintro ⟨⟨Hs, HK⟩, HR⟩
    iapply (WP_use (put_flow c j kk vv)) $$ [Hs]
    · iexact Hs
    iintro %_ Hs
    iframe HR Hs HK

/-- The kernel past the reads of the neighbours: from the start to the result, everything given back. -/
theorem main_run (q k v o : FVec F S512x128 .f32) (hB : ∀ j, B c j = slabIn (k0_pay2 k) (k0_pay3 v) j) :
    iprop(Inv B κ ι ∗ toMeet c ∗ seps (fresh c) flows ∗ blk c qM q ∗ blk c kM k ∗ blk c vM v ∗ blk c oM o ∗ debt c (O₀ c))
      ⊢ WP c (main₂ qM kM vM oM (lfD c) (rtD c)) fun _ => iprop(semVal (barCell c) 0 ∗ seps (done c) flows
        ∗ blk c qM q ∗ blk c kM k ∗ blk c vM v ∗ blk c oM (outV B c q k v) ∗ debt c 0) := by
  have habove : Above 1 (0 + owedAll c 0 0) := by
    refine (Above.zero 1).add ?_
    have h : ∀ l : List (Fin 8), Above 1 (l.map fun j => owedF c j 0 0).sum := fun l => by
      induction l with
      | nil => exact Above.zero 1
      | cons j js ih => rw [List.map_cons, List.sum_cons]; exact (owedF_above c j (by omega) (by omega)).add ih
    exact h flows
  have hmeet := meet_run B κ ι c (0 + owedAll c 0 0) habove
  have hsplit : seps (fresh c) flows ⊢ iprop(seps (offer c) flows ∗ seps (fun j => keep c j (slotAny (F := F) c j 0)) flows) :=
    (seps_mono (fresh_split c) flows).trans (seps_sep _ _ flows)
  have hput := put_all c (k0_pay2 k) (k0_pay3 v) flows
  have hready : iprop(seps (gain c) flows ∗ seps (fun j => keep c j (slotAt c j 0 fullShare (slabIn (k0_pay2 k) (k0_pay3 v) j))) flows) ⊢ seps (ready B c) flows :=
    (seps_join _ _ flows).trans (seps_mono (fun j => by rw [← hB j]; exact keep_ready B c j) flows)
  have htalk := talk_run B κ ι c (lfD c) (rtD c) rfl rfl (k0_pay22 q) (k0_pay2 k) (k0_pay3 v)
  have hend : 0 + owedAll c 17 16 = 0 := (zero_add _).trans (owedAll_end c)
  rw [hend] at htalk
  have hdone := seps_fupd (Inv B κ ι) (fun j => flow_done B κ ι c j) flows
  unfold O₀ main₂
  refine WP_seq (R := fun _ => iprop(Inv B κ ι ∗ (seps (gain c) flows ∗ atPos (ER F) (barCell c) 1 ∅ 0 ∗ debt c (0 + owedAll c 0 0))
    ∗ seps (fun j => keep c j (slotAny (F := F) c j 0)) flows ∗ blk c qM q ∗ blk c kM k ∗ blk c vM v ∗ blk c oM o)) ?_ fun _ => ?_
  · iintro ⟨#HI, Hm, Hfr, HQ, HK, HV, HO, HD⟩
    ihave Hfr := hsplit $$ Hfr
    icases Hfr with ⟨Hof, Hke⟩
    iapply (WP_use hmeet) $$ [Hm Hof HD]
    · isplitr; · iexact HI
      iframe Hm Hof HD
    iintro %_ H
    iframe HI H Hke HQ HK HV HO
  refine WP_seq (R := fun kk => iprop(⌜kk = k⌝ ∗ Inv B κ ι ∗ (seps (gain c) flows ∗ atPos (ER F) (barCell c) 1 ∅ 0 ∗ debt c (0 + owedAll c 0 0))
    ∗ seps (fun j => keep c j (slotAny (F := F) c j 0)) flows ∗ blk c qM q ∗ blk c kM k ∗ blk c vM v ∗ blk c oM o)) ?_ fun kk => ?_
  · iintro ⟨#HI, Hm, Hke, HQ, HK, HV, HO⟩
    iapply (WP_use (loadK c k)) $$ [HK]
    · iexact HK
    iintro %_ ⟨%h, HK⟩
    isplitr; · ipureintro; exact h
    iframe HI Hm Hke HQ HK HV HO
  refine WP_seq (R := fun vv => iprop(⌜kk = k ∧ vv = v⌝ ∗ Inv B κ ι ∗ (seps (gain c) flows ∗ atPos (ER F) (barCell c) 1 ∅ 0 ∗ debt c (0 + owedAll c 0 0))
    ∗ seps (fun j => keep c j (slotAny (F := F) c j 0)) flows ∗ blk c qM q ∗ blk c kM k ∗ blk c vM v ∗ blk c oM o)) ?_ fun vv => ?_
  · iintro ⟨%hk, #HI, Hm, Hke, HQ, HK, HV, HO⟩
    iapply (WP_use (loadV c v)) $$ [HV]
    · iexact HV
    iintro %_ ⟨%h, HV⟩
    isplitr; · ipureintro; exact ⟨hk, h⟩
    iframe HI Hm Hke HQ HK HV HO
  refine WP_seq (R := fun _ => iprop(⌜kk = k ∧ vv = v⌝ ∗ Inv B κ ι ∗ (atPos (ER F) (barCell c) 1 ∅ 0 ∗ debt c (0 + owedAll c 0 0))
    ∗ seps (ready B c) flows ∗ blk c qM q ∗ blk c kM k ∗ blk c vM v ∗ blk c oM o)) ?_ fun _ => ?_
  · iintro ⟨%hkv, #HI, ⟨Hg, Hm⟩, Hke, HQ, HK, HV, HO⟩
    obtain ⟨rfl, rfl⟩ := hkv
    iapply (WP_use hput) $$ [Hke]
    · iexact Hke
    iintro %_ Hke
    isplitr; · ipureintro; exact ⟨rfl, rfl⟩
    ihave Hre := hready $$ [Hg Hke]
    · iframe Hg Hke
    iframe HI Hm Hre HQ HK HV HO
  refine WP_seq (R := fun qq => iprop(⌜(kk = k ∧ vv = v) ∧ qq = q⌝ ∗ Inv B κ ι ∗ (atPos (ER F) (barCell c) 1 ∅ 0 ∗ debt c (0 + owedAll c 0 0))
    ∗ seps (ready B c) flows ∗ blk c qM q ∗ blk c kM k ∗ blk c vM v ∗ blk c oM o)) ?_ fun qq => ?_
  · iintro ⟨%hkv, #HI, Hm, Hke, HQ, HK, HV, HO⟩
    iapply (WP_use (loadQ c q)) $$ [HQ]
    · iexact HQ
    iintro %_ ⟨%h, HQ⟩
    isplitr; · ipureintro; exact ⟨hkv, h⟩
    iframe HI Hm Hke HQ HK HV HO
  refine WP_seq (R := fun st => iprop(⌜k0_pay1 st.1 st.2 = outV B c q k v⌝ ∗ semVal (barCell c) 0 ∗ seps (done c) flows
    ∗ blk c qM q ∗ blk c kM k ∗ blk c vM v ∗ blk c oM o ∗ debt c 0)) ?_ fun st => ?_
  · iintro ⟨%hkv, #HI, ⟨Hat, HD⟩, Hre, HQ, HK, HV, HO⟩
    obtain ⟨⟨rfl, rfl⟩, rfl⟩ := hkv
    iapply fupd_wp
    imod (Rounds.cell_close (ER F) (sched B) (g := barCell c) (Set.mem_univ (κ (barCell c))) (fun h => h) (duties_bar' B c)) $$ [Hat] with Hb
    · isplitr; · iapply (Inv_bar B κ ι c); iexact HI
      iexact Hat
    imodintro
    iapply wp_fupd
    iapply (WP_use htalk) $$ [Hre HD]
    · isplitr; · iexact HI
      iframe Hre HD
    iintro %st' ⟨%hst, Hbe, HD⟩
    imod hdone $$ [Hbe] with Hdo
    · isplitr; · iexact HI
      iexact Hbe
    imodintro
    isplitr; · ipureintro; rw [hst, outV]
    iframe Hb Hdo HQ HK HV HO HD
  iintro ⟨%hst, Hb, Hdo, HQ, HK, HV, HO, HD⟩
  iapply (WP_use (store_out c o (k0_pay1 st.1 st.2))) $$ [HO]
  · iexact HO
  rw [hst]
  iintro %_ HO
  iframe Hb Hdo HQ HK HV HO HD

end RingProof

end
-- ==== Proof.Words.lean ====
module

public import proofs.«01_k».proof.Proof.Body
public import proofs.«01_k».proof.Proof.Gen.KernelIdeal.Regions
public import Idealize.ShloMosaic.Lib.StableHlo.Run
public import Idealize.ShloMosaic.Lib.ValueIdx

@[expose] public section

noncomputable section

namespace RingProof

open Idealize.ShloMosaic Idealize.ShloMosaic.TcCoe
open Idealize.SL Idealize.SL.Sem
open Cert.KernelIdeal Cert.KernelIdeal.Gen

variable {F : FTy → Type} [FloatOps F] [Named F]

/-! ## The neighbour words -/

/-- Device `c`'s place in the ring, as the host computes it from the device's word. -/
def place (c : Dev nD) : IVec S_ 32 :=
  Host.remui (Host.divui (constantI S_ 32 (Dev.word c)) (constantI S_ 32 1#32)) (constantI S_ 32 32#32)
/-- The same, wrapped if negative. -/
def wrapped (c : Dev nD) : IVec S_ 32 :=
  select (cmpi .slt (place c) (constantI S_ 32 0#32)) (addi (place c) (constantI S_ 32 32#32)) (place c)
/-- One entry of a table of the ring. -/
def entry (t : Fin 32 → BitVec 32) (c : Dev nD) : IVec S1 32 :=
  Host.dynamicSlice S1 (fun i => t (S32.rowMajor i)) (fun _ => (wrapped c (Shape.Idx.first h_S_)).toInt) sliceFits_S32_S1

variable (m : (ℓ : Loc nD τ sig) → Buf (Elt F) ℓ)

theorem wrapped_val : ∀ c : Dev nD, (wrapped c (Shape.Idx.first h_S_)).toInt = c.val := by
  unfold wrapped place
  decide +kernel

/-- A family of one index operand is that operand. -/
theorem one_word (x : Ref sig .tc) (W : Valuation τ sig (Elt F)) (e : ∀ k : Fin 1, (![x] k).ty.Contents (Elt F) = IVec S_ 32) (i : S_.Idx) :
    (fun k : Fin 1 => BitVec.toInt ((cast (e k) (W (Proc.devRef .tc (![x] k))) : IVec S_ 32) i)) = fun _ => BitVec.toInt ((cast (e 0) (W (Proc.devRef .tc x)) : IVec S_ 32) i) := by
  funext k
  obtain rfl : k = 0 := Subsingleton.elim _ _
  rfl

theorem V1_left (c : Dev nD) : V1 m c main_v15 = (broadcastInDim S1 ![] bcast_S_S1 (shapeCast S_ (entry lit0 c) shapeCasts_S1_S_) : IVec S1 32) := by
  unfold V1 hostOps0
  after_results_simp
  rw [one_word main_v7]
  after_results_simp
  rfl

theorem V1_right (c : Dev nD) : V1 m c main_v16 = (broadcastInDim S1 ![] bcast_S_S1 (shapeCast S_ (entry lit1 c) shapeCasts_S1_S_) : IVec S1 32) := by
  unfold V1 hostOps0
  after_results_simp
  rw [one_word main_v12]
  after_results_simp
  rfl

theorem V1_cat (c : Dev nD) :
    V1 m c main_v17 = (concatenate S2 0 [⟨S1, V1 m c main_v15⟩, ⟨S1, V1 m c main_v16⟩] concatenates_S1_S1_S2_d0 : (⟨S2, .i32⟩ : BufTy).Contents (Elt F)) := by
  unfold V1 hostOps0
  after_results

theorem entry_left : ∀ c : Dev nD, entry lit0 c (ValueIdx.ix1 0) = lit0 c := by decide +kernel
theorem entry_right : ∀ c : Dev nD, entry lit1 c (ValueIdx.ix1 0) = lit1 c := by decide +kernel

end RingProof

end
-- ==== Proof.Entry.lean ====
module

public import proofs.«01_k».proof.Proof.Words

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

variable (m : (ℓ : Loc nD τ sig) → Buf (Elt F) ℓ) (B : Slabs F) (κ : GSem nD τ sig → ℕ) (ι : Key → ℕ) (c : Dev nD)

/-! ## The two words -/

/-- The two neighbours' words, as the host lays them out. -/
abbrev words (c : Dev nD) : IVec S2 32 := V1 m c main_v17

/-- Every index of a one-element shape is the first. -/
theorem ix1_zero (i : S1.Idx) : i = ValueIdx.ix1 0 := by
  funext a
  obtain rfl : a = 0 := Subsingleton.elim _ _
  exact Subsingleton.elim (α := Fin 1) _ _

theorem spread (t : Fin 32 → BitVec 32) (i : S1.Idx) :
    (broadcastInDim S1 ![] bcast_S_S1 (shapeCast S_ (entry t c) shapeCasts_S1_S_) : IVec S1 32) i = entry t c (ValueIdx.ix1 0) := by
  show entry t c _ = _
  exact congrArg _ (ix1_zero _)

theorem word_left : words m c (ValueIdx.ix1 0) = lit0 c := by
  unfold words
  rw [V1_cat]
  refine (concatenate_pair_apply_left (t := S2) (s₁ := S1) (s₂ := S1) 0 _ _ _ (ValueIdx.ix1 0) rfl (ValueIdx.ix1 0) ?_).trans ?_
  · decide
  · rw [V1_left, spread, entry_left]

theorem word_right : words m c (ValueIdx.ix1 1) = lit1 c := by
  unfold words
  rw [V1_cat]
  refine (concatenate_pair_apply_right (t := S2) (s₁ := S1) (s₂ := S1) 0 _ _ _ (ValueIdx.ix1 1) rfl rfl (ValueIdx.ix1 0) ?_ ?_).trans ?_
  · decide
  · rfl
  · rw [V1_right, spread, entry_right]

theorem chk_left : ∀ c : Dev nD, k0_chk1 (lit0 c) := by decide +kernel
theorem chk_right : ∀ c : Dev nD, k0_chk2 (lit1 c) := by decide +kernel
theorem dev_left : ∀ c : Dev nD, k0_dev1 (lit0 c) = (lit0 c).toNat := by decide +kernel
theorem dev_right : ∀ c : Dev nD, k0_dev2 (lit1 c) = (lit1 c).toNat := by decide +kernel

theorem first_left (w : IVec S2 32) (x : S1.Idx) :
    ((nM.access (Rect.unit (s := S2) ![0] S1.size inb_S2_S1_0) : View sig .tc _ _ _).read (Elt F) w x : Elt F .i32) = w (ValueIdx.ix1 0) := by
  rw [ix1_zero x]
  refine congrArg w (funext fun a : Fin 1 => ?_)
  obtain rfl : a = 0 := Subsingleton.elim _ _
  rfl
theorem first_right (w : IVec S2 32) (x : S1.Idx) :
    ((nM.access (Rect.unit (s := S2) ![1] S1.size inb_S2_S1_1) : View sig .tc _ _ _).read (Elt F) w x : Elt F .i32) = w (ValueIdx.ix1 1) := by
  rw [ix1_zero x]
  refine congrArg w (funext fun a : Fin 1 => ?_)
  obtain rfl : a = 0 := Subsingleton.elim _ _
  rfl

/-! ## The kernel -/

/-- The neighbours' words in the kernel's memory. -/
abbrev nbr (c : Dev nD) (w : IVec S2 32) : sProp 𝕄 := (nM.view.loc (c : Thread nD τ) ↦{fullShare} (w : Buf (Elt F) (nM.view.loc (c : Thread nD τ))))

theorem of_same {P Q : sProp 𝕄} (h : P = Q) : P ⊢ Q := h ▸ BIBase.Entails.refl
/-- A fact at the head of a resource. -/
theorem with_fact {φ : Prop} {P R Q : sProp 𝕄} (h : φ → iprop(P ∗ R) ⊢ Q) : iprop((⌜φ⌝ ∗ P) ∗ R) ⊢ Q := by
  iintro ⟨⟨%hφ, HP⟩, HR⟩
  iapply (h hφ)
  iframe HP HR

/-- Reading one word. -/
theorem load_word (n : Fin 1 → ℕ) (h) (hp) (w : IVec S2 32) (a : BitVec 32)
    (ha : ∀ x : S1.Idx, ((nM.access (Rect.unit (s := S2) n S1.size h) : View sig .tc _ _ _).read (Elt F) w x : Elt F .i32) = a) :
    nbr (F := F) c w ⊢ WP c (smemLoad nM (Rect.unit (s := S2) n S1.size h) numel1_S1 hp : K F (Elt F .i32)) fun v => iprop(⌜v = a⌝ ∗ nbr (F := F) c w) := by
  unfold smemLoad smemLoadElt
  iintro HN
  iapply (wp_load_rect 𝒱₀ (c : Thread nD τ) none Set.univ (m := nM) (r := Rect.unit (s := S2) n S1.size h) (Finset.subset_univ _)) $$ HN
  iintro HN
  rw [wp_ret]
  imodintro
  isplitr; · ipureintro; exact ha _
  iexact HN

/-- An assumption that holds. -/
theorem WP_assume {β : Type} {P : Prop} {d : Decidable P} {R : sProp 𝕄} {k : PLift P → K F β} {Q : β → sProp 𝕄} (h : P) (hk : R ⊢ WP c (k ⟨h⟩) Q) :
    R ⊢ WP c (Prog.lift (TpuEff.assume P d) >>= k) Q := by
  have e := wp_assume_of (defs := defs₀ (F := F)) 𝒱₀ (c : Thread nD τ) none Set.univ (k := k) (d := d) (Q := Q) h
  exact hk.trans (of_same e.symm)

/-- Devices given by number. -/
theorem at_devs {P : sProp 𝕄} {Q : PUnit → sProp 𝕄} (a b : ℕ) (ha : a < nD) (hb : b < nD) (e : a = (lfD c).val) (e' : b = (rtD c).val)
    (h : P ⊢ WP c (main₂ qM kM vM oM (lfD c) (rtD c)) Q) : P ⊢ WP c (main₂ qM kM vM oM ⟨a, ha⟩ ⟨b, hb⟩) Q := by
  have h0 : (⟨a, ha⟩ : Dev nD) = lfD c := Fin.ext e
  have h1 : (⟨b, hb⟩ : Dev nD) = rtD c := Fin.ext e'
  rw [h0, h1]
  exact h

/-- The whole kernel, from the neighbours' words to the result. -/
theorem whole_run (w : IVec S2 32) (hl : w (ValueIdx.ix1 0) = lit0 c) (hr : w (ValueIdx.ix1 1) = lit1 c) (q k v o : FVec F S512x128 .f32)
    (hB : ∀ j, B c j = slabIn (k0_pay2 k) (k0_pay3 v) j) :
    iprop(nbr (F := F) c w ∗ Inv B κ ι ∗ toMeet c ∗ seps (fresh c) flows ∗ blk c qM q ∗ blk c kM k ∗ blk c vM v ∗ blk c oM o ∗ debt c (O₀ c))
      ⊢ WP c (whole qM kM vM nM oM) fun _ => iprop(nbr (F := F) c w ∗ semVal (barCell c) 0 ∗ seps (done c) flows
        ∗ blk c qM q ∗ blk c kM k ∗ blk c vM v ∗ blk c oM (outV B c q k v) ∗ debt c 0) := by
  have hmain := main_run B κ ι c q k v o hB
  unfold whole
  refine WP_seq (WP_frame _ (load_word c ![0] inb_S2_S1_0 rfl w (lit0 c) fun x => (first_left w x).trans hl) BIBase.Entails.refl fun _ => BIBase.Entails.refl) fun v0 => ?_
  refine with_fact fun hv0 => ?_
  refine WP_assume c (by rw [hv0]; exact chk_left c) ?_
  refine WP_seq (WP_frame _ (load_word c ![1] inb_S2_S1_1 rfl w (lit1 c) fun x => (first_right w x).trans hr) BIBase.Entails.refl fun _ => BIBase.Entails.refl) fun v1 => ?_
  refine with_fact fun hv1 => ?_
  refine WP_assume c (by rw [hv1]; exact chk_right c) ?_
  have e0 : k0_dev1 v0 = (lfD c).val := by rw [hv0]; exact dev_left c
  have e1 : k0_dev2 v1 = (rtD c).val := by rw [hv1]; exact dev_right c
  refine WP_frame (nbr c w) (P := iprop(Inv B κ ι ∗ toMeet c ∗ seps (fresh c) flows ∗ blk c qM q ∗ blk c kM k ∗ blk c vM v ∗ blk c oM o ∗ debt c (O₀ c)))
    (R := fun _ => iprop(semVal (barCell c) 0 ∗ seps (done c) flows
        ∗ blk c qM q ∗ blk c kM k ∗ blk c vM v ∗ blk c oM (outV B c q k v) ∗ debt c 0)) ?_ ?_ fun _ => ?_
  · exact at_devs c _ _ _ _ e0 e1 hmain
  · iintro ⟨H, H'⟩
    isplitl [H']; · iexact H'
    iexact H
  · iintro ⟨H, H'⟩
    isplitl [H']; · iexact H'
    iexact H

end RingProof

end
-- ==== Proof.Deal.lean ====
module

public import proofs.«01_k».proof.Proof.Entry
public import Idealize.ShloMosaic.Lib.SparseCore.Launch
public import Idealize.ShloMosaic.Lib.Pipeline.Cells

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

/-! ## Going round the ring, flow by flow -/

/-- The step of flow `j` as a permutation of the devices. -/
def flowE (j : Fin 8) : Dev nD ≃ Dev nD := ⟨fun c => dst c j, fun c => csrc c j, fun c => csrc_dst c j, fun c => dst_csrc c j⟩

/-- Each device's share for each flow, held by the flow's sender instead. -/
theorem shift_dst (Φ : Dev nD → Fin 8 → sProp 𝕄) :
    (bigSep Finset.univ fun c => bigSep Finset.univ fun j => Φ c j) = bigSep Finset.univ fun c => bigSep Finset.univ fun j => Φ (dst c j) j := by
  rw [Pipeline.bigSep_univ_comm, Pipeline.bigSep_univ_comm fun c j => Φ (dst c j) j]
  exact bigSep_congr fun j _ => bigSep_univ_equiv (flowE j) fun c => Φ c j

/-- The same, held by the flow's receiver instead. -/
theorem shift_src (Φ : Dev nD → Fin 8 → sProp 𝕄) :
    (bigSep Finset.univ fun c => bigSep Finset.univ fun j => Φ c j) = bigSep Finset.univ fun c => bigSep Finset.univ fun j => Φ (csrc c j) j := by
  rw [Pipeline.bigSep_univ_comm, Pipeline.bigSep_univ_comm fun c j => Φ (csrc c j) j]
  exact bigSep_congr fun j _ => bigSep_univ_equiv (flowE j).symm fun c => Φ c j

/-- A sum over the flows in the order of the text. -/
theorem flows_sum {M : Type} [AddCommMonoid M] (f : Fin 8 → M) : (flows.map f).sum = ∑ j, f j := by
  rw [Fin.sum_univ_eight]
  simp only [flows, List.map_cons, List.map_nil, List.sum_cons, List.sum_nil, add_zero, add_assoc]

/-! ## The credits -/

variable (c : Dev nD)

/-- What the others owe to device `c`'s cells for flow `j`. -/
def claimF (j : Fin 8) : CellTallies nD τ sig ℕ :=
  (∑ h ∈ Finset.Ico 0 (hops j), tallyAt (recvCell c j (sl (h + 1))) h hopN) + ∑ d ∈ Finset.Ico 0 (hops j - 2), tallyAt (capCell c j) d 1

/-- What the others owe to device `c`'s cells. -/
def claim₀ : CellTallies nD τ sig ℕ := (tallyAt (barCell c) 0 1 + tallyAt (barCell c) 0 1) + ∑ j, claimF c j

/-- All that is owed at the start is all that is claimed. -/
theorem owed_claimed : (∑ c, O₀ c) = ∑ c, claim₀ c := by
  have h1 : (∑ c : Dev nD, tallyAt (barCell (rtD c)) 0 1 : CellTallies nD τ sig ℕ) = ∑ c, tallyAt (barCell c) 0 1 :=
    Equiv.sum_comp ring fun c => (tallyAt (barCell c) 0 1 : CellTallies nD τ sig ℕ)
  have h2 : (∑ c : Dev nD, tallyAt (barCell (lfD c)) 0 1 : CellTallies nD τ sig ℕ) = ∑ c, tallyAt (barCell c) 0 1 :=
    Equiv.sum_comp ring.symm fun c => (tallyAt (barCell c) 0 1 : CellTallies nD τ sig ℕ)
  have h3 : (∑ c : Dev nD, owedAll c 0 0) = ∑ c : Dev nD, ∑ j, claimF c j := by
    have e : ∀ c : Dev nD, owedAll c 0 0 = ∑ j, owedF c j 0 0 := fun c => flows_sum _
    rw [Finset.sum_congr rfl fun c _ => e c, Finset.sum_comm, Finset.sum_comm (f := fun c j => claimF c j)]
    refine Finset.sum_congr rfl fun j _ => ?_
    unfold owedF claimF
    rw [Finset.sum_add_distrib, Finset.sum_add_distrib]
    refine congrArg₂ (· + ·) ?_ ?_
    · exact Equiv.sum_comp (flowE j) fun c => ∑ h ∈ Finset.Ico 0 (hops j), (tallyAt (recvCell c j (sl (h + 1))) h hopN : CellTallies nD τ sig ℕ)
    · exact Equiv.sum_comp (flowE j).symm fun c => ∑ d ∈ Finset.Ico 0 (hops j - 2), (tallyAt (capCell c j) d 1 : CellTallies nD τ sig ℕ)
  unfold O₀ claim₀
  simp only [zero_add, Finset.sum_add_distrib]
  rw [h1, h2, h3]
  abel

theorem claimF_own (j : Fin 8) (g : GSem nD τ sig) (h : claimF c j g ≠ 0) : g.1 = (c : Thread nD τ) := by
  by_contra hg
  refine h ?_
  have hz : ∀ (sm : SemLoc sig) (i k : ℕ), (tallyAt ((c : Thread nD τ), sm) i k : CellTallies nD τ sig ℕ) g = 0 := fun sm i k => by
    unfold tallyAt tallyOn
    exact Pi.single_eq_of_ne (fun e => hg (congrArg Prod.fst e)) _
  unfold claimF
  rw [Pi.add_apply, Finset.sum_apply, Finset.sum_apply, Finset.sum_eq_zero fun h _ => hz _ _ _, Finset.sum_eq_zero fun d _ => hz _ _ _, add_zero]

theorem claim₀_own (g : GSem nD τ sig) (h : claim₀ c g ≠ 0) : g.1 = (c : Thread nD τ) := by
  by_contra hg
  refine h ?_
  have hz : ∀ (sm : SemLoc sig) (i k : ℕ), (tallyAt ((c : Thread nD τ), sm) i k : CellTallies nD τ sig ℕ) g = 0 := fun sm i k => by
    unfold tallyAt tallyOn
    exact Pi.single_eq_of_ne (fun e => hg (congrArg Prod.fst e)) _
  unfold claim₀
  rw [Pi.add_apply, Pi.add_apply, Finset.sum_apply, hz, add_zero, zero_add]
  exact Finset.sum_eq_zero fun j _ => by_contra fun hj => hg (claimF_own c j g hj)

/-- The credits with which a device starts. -/
def credits : sProp 𝕄 :=
  iprop(cred (tallyAt (barCell c) 0 2) ∗ bigSep Finset.univ fun j =>
    iprop(toRecv (F := F) c j 0 ∗ bigSep (Finset.Ico 0 (hops j - 2)) fun d => cred (tallyAt (capCell c j) d 1)))

theorem credits_eq : (Pipeline.launchCred O₀ c : sProp 𝕄) = credits (F := F) c := by
  have h2 : (tallyAt (barCell c) 0 2 : CellTallies nD τ sig ℕ) = tallyAt (barCell c) 0 1 + tallyAt (barCell c) 0 1 := by
    unfold tallyAt tallyOn; rw [← Pi.single_add, ← Finsupp.single_add]
  have hadd : ∀ T₁ T₂ : CellTallies nD τ sig ℕ, (cred (T₁ + T₂) : sProp 𝕄) = iprop(cred T₁ ∗ cred T₂) := fun T₁ T₂ =>
    BI.Entails.antisymm (cred_add _ _).1 (cred_add _ _).2
  rw [Pipeline.launchCred_of_sum O₀ claim₀ owed_claimed claim₀_own c]
  unfold claim₀ credits
  rw [hadd, Pipeline.cred_finsetSum, h2]
  refine congrArg (fun X => iprop(_ ∗ X)) (bigSep_congr fun j _ => ?_)
  unfold claimF toRecv
  rw [hadd, Pipeline.cred_finsetSum, Pipeline.cred_finsetSum]

/-! ## The tokens -/

/-- A device's cells' duties: the two of the handshake; per flow, one per hop out, one per hop in, one per credit. -/
abbrev TK : Type := Bool ⊕ (Fin 8 × ((Fin 16 ⊕ Fin 16) ⊕ Fin 14))

/-- The semaphore, the round and the number of a duty. -/
def tkS : TK → SemLoc sig × ℕ × ℕ
  | .inl b => (.reg barS, 0, if b then 1 else 0)
  | .inr (j, .inl (.inl h)) => (.dma (sendS j (sl h.val)), h.val / 3, 0)
  | .inr (j, .inl (.inr h)) => (.dma (recvS j (sl (h.val + 1))), h.val / 3, 0)
  | .inr (j, .inr d) => (.reg (capS j), 0, d.val)

/-- The same with the semaphore's role. -/
def tkR : TK → Role × ℕ × ℕ
  | .inl b => (.bar, 0, if b then 1 else 0)
  | .inr (j, .inl (.inl h)) => (.send j (sl h.val), h.val / 3, 0)
  | .inr (j, .inl (.inr h)) => (.recv j (sl (h.val + 1)), h.val / 3, 0)
  | .inr (j, .inr d) => (.cap j, 0, d.val)

theorem tkR_eq : ∀ x : TK, (role (tkS x).1, (tkS x).2) = tkR x
  | .inl b => by unfold tkS tkR; rw [role_bar]
  | .inr (j, .inl (.inl h)) => by unfold tkS tkR; rw [role_send]
  | .inr (j, .inl (.inr h)) => by unfold tkS tkR; rw [role_recv]
  | .inr (j, .inr d) => by unfold tkS tkR; rw [role_cap]

theorem sl_val (n : ℕ) : (sl n).val = n % 3 := rfl

theorem tkR_inj : Function.Injective tkR := by
  intro x y h
  rcases x with b | ⟨j, (a | a) | a⟩ <;> rcases y with b' | ⟨j', (a' | a') | a'⟩ <;>
    simp only [tkR, Prod.mk.injEq, Role.send.injEq, Role.recv.injEq, Role.cap.injEq, reduceCtorEq, false_and, true_and, and_true] at h
  · rcases b <;> rcases b' <;> first | rfl | exact absurd h (by decide)
  · obtain ⟨⟨rfl, hs⟩, hq⟩ := h
    have := congrArg Fin.val hs; rw [sl_val, sl_val] at this
    obtain rfl : a = a' := Fin.ext (by omega)
    rfl
  · obtain ⟨⟨rfl, hs⟩, hq⟩ := h
    have := congrArg Fin.val hs; rw [sl_val, sl_val] at this
    obtain rfl : a = a' := Fin.ext (by omega)
    rfl
  · obtain ⟨rfl, hq⟩ := h
    obtain rfl : a = a' := Fin.ext hq
    rfl

theorem tkS_inj : Function.Injective tkS := fun x y h => tkR_inj (by rw [← tkR_eq, ← tkR_eq, h])

/-- Every device's duties. -/
def tkE : (Dev nD × TK) ↪ (GSem nD τ sig × ℕ × ℕ) where
  toFun x := (((x.1 : Thread nD τ), (tkS x.2).1), (tkS x.2).2)
  inj' x y h := by
    have h1 : x.1 = y.1 := congrArg (fun z : GSem nD τ sig × ℕ × ℕ => z.1.1.1) h
    have h2 : tkS x.2 = tkS y.2 := Prod.ext (congrArg (fun z : GSem nD τ sig × ℕ × ℕ => z.1.2) h) (congrArg (fun z : GSem nD τ sig × ℕ × ℕ => z.2) h)
    exact Prod.ext h1 (tkS_inj h2)

/-- All duties as one set. -/
def toks : Finset (GSem nD τ sig × ℕ × ℕ) := (Finset.univ : Finset (Dev nD × TK)).map tkE

/-- The first `k` of `n` numbered resources. -/
theorem fin_first {n k : ℕ} (h : k ≤ n) (Φ : ℕ → sProp 𝕄) : bigSep (Finset.univ : Finset (Fin n)) (fun i => Φ i.val) ⊢ bigSep (Finset.Ico 0 k) Φ := by
  have e : (bigSep (Finset.univ : Finset (Fin n)) fun i => Φ i.val) = bigSep (Finset.range n) Φ :=
    ((congrArg (fun s => bigSep s Φ) (show Finset.range n = (Finset.univ : Finset (Fin n)).map Fin.valEmbedding by
      ext i; simp only [Finset.mem_range, Finset.mem_map, Finset.mem_univ, true_and, Fin.valEmbedding_apply]
      exact ⟨fun hi => ⟨⟨i, hi⟩, rfl⟩, fun ⟨a, ha⟩ => ha ▸ a.isLt⟩)).trans (bigSep_map _)).symm
  rw [e]
  exact BI.bigSep_subset (fun i hi => Finset.mem_range.mpr (lt_of_lt_of_le (Finset.mem_Ico.mp hi).2 h))

theorem both {P P' Q Q' : sProp 𝕄} (h : P ⊢ P') (k : Q ⊢ Q') : iprop(P ∗ Q) ⊢ iprop(P' ∗ Q') := BIClass.sep_mono h k

theorem bs_sum {α β : Type} [Fintype α] [Fintype β] (Φ : α ⊕ β → sProp 𝕄) :
    bigSep Finset.univ Φ = iprop((bigSep Finset.univ fun a => Φ (.inl a)) ∗ bigSep Finset.univ fun b => Φ (.inr b)) :=
  bigSep_univ_sum Φ

/-- The duties of device `c`'s own cells for flow `j`, those of the hops in, and those of its credits. -/
abbrev tokSend (j : Fin 8) : sProp 𝕄 := bigSep (Finset.Ico 0 (hops j)) fun h => dutyTok (ER F) (sendCell c j (sl h)) (h / 3) 0
abbrev tokRecv (j : Fin 8) : sProp 𝕄 := bigSep (Finset.Ico 0 (hops j)) fun h => dutyTok (ER F) (recvCell c j (sl (h + 1))) (h / 3) 0
abbrev tokCap (j : Fin 8) : sProp 𝕄 := bigSep (Finset.Ico 0 (hops j - 2)) fun d => dutyTok (ER F) (capCell c j) 0 d

theorem toks_own : bigSep toks (fun x => dutyTok (ER F) x.1 x.2.1 x.2.2) ⊢ bigSep Finset.univ fun c : Dev nD =>
    iprop((dutyTok (ER F) (barCell c) 0 0 ∗ dutyTok (ER F) (barCell c) 0 1) ∗ bigSep Finset.univ fun j => iprop((tokSend (F := F) c j ∗ tokRecv (F := F) c j) ∗ tokCap (F := F) c j)) := by
  unfold toks
  rw [bigSep_map, bigSep_univ_prod]
  refine bigSep_mono fun c _ => ?_
  rw [bs_sum]
  refine both ?_ ?_
  · refine of_same ?_
    rw [show (Finset.univ : Finset Bool) = {false, true} from by decide, bigSep_insert (by decide), bigSep_singleton]
    rfl
  · rw [bigSep_univ_prod]
    refine bigSep_mono fun j _ => ?_
    rw [bs_sum, bs_sum]
    refine both (both ?_ ?_) ?_
    · exact fin_first (n := 16) (hops_le j) fun h => dutyTok (ER F) (sendCell c j (sl h)) (h / 3) 0
    · exact fin_first (n := 16) (hops_le j) fun h => dutyTok (ER F) (recvCell c j (sl (h + 1))) (h / 3) 0
    · exact fin_first (n := 14) (by have := hops_le j; omega) fun d => dutyTok (ER F) (capCell c j) 0 d

/-- Each device gets the tokens of the duties that it pays. -/
theorem toks_dealt : bigSep toks (fun x => dutyTok (ER F) x.1 x.2.1 x.2.2) ⊢ bigSep Finset.univ fun c : Dev nD =>
    iprop((dutyTok (ER F) (barCell (lfD c)) 0 0 ∗ dutyTok (ER F) (barCell (rtD c)) 0 1)
      ∗ bigSep Finset.univ fun j => iprop((tokSend (F := F) c j ∗ tokRecv (F := F) (dst c j) j) ∗ tokCap (F := F) (csrc c j) j)) := by
  refine toks_own.trans (of_same ?_)
  simp only [bs_sep]
  rw [shift_dst fun c j => tokRecv (F := F) c j, shift_src fun c j => tokCap (F := F) c j]
  rw [bigSep_univ_equiv ring.symm fun c => dutyTok (ER F) (barCell c) 0 0, bigSep_univ_equiv ring fun c => dutyTok (ER F) (barCell c) 0 1]
  rfl

/-! ## The credits' counts and rights -/

theorem keys_own (Φ : Key → sProp 𝕄) : bigSep keys Φ ⊢ bigSep Finset.univ fun c : Dev nD => bigSep Finset.univ fun j => bigSep (Finset.Ico 0 (hops j - 2)) fun d => Φ (c, j, d) := by
  unfold keys
  rw [SparseCore.bigSep_product]
  refine bigSep_mono fun c _ => ?_
  rw [SparseCore.bigSep_product]
  refine bigSep_mono fun j _ => ?_
  exact BI.bigSep_subset (fun i hi => Finset.mem_range.mpr (by have := (Finset.mem_Ico.mp hi).2; have := hops_le j; omega))

theorem writes_dealt : bigSep (keys ×ˢ Finset.range 1) (fun x => Release.writeTok (ES F) x.1 (x.2 + 1)) ⊢ bigSep Finset.univ fun c : Dev nD => bigSep Finset.univ fun j =>
    bigSep (Finset.Ico 0 (hops j - 2)) fun d => Release.writeTok (ES F) (dst c j, j, d) 1 := by
  rw [← shift_dst fun c j => bigSep (Finset.Ico 0 (hops j - 2)) fun d => Release.writeTok (ES F) (c, j, d) 1, SparseCore.bigSep_product]
  refine BIBase.Entails.trans (of_same ?_) (keys_own fun k => Release.writeTok (ES F) k 1)
  refine bigSep_congr fun k _ => ?_
  rw [Finset.range_one, bigSep_singleton]

/-! ## What each device starts with -/

variable (B : Slabs F) (κ : GSem nD τ sig → ℕ) (ι : Key → ℕ)

/-- What every device may consult: all invariants, and that every handshake cell has started. -/
def recs : sProp 𝕄 :=
  iprop((bigSep cells fun g => cellInv (ER F) (sched B) (κ g) g) ∗ (bigSep keys fun k => Release.slotInv (ES F) (ι k) k (keyS k)) ∗ bigSep barCells fun g => reached (ER F) g 0)

instance recs_persistent : BI.Persistent (recs B κ ι) := by unfold recs; infer_instance

theorem recs_cell {g : GSem nD τ sig} (h : g ∈ cells) : recs B κ ι ⊢ cellInv (ER F) (sched B) (κ g) g := by
  unfold recs
  iintro ⟨H, -, -⟩
  iapply (show (bigSep cells fun g => cellInv (ER F) (sched B) (κ g) g) ⊢ cellInv (ER F) (sched B) (κ g) g from bigSep_elim h)
  iexact H

theorem recs_bar : recs B κ ι ⊢ reached (ER F) (barCell c) 0 := by
  unfold recs
  iintro ⟨-, -, H⟩
  iapply (show (bigSep barCells fun g => (reached (ER F) g 0 : sProp 𝕄)) ⊢ reached (ER F) (barCell c) 0 from
    bigSep_elim (Finset.mem_image_of_mem _ (Finset.mem_univ c)))
  iexact H

/-- One flow's part of what a device alone holds. -/
def linF (j : Fin 8) : sProp 𝕄 :=
  iprop(((tokSend (F := F) c j ∗ tokRecv (F := F) (dst c j) j) ∗ tokCap (F := F) (csrc c j) j)
    ∗ (bigSep (Finset.Ico 0 (hops j - 2)) fun d => Release.readerAt (ES F) (c, j, d) 0)
    ∗ (bigSep (Finset.Ico 0 (hops j - 2)) fun d => Release.writeTok (ES F) (dst c j, j, d) 1))

/-- What a device alone holds. -/
def lin : sProp 𝕄 :=
  iprop(atPos (ER F) (barCell c) 0 ∅ 0 ∗ (bigSep Finset.univ fun x : FC => openTok (ER F) ((c : Thread nD τ), fsem x))
    ∗ (dutyTok (ER F) (barCell (lfD c)) 0 0 ∗ dutyTok (ER F) (barCell (rtD c)) 0 1) ∗ bigSep Finset.univ (linF (F := F) c))

/-- What a device starts with. -/
def start : sProp 𝕄 := iprop(∃ κ ι, recs B κ ι ∗ lin (F := F) c)

theorem fsem_ne_bar : ∀ x : FC, fsem x ≠ .reg barS := by decide

theorem fsem_inj : Function.Injective fsem := by
  intro x y h
  have h' := congrArg role h
  rcases x with ⟨j, s | s | s⟩ <;> rcases y with ⟨j', s' | s' | s'⟩ <;>
    simp only [fsem, role_send, role_recv, role_cap, Role.send.injEq, Role.recv.injEq, Role.cap.injEq, reduceCtorEq] at h'
  · obtain ⟨rfl, rfl⟩ := h'; rfl
  · obtain ⟨rfl, rfl⟩ := h'; rfl
  · obtain rfl := h'; rfl

theorem disjoint_cells : Disjoint barCells flowCells := by
  rw [Finset.disjoint_left]
  intro g h1 h2
  obtain ⟨c, -, rfl⟩ := Finset.mem_image.mp h1
  obtain ⟨x, -, h⟩ := Finset.mem_image.mp h2
  exact fsem_ne_bar x.2 (congrArg Prod.snd h)

theorem barCells_each (Φ : GSem nD τ sig → sProp 𝕄) : bigSep barCells Φ = bigSep Finset.univ fun c : Dev nD => Φ (barCell c) :=
  bigSep_image_of_injOn (fun a _ b _ h => congrArg (fun g : GSem nD τ sig => g.1.1) h) Φ

theorem flowCells_each (Φ : GSem nD τ sig → sProp 𝕄) :
    bigSep flowCells Φ = bigSep Finset.univ fun c : Dev nD => bigSep Finset.univ fun x : FC => Φ ((c : Thread nD τ), fsem x) := by
  unfold flowCells
  rw [bigSep_image_of_injOn (fun a _ b _ h => Prod.ext (congrArg (fun g : GSem nD τ sig => g.1.1) h) (fsem_inj (congrArg (fun g : GSem nD τ sig => g.2) h))) Φ, bigSep_univ_prod]

/-- What the devices alone hold, together. -/
theorem lin_dealt : iprop((bigSep Finset.univ fun c : Dev nD => atPos (ER F) (barCell c) 0 ∅ 0) ∗ (bigSep Finset.univ fun c : Dev nD => bigSep Finset.univ fun x : FC => openTok (ER F) ((c : Thread nD τ), fsem x))
      ∗ (bigSep Finset.univ fun c : Dev nD => iprop((dutyTok (ER F) (barCell (lfD c)) 0 0 ∗ dutyTok (ER F) (barCell (rtD c)) 0 1)
        ∗ bigSep Finset.univ fun j => iprop((tokSend (F := F) c j ∗ tokRecv (F := F) (dst c j) j) ∗ tokCap (F := F) (csrc c j) j)))
      ∗ (bigSep Finset.univ fun c : Dev nD => bigSep Finset.univ fun j => bigSep (Finset.Ico 0 (hops j - 2)) fun d => Release.readerAt (ES F) (c, j, d) 0)
      ∗ (bigSep Finset.univ fun c : Dev nD => bigSep Finset.univ fun j => bigSep (Finset.Ico 0 (hops j - 2)) fun d => Release.writeTok (ES F) (dst c j, j, d) 1))
      ⊢ bigSep Finset.univ (lin (F := F)) := by
  unfold lin linF
  simp only [bs_sep]
  iintro ⟨H1, H2, ⟨H3, H4⟩, H5, H6⟩
  isplitl [H1]; · iexact H1
  isplitl [H2]; · iexact H2
  isplitl [H3]; · iexact H3
  isplitl [H4]; · iexact H4
  isplitl [H5]; · iexact H5
  iexact H6

/-- The cells' part of the launch's ghost state. -/
theorem cells_funded : iprop((bigSep barCells fun g => (semVal g 0 : sProp 𝕄)) ∗ BI.own (ER F (launchOf barCells flowCells toks)))
    ⊢ iprop(|={Set.univ}=> ∃ κ : GSem nD τ sig → ℕ, (bigSep cells fun g => cellInv (ER F) (sched B) (κ g) g) ∗ (bigSep barCells fun g => reached (ER F) g 0)
      ∗ (bigSep barCells fun g => atPos (ER F) g 0 ∅ 0) ∗ (bigSep flowCells fun g => openTok (ER F) g) ∗ bigSep toks fun x => dutyTok (ER F) x.1 x.2.1 x.2.2) := by
  generalize htk : toks = T
  have hd := disjoint_cells
  unfold cells
  generalize hS : barCells = S at hd ⊢
  generalize hSd : flowCells = Sd at hd ⊢
  iintro H
  imod (Rounds.fund_launch (ER F) (sched B) hd (fun g _ h => h) T) $$ H with ⟨%κ, -, Hinv, Hr, Hat, Hopen, Htok⟩
  imodintro
  iexists κ
  isplitl [Hinv]; · iexact Hinv
  isplitl [Hr]; · iexact Hr
  isplitl [Hat]; · iexact Hat
  isplitl [Hopen]; · iexact Hopen
  iexact Htok

/-- The credits' part. -/
theorem keys_funded : BI.own (ES F (Release.initSlots keys 1))
    ⊢ iprop(|={Set.univ}=> ∃ ι : Key → ℕ, (bigSep keys fun k => Release.slotInv (ES F) (ι k) k (keyS k))
      ∗ (bigSep keys fun k => Release.readerAt (ES F) k 0) ∗ bigSep (keys ×ˢ Finset.range 1) fun x => Release.writeTok (ES F) x.1 (x.2 + 1)) := by
  generalize keys = S
  iintro H
  imod (Release.slots_init (ES F) S 1 keyS) $$ H with ⟨%ι, -, Hslot, Hread, Hwrite⟩
  imodintro
  iexists ι
  isplitl [Hslot]; · iexact Hslot
  isplitl [Hread]; · iexact Hread
  iexact Hwrite

theorem start_intro (c : Dev nD) : iprop(recs B κ ι ∗ lin (F := F) c) ⊢ start c B := by
  unfold start
  iintro ⟨#HR, HL⟩
  iexists κ, ι
  isplitr; · iexact HR
  iexact HL

theorem start_all : iprop(recs B κ ι ∗ bigSep Finset.univ (lin (F := F))) ⊢ bigSep Finset.univ fun c => start c B :=
  bigSep_with_persistent (R := recs B κ ι) (Φ := lin (F := F)) fun c _ => start_intro B κ ι c

/-- The launch's ghost state, dealt to the devices. -/
theorem start_dealt : iprop((bigSep Finset.univ fun c : Dev nD => semVal (barCell c) 0) ∗ BI.own (ER F (launchOf barCells flowCells toks)) ∗ BI.own (ES F (Release.initSlots keys 1)))
    ⊢ iprop(|={Set.univ}=> bigSep Finset.univ fun c => start c B) := by
  have hv := of_same (barCells_each (F := F) fun g => semVal g 0).symm
  have ha := of_same (barCells_each (F := F) fun g => atPos (ER F) g 0 ∅ 0)
  have ho := of_same (flowCells_each (F := F) fun g => openTok (ER F) g)
  have hk := keys_own (F := F) fun k => Release.readerAt (ES F) k 0
  have hw := writes_dealt (F := F)
  have ht := toks_dealt (F := F)
  have hc := cells_funded B
  have hs := keys_funded (F := F)
  have hl := lin_dealt (F := F)
  have hst := start_all B
  unfold recs at hst
  generalize BI.own (ER F (launchOf barCells flowCells toks)) = A at hc ⊢
  generalize BI.own (ES F (Release.initSlots keys 1)) = A' at hs ⊢
  iintro ⟨Hv, HR, HS⟩
  ihave Hv' := hv $$ Hv
  imod hc $$ [Hv' HR] with ⟨%κ, #Hinv, #Hr, Hat, Hopen, Htok⟩
  · isplitl [Hv']; · iexact Hv'
    iexact HR
  imod hs $$ HS with ⟨%ι, #Hslot, Hread, Hwrite⟩
  imodintro
  ihave Ht := ht $$ Htok
  ihave Hre := hk $$ Hread
  ihave Hw := hw $$ Hwrite
  ihave Ha := ha $$ Hat
  ihave Ho := ho $$ Hopen
  ihave Hl := hl $$ [Ha Ho Ht Hre Hw]
  · isplitl [Ha]; · iexact Ha
    isplitl [Ho]; · iexact Ho
    isplitl [Ht]; · iexact Ht
    isplitl [Hre]; · iexact Hre
    iexact Hw
  iapply (hst κ ι)
  isplitr [Hl]
  · isplitr; · iexact Hinv
    isplitr; · iexact Hslot
    iexact Hr
  · iexact Hl

/-! ## Opening a device's cells -/

theorem open_one {g : GSem nD τ sig} (h : g ∈ cells) :
    iprop(recs B κ ι ∗ openTok (ER F) g ∗ semVal g 0) ⊢ iprop(|={Set.univ}=> (atPos (ER F) g 0 ∅ 0 ∗ reached (ER F) g 0)) := by
  iintro ⟨#HR, Ho, Hv⟩
  ihave #Hi := (recs_cell B κ ι h) $$ HR
  iapply (Rounds.cell_open (ER F) (sched B) (g := g) (Set.mem_univ (κ g)))
  isplitr; · iexact Hi
  iframe Ho Hv

theorem open_three (g : Fin 3 → GSem nD τ sig) (h : ∀ s, g s ∈ cells) :
    iprop(recs B κ ι ∗ (bigSep Finset.univ fun s => openTok (ER F) (g s)) ∗ bigSep Finset.univ fun s => semVal (g s) 0) ⊢ iprop(|={Set.univ}=> pos (F := F) g 0) := by
  unfold pos
  rw [bigSep_three, bigSep_three, bigSep_three]
  iintro ⟨#HR, ⟨H0, H1, H2⟩, V0, V1, V2⟩
  imod (open_one B κ ι (h 0)) $$ [H0 V0] with A0
  · isplitr; · iexact HR
    iframe H0 V0
  imod (open_one B κ ι (h 1)) $$ [H1 V1] with A1
  · isplitr; · iexact HR
    iframe H1 V1
  imod (open_one B κ ι (h 2)) $$ [H2 V2] with A2
  · isplitr; · iexact HR
    iframe H2 V2
  imodintro
  isplitl [A0]; · iexact A0
  isplitl [A1]; · iexact A1
  iexact A2

theorem pos_turn (j : Fin 8) : pos (F := F) (fun s => recvCell c j s) 0 ⊢ pos (F := F) (recvG c j) 0 := by
  unfold pos
  rw [bigSep_three, bigSep_three]
  iintro ⟨H0, H1, H2⟩
  isplitl [H1]; · iexact H1
  isplitl [H2]; · iexact H2
  iexact H0

/-- All flow cells of a device, flow by flow. -/
theorem fc_each (Φ : FC → sProp 𝕄) : bigSep Finset.univ Φ = seps (fun j => iprop((bigSep Finset.univ fun s => Φ (j, .inl s)) ∗ (bigSep Finset.univ fun s => Φ (j, .inr (.inl s))) ∗ Φ (j, .inr (.inr ())))) flows := by
  rw [seps_flows, bigSep_univ_prod]
  refine bigSep_congr fun j _ => ?_
  rw [bs_sum, bs_sum, show (Finset.univ : Finset Unit) = {()} from rfl, bigSep_singleton]

/-- What a flow starts with, but for its slots. -/
def bare (j : Fin 8) : sProp 𝕄 :=
  iprop(toSend c j 0 ∗ toRecv c j 0 ∗ pos (sendG c j) 0 ∗ pos (recvG c j) 0
    ∗ toGive c j 0 ∗ toTake c j 0 ∗ atPos (ER F) (capCell c j) 0 ∅ 0 ∗ reached (ER F) (capCell c j) 0)

/-- One flow's cells are opened. -/
theorem open_flow (j : Fin 8) :
    iprop(recs B κ ι ∗ linF (F := F) c j ∗ (toRecv (F := F) c j 0 ∗ bigSep (Finset.Ico 0 (hops j - 2)) fun d => cred (tallyAt (capCell c j) d 1))
      ∗ ((bigSep Finset.univ fun s => openTok (ER F) (sendCell c j s)) ∗ (bigSep Finset.univ fun s => openTok (ER F) (recvCell c j s)) ∗ openTok (ER F) (capCell c j))
      ∗ ((bigSep Finset.univ fun s => semVal (sendCell c j s) 0) ∗ (bigSep Finset.univ fun s => semVal (recvCell c j s) 0) ∗ semVal (capCell c j) 0))
      ⊢ iprop(|={Set.univ}=> bare (F := F) c j) := by
  have hsend : iprop(tokSend (F := F) c j ∗ tokRecv (F := F) (dst c j) j) ⊢ toSend (F := F) c j 0 := by
    unfold toSend; exact of_same (bs_sep _ _ _).symm
  have hgive : iprop(tokCap (F := F) (csrc c j) j ∗ bigSep (Finset.Ico 0 (hops j - 2)) fun d => Release.readerAt (ES F) (c, j, d) 0) ⊢ toGive (F := F) c j 0 := by
    unfold toGive; exact of_same (bs_sep _ _ _).symm
  have htake : iprop((bigSep (Finset.Ico 0 (hops j - 2)) fun d => cred (tallyAt (capCell c j) d 1)) ∗ bigSep (Finset.Ico 0 (hops j - 2)) fun d => Release.writeTok (ES F) (dst c j, j, d) 1)
      ⊢ toTake (F := F) c j 0 := by
    unfold toTake; exact of_same (bs_sep _ _ _).symm
  unfold linF bare
  iintro ⟨#HR, ⟨⟨Hs, Hc⟩, Hr, Hw⟩, ⟨Htr, Hcr⟩, ⟨OS, OR, OC⟩, VS, VR, VC⟩
  imod (open_three B κ ι (fun s => sendCell c j s) fun s => mem_flow c (j, .inl s)) $$ [OS VS] with PS
  · isplitr; · iexact HR
    iframe OS VS
  imod (open_three B κ ι (fun s => recvCell c j s) fun s => mem_flow c (j, .inr (.inl s))) $$ [OR VR] with PR
  · isplitr; · iexact HR
    iframe OR VR
  imod (open_one B κ ι (mem_flow c (j, .inr (.inr ())))) $$ [OC VC] with ⟨Hat, #Hre⟩
  · isplitr; · iexact HR
    isplitl [OC]; · iexact OC
    iexact VC
  imodintro
  ihave Hsend := hsend $$ Hs
  ihave Hgive := hgive $$ [Hc Hr]
  · iframe Hc Hr
  ihave Htake := htake $$ [Hcr Hw]
  · iframe Hcr Hw
  ihave PR' := (pos_turn c j) $$ PR
  isplitl [Hsend]; · iexact Hsend
  isplitl [Htr]; · iexact Htr
  isplitl [PS]; · iexact PS
  isplitl [PR']; · iexact PR'
  isplitl [Hgive]; · iexact Hgive
  isplitl [Htake]; · iexact Htake
  isplitl [Hat]; · iexact Hat
  iexact Hre

/-- What a device brings into the kernel beside its buffers. -/
def opened : sProp 𝕄 := iprop(∃ κ ι, Inv B κ ι ∗ toMeet (F := F) c ∗ seps (bare (F := F) c) flows)

/-- A device's cells are opened. -/
theorem start_open : iprop((start c B ∗ credits (F := F) c) ∗ (bigSep Finset.univ fun x : FC => semVal ((c : Thread nD τ), fsem x) 0) ∗ levs (F := F)) ⊢ iprop(|={Set.univ}=> opened c B) := by
  unfold start credits lin opened toMeet
  rw [fc_each fun x => semVal ((c : Thread nD τ), fsem x) 0, fc_each fun x => openTok (ER F) ((c : Thread nD τ), fsem x), ← seps_flows, ← seps_flows]
  have hjoin : iprop(seps (linF (F := F) c) flows ∗ seps (fun j => iprop(toRecv (F := F) c j 0 ∗ bigSep (Finset.Ico 0 (hops j - 2)) fun d => cred (tallyAt (capCell c j) d 1))) flows
      ∗ seps (fun j => iprop((bigSep Finset.univ fun s => openTok (ER F) ((c : Thread nD τ), fsem (j, .inl s))) ∗ (bigSep Finset.univ fun s => openTok (ER F) ((c : Thread nD τ), fsem (j, .inr (.inl s)))) ∗ openTok (ER F) ((c : Thread nD τ), fsem (j, .inr (.inr ()))))) flows
      ∗ seps (fun j => iprop((bigSep Finset.univ fun s => semVal ((c : Thread nD τ), fsem (j, .inl s)) 0) ∗ (bigSep Finset.univ fun s => semVal ((c : Thread nD τ), fsem (j, .inr (.inl s))) 0) ∗ semVal ((c : Thread nD τ), fsem (j, .inr (.inr ()))) 0)) flows)
      ⊢ seps (fun j => iprop(linF (F := F) c j ∗ (toRecv (F := F) c j 0 ∗ bigSep (Finset.Ico 0 (hops j - 2)) fun d => cred (tallyAt (capCell c j) d 1))
        ∗ ((bigSep Finset.univ fun s => openTok (ER F) (sendCell c j s)) ∗ (bigSep Finset.univ fun s => openTok (ER F) (recvCell c j s)) ∗ openTok (ER F) (capCell c j))
        ∗ ((bigSep Finset.univ fun s => semVal (sendCell c j s) 0) ∗ (bigSep Finset.univ fun s => semVal (recvCell c j s) 0) ∗ semVal (capCell c j) 0))) flows := by
    simp only [seps_flows]
    refine of_same ?_
    simp only [bs_sep]
    rfl
  iintro ⟨⟨⟨%κ, %ι, #HR, Hat, Hopen, ⟨HtL, HtR⟩, Hlin⟩, Hc, Hcf⟩, Hv, #Hlev⟩
  ihave H := hjoin $$ [Hlin Hcf Hopen Hv]
  · isplitl [Hlin]; · iexact Hlin
    isplitl [Hcf]; · iexact Hcf
    isplitl [Hopen]; · iexact Hopen
    iexact Hv
  imod (seps_fupd (recs B κ ι) (fun j => open_flow c B κ ι j) flows) $$ [H] with H
  · isplitr; · iexact HR
    iexact H
  imodintro
  iexists κ, ι
  ihave #HrL := (recs_bar (lfD c) B κ ι) $$ HR
  ihave #HrR := (recs_bar (rtD c) B κ ι) $$ HR
  isplitr
  · unfold Inv recs
    icases HR with ⟨#HI, #HK, -⟩
    iframe Hlev HI HK
  isplitr [H]
  · iframe HtL HtR HrL HrR Hat Hc
  · iexact H

end RingProof

end
-- ==== Proof.Buffers.lean ====
module

public import proofs.«01_k».proof.Proof.Deal
public import Idealize.ShloMosaic.Lib.Ring

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

/-! ## A flow's buffer as its three slots -/

variable (c : Dev nD) (j : Fin 8)

/-- The elements of slot `s`. -/
abbrev slotSet (s : Fin 3) : Finset (Idx ((comm j).view.loc (c : Thread nD τ))) := (slotM j s).view.set

theorem mem_slotSet (s : Fin 3) (y : Idx ((comm j).view.loc (c : Thread nD τ))) :
    y ∈ slotSet c j s ↔ ∃ x : S3x2x128x128.Idx, x 0 = s ∧ (comm j).view.emb x = y := by
  constructor
  · intro h
    obtain ⟨i, -, hi⟩ := Finset.mem_map.mp h
    refine ⟨ValueIdx.ix4 s (i 0) (i 1) (i 2), rfl, ?_⟩
    rw [← slotR_emb s (i 0) (i 1) (i 2)]
    refine Eq.trans ?_ hi
    exact congrArg (slotM j s).view.emb (ValueIdx.eq_ix3 i).symm
  · rintro ⟨x, hx, rfl⟩
    refine Finset.mem_map.mpr ⟨ValueIdx.ix3 (x 1) (x 2) (x 3), Finset.mem_univ _, ?_⟩
    exact congrArg (comm j).view.emb ((slotR_emb s (x 1) (x 2) (x 3)).trans ((congrArg (fun z : Fin 3 => (ValueIdx.ix4 z (x 1) (x 2) (x 3) : S3x2x128x128.Idx)) hx.symm).trans (ValueIdx.eq_ix4 x).symm))

theorem slots_disjoint (s s' : Fin 3) (h : s ≠ s') : Disjoint (slotSet c j s) (slotSet c j s') := by
  rw [Finset.disjoint_left]
  intro y h1 h2
  obtain ⟨x, hx, rfl⟩ := (mem_slotSet c j s y).mp h1
  obtain ⟨x', hx', e⟩ := (mem_slotSet c j s' _).mp h2
  have : x' = x := (comm j).view.emb.injective e
  exact h (by rw [← hx, ← hx', this])

theorem slots_cover : Finset.univ.biUnion (slotSet c j) = Finset.univ := by
  ext y
  simp only [Finset.mem_biUnion, Finset.mem_univ, true_and, iff_true]
  have hy : y ∈ (comm j).view.set := by rw [(comm_whole j).set_eq_univ]; exact Finset.mem_univ y
  obtain ⟨x, -, rfl⟩ := Finset.mem_map.mp hy
  exact ⟨x 0, (mem_slotSet c j (x 0) _).mpr ⟨x, rfl, rfl⟩⟩

theorem slots_split : iprop(∃ f, (comm j).view.loc (c : Thread nD τ) ↦{fullShare} f) ⊢ iprop(slotAny (F := F) c j 0 ∗ slotAny (F := F) c j 1 ∗ slotAny (F := F) c j 2) :=
  Ring.slots3_split (slotSet c j) (slots_disjoint c j) (slots_cover c j) (fun f => slotPts (F := F) c j 0 fullShare f) (fun f => slotPts (F := F) c j 1 fullShare f) (fun f => slotPts (F := F) c j 2 fullShare f)
    (fun f => rfl) (fun f => rfl) (fun f => rfl)

theorem slots_join : iprop(slotAny (F := F) c j 0 ∗ slotAny (F := F) c j 1 ∗ slotAny (F := F) c j 2) ⊢ iprop(∃ f, (comm j).view.loc (c : Thread nD τ) ↦{fullShare} f) :=
  Ring.slots3_join (slotSet c j) (slots_disjoint c j) (slots_cover c j) (fun f => slotPts (F := F) c j 0 fullShare f) (fun f => slotPts (F := F) c j 1 fullShare f) (fun f => slotPts (F := F) c j 2 fullShare f)
    (fun f => rfl) (fun f => rfl) (fun f => rfl)

/-- A flow's whole buffer, at contents not chosen. -/
def bufAny : sProp 𝕄 := iprop(∃ f, (comm j).view.loc (c : Thread nD τ) ↦{fullShare} f)

theorem slots_of : bufAny (F := F) c j ⊢ iprop(slotAny (F := F) c j 0 ∗ slotAny (F := F) c j 1 ∗ slotAny (F := F) c j 2) := slots_split c j
theorem buf_of : iprop(slotAny (F := F) c j 0 ∗ slotAny (F := F) c j 1 ∗ slotAny (F := F) c j 2) ⊢ bufAny (F := F) c j := slots_join c j

/-- The kernel's scratch buffers, as the launch lists them. -/
abbrev scratch : sProp 𝕄 := Pipeline.scopedRest (Ix := ℕ) (Name := ℕ) (U := UU) (Lvl := ℕ) (Val := Elt F) spec0 c

/-- They are the flows' buffers. -/
theorem scratch_flows : scratch (F := F) c ⊢ seps (bufAny (F := F) c) flows := by
  unfold scratch
  rw [scopedRest0_eq]
  show iprop(bufAny (F := F) c 0 ∗ bufAny (F := F) c 1 ∗ bufAny (F := F) c 2 ∗ bufAny (F := F) c 3 ∗ bufAny (F := F) c 4 ∗ bufAny (F := F) c 5 ∗ bufAny (F := F) c 6 ∗ bufAny (F := F) c 7) ⊢ iprop(bufAny (F := F) c 0 ∗ bufAny (F := F) c 1 ∗ bufAny (F := F) c 2 ∗ bufAny (F := F) c 3 ∗ bufAny (F := F) c 4 ∗ bufAny (F := F) c 5 ∗ bufAny (F := F) c 6 ∗ bufAny (F := F) c 7 ∗ emp)
  iintro ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iempintro

theorem flows_scratch : seps (bufAny (F := F) c) flows ⊢ scratch (F := F) c := by
  unfold scratch
  rw [scopedRest0_eq]
  show iprop(bufAny (F := F) c 0 ∗ bufAny (F := F) c 1 ∗ bufAny (F := F) c 2 ∗ bufAny (F := F) c 3 ∗ bufAny (F := F) c 4 ∗ bufAny (F := F) c 5 ∗ bufAny (F := F) c 6 ∗ bufAny (F := F) c 7 ∗ emp) ⊢ iprop(bufAny (F := F) c 0 ∗ bufAny (F := F) c 1 ∗ bufAny (F := F) c 2 ∗ bufAny (F := F) c 3 ∗ bufAny (F := F) c 4 ∗ bufAny (F := F) c 5 ∗ bufAny (F := F) c 6 ∗ bufAny (F := F) c 7)
  iintro ⟨H0, H1, H2, H3, H4, H5, H6, H7, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The flows' own semaphores, as the launch lists them. -/
abbrev sems0 : sProp 𝕄 := bigSep Finset.univ fun x : FC => semVal ((c : Thread nD τ), fsem x) 0

/-- The buffers and what a device opened make what the flows start with. -/
theorem fresh_of : iprop(scratch (F := F) c ∗ seps (bare (F := F) c) flows) ⊢ seps (fresh (F := F) c) flows := by
  have h1 : seps (bufAny (F := F) c) flows ⊢ seps (fun j => iprop(slotAny (F := F) c j 0 ∗ slotAny (F := F) c j 1 ∗ slotAny (F := F) c j 2)) flows := seps_mono (slots_of c) flows
  have h2 : iprop(seps (fun j => iprop(slotAny (F := F) c j 0 ∗ slotAny (F := F) c j 1 ∗ slotAny (F := F) c j 2)) flows ∗ seps (bare (F := F) c) flows)
      ⊢ seps (fun j => iprop((slotAny (F := F) c j 0 ∗ slotAny (F := F) c j 1 ∗ slotAny (F := F) c j 2) ∗ bare (F := F) c j)) flows := by
    simp only [seps_flows]; exact of_same (bs_sep _ _ _).symm
  have h3 : seps (fun j => iprop((slotAny (F := F) c j 0 ∗ slotAny (F := F) c j 1 ∗ slotAny (F := F) c j 2) ∗ bare (F := F) c j)) flows ⊢ seps (fresh (F := F) c) flows :=
    seps_mono (fun j => by
      unfold fresh bare
      iintro ⟨⟨H0, H1, H2⟩, H⟩
      isplitl [H0]; · iexact H0
      isplitl [H1]; · iexact H1
      isplitl [H2]; · iexact H2
      iexact H) flows
  exact (both ((scratch_flows c).trans h1) BIBase.Entails.refl).trans (h2.trans h3)

/-- At the end they are the buffers and the semaphores again. -/
theorem done_gives : seps (done (F := F) c) flows ⊢ iprop(scratch (F := F) c ∗ sems0 (F := F) c) := by
  have h1 : seps (done (F := F) c) flows ⊢ seps (fun j => iprop(bufAny (F := F) c j ∗ ((bigSep Finset.univ fun s => semVal (sendCell c j s) 0) ∗ (bigSep Finset.univ fun s => semVal (recvCell c j s) 0) ∗ semVal (capCell c j) 0))) flows :=
    seps_mono (fun j => by unfold done; exact both (buf_of c j) BIBase.Entails.refl) flows
  have h2 : seps (fun j => iprop(bufAny (F := F) c j ∗ ((bigSep Finset.univ fun s => semVal (sendCell c j s) 0) ∗ (bigSep Finset.univ fun s => semVal (recvCell c j s) 0) ∗ semVal (capCell c j) 0))) flows
      ⊢ iprop(seps (bufAny (F := F) c) flows ∗ sems0 (F := F) c) := by
    unfold sems0
    rw [fc_each fun x => semVal ((c : Thread nD τ), fsem x) 0]
    simp only [seps_flows]; exact of_same (bs_sep _ _ _)
  exact h1.trans (h2.trans (both (flows_scratch c) BIBase.Entails.refl))

end RingProof

end
-- ==== Proof.Region.lean ====
module

public import proofs.«01_k».proof.Proof.Buffers
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

/-! ## What the region's windows hold -/

variable (m : (ℓ : Loc nD τ sig) → Buf (Elt F) ℓ)

/-- Device `c`'s queries, keys and values. -/
def qOf (c : Dev nD) : FVec F S512x128 .f32 := m ((c : Thread nD τ).loc main_arg0)
def kOf (c : Dev nD) : FVec F S512x128 .f32 := m ((c : Thread nD τ).loc main_arg1)
def vOf (c : Dev nD) : FVec F S512x128 .f32 := m ((c : Thread nD τ).loc main_arg2)

/-- The slab of device `c` that enters flow `j`: a quarter of its keys and values. -/
def slab (c : Dev nD) (j : Fin 8) := slabIn (k0_pay2 (kOf m c)) (k0_pay3 (vOf m c)) j

/-- The kernel's result on device `c`. -/
def result (c : Dev nD) : FVec F S512x128 .f32 := outV (slab m) c (qOf m c) (kOf m c) (vOf m c)

/-- The region's invariant before and after its one point. -/
def phiAt (c : Dev nD) : ℕ → sProp 𝕄
  | 0 => iprop(opened c (slab m) ∗ scratch c ∗ ∃ r, prngReg c r)
  | _ + 1 => iprop(semVal (barCell c) 0 ∗ sems0 c ∗ scratch c ∗ ∃ r, prngReg c r)

/-- Proof data of the region on device `c`. -/
def dat0 (c : Dev nD) : Pipeline.Dat τ (Elt F) ℕ ℕ UU ℕ cfg0 c where
  A w := V1 m c (Proc.devRef .tc (Pipeline.arrRef spec0 w))
  after w _ := match w with
    | ⟨0, _⟩ => qOf m c
    | ⟨1, _⟩ => kOf m c
    | ⟨2, _⟩ => vOf m c
    | ⟨3, _⟩ => words m c
    | ⟨4, _⟩ => result m c
  Φ t := phiAt m c t.val
  q _ := fullShare
  owed t := if t.val = 0 then O₀ c else 0

theorem share_eq (c : Dev nD) (w : Fin cfg0.W) : (dat0 m c).share w = fullShare := by unfold Pipeline.Dat.share; split <;> rfl

/-- Each window's block index is 0 on every axis. -/
theorem idx_0 : win0_0.index t0_0 0 = 0 ∧ win0_0.index t0_0 1 = 0 := by decide +kernel
theorem idx_1 : win0_1.index t0_0 0 = 0 ∧ win0_1.index t0_0 1 = 0 := by decide +kernel
theorem idx_2 : win0_2.index t0_0 0 = 0 ∧ win0_2.index t0_0 1 = 0 := by decide +kernel
theorem idx_3 : win0_3.index t0_0 0 = 0 := by decide +kernel

/-- Each window's block is its whole array. -/
theorem read_0 (f : (main_arg0 : Ref sig .tc).ty.Contents (Elt F)) : (win0_0.blk t0_0).view.read (Elt F) f = f := by
  funext x; blk_ext [idx_0]
theorem read_1 (f : (main_arg1 : Ref sig .tc).ty.Contents (Elt F)) : (win0_1.blk t0_0).view.read (Elt F) f = f := by
  funext x; blk_ext [idx_1]
theorem read_2 (f : (main_arg2 : Ref sig .tc).ty.Contents (Elt F)) : (win0_2.blk t0_0).view.read (Elt F) f = f := by
  funext x; blk_ext [idx_2]
theorem read_3 (f : (main_v17 : Ref sig .tc).ty.Contents (Elt F)) : (win0_3.blk t0_0).view.read (Elt F) f = f := by
  funext x; blk_ext [idx_3]

/-- The result's array ends at the result. -/
theorem arr_4 (c : Dev nD) : (dat0 m c).arrAt 4 cfg0.N = result m c := by
  refine (dat0 m c).arrAt_eq_of_after_last 4 t0_0 (by decide +kernel) _ fun j => ?_
  blk_simp
  rfl

/-! ## The body at the region's one point -/

/-- A staging buffer of device `c` holding the contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold owns stg; simp only [Memref.view_whole, View.read_whole, View.set_whole]

/-- What the core owes at a point, given and taken. -/
theorem owesAt_give (c : Dev nD) (t : Fin (cfg0.N + 1)) (O : CellTallies nD τ sig ℕ) (h : (dat0 m c).owed t = O) :
    debt c O ⊢ ((dat0 m c).owesAt 0 t : sProp 𝕄) := by
  unfold Pipeline.Dat.owesAt Pipeline.owesWithin Pipeline.Dat.bound debt
  rw [h]
  iintro ⟨%W, HO⟩
  iexists W
  isplitr
  · ipureintro; exact fun _ _ => Or.inl trivial
  iexact HO

theorem owesAt_take (c : Dev nD) (t : Fin (cfg0.N + 1)) (O : CellTallies nD τ sig ℕ) (h : (dat0 m c).owed t = O) :
    ((dat0 m c).owesAt 0 t : sProp 𝕄) ⊢ debt c O := by
  unfold Pipeline.Dat.owesAt Pipeline.owesWithin debt
  rw [h]
  iintro ⟨%W, -, HO⟩
  iexists W; iexact HO

theorem before_0 (c : Dev nD) (d) : (dat0 m c).before (0 : Fin 5) t0_0 d = qOf m c := by
  unfold Pipeline.Dat.before; rw [if_pos (fetch0_0 t0_0)]
  exact (read_0 (V1 m c main_arg0)).trans (V1_of m c main_arg0 (by decide))
theorem before_1 (c : Dev nD) (d) : (dat0 m c).before (1 : Fin 5) t0_0 d = kOf m c := by
  unfold Pipeline.Dat.before; rw [if_pos (fetch0_1 t0_0)]
  exact (read_1 (V1 m c main_arg1)).trans (V1_of m c main_arg1 (by decide))
theorem before_2 (c : Dev nD) (d) : (dat0 m c).before (2 : Fin 5) t0_0 d = vOf m c := by
  unfold Pipeline.Dat.before; rw [if_pos (fetch0_2 t0_0)]
  exact (read_2 (V1 m c main_arg2)).trans (V1_of m c main_arg2 (by decide))
theorem before_3 (c : Dev nD) (d) : (dat0 m c).before (3 : Fin 5) t0_0 d = words m c := by
  unfold Pipeline.Dat.before; rw [if_pos (fetch0_3 t0_0)]
  exact read_3 (V1 m c main_v17)

def bodyPre (c : Dev nD) : sProp 𝕄 :=
  iprop((opened c (slab m) ∗ scratch c ∗ ∃ r, prngReg c r)
    ∗ (dat0 m c).owesAt 0 t0_0.castSucc
    ∗ (∃ d, stg c cc0_stg0_0 ((dat0 m c).before (0 : Fin 5) t0_0 d))
    ∗ (∃ d, stg c cc0_stg1_0 ((dat0 m c).before (1 : Fin 5) t0_0 d))
    ∗ (∃ d, stg c cc0_stg2_0 ((dat0 m c).before (2 : Fin 5) t0_0 d))
    ∗ (∃ d, stg c cc0_stg3_0 ((dat0 m c).before (3 : Fin 5) t0_0 d))
    ∗ (∃ d, stg c cc0_stg4_0 ((dat0 m c).before (4 : Fin 5) t0_0 d)))

def bodyPost (c : Dev nD) : sProp 𝕄 :=
  iprop((semVal (barCell c) 0 ∗ sems0 c ∗ scratch c ∗ ∃ r, prngReg c r)
    ∗ (dat0 m c).owesAt 0 t0_0.succ
    ∗ stg c cc0_stg0_0 (qOf m c) ∗ stg c cc0_stg1_0 (kOf m c) ∗ stg c cc0_stg2_0 (vOf m c)
    ∗ stg c cc0_stg3_0 (words m c) ∗ stg c cc0_stg4_0 (result m c))

/-- What the body runs from, in the form the body's run asks for. -/
theorem pre_ready (c : Dev nD) : bodyPre m c ⊢ iprop(∃ o κ ι, (nbr (F := F) c (words m c) ∗ Inv (slab m) κ ι ∗ toMeet c ∗ seps (fresh c) flows
      ∗ blk c qM (qOf m c) ∗ blk c kM (kOf m c) ∗ blk c vM (vOf m c) ∗ blk c oM o ∗ debt c (O₀ c)) ∗ ∃ r, prngReg c r) := by
  unfold bodyPre
  simp only [before_0, before_1, before_2, before_3]
  unfold opened
  iintro ⟨⟨⟨%κ, %ι, HI, Hm, Hf⟩, Hs, Hp⟩, HO, ⟨%d0, %g0, %h0, Hq⟩, ⟨%d1, %g1, %h1, Hk⟩, ⟨%d2, %g2, %h2, Hv⟩, ⟨%d3, %g3, %h3, Hn⟩, ⟨%d4, %g4, %h4, Ho⟩⟩
  subst h0; subst h1; subst h2; subst h3
  ihave Hfr := (fresh_of (F := F) c) $$ [Hs Hf]
  · isplitl [Hs] <;> iassumption
  ihave HD := (owesAt_take m c t0_0.castSucc (O₀ c) rfl) $$ HO
  iexists g4, κ, ι
  isplitr [Hp]
  · isplitl [Hn]; · iexact Hn
    isplitl [HI]; · iexact HI
    isplitl [Hm]; · iexact Hm
    isplitl [Hfr]; · iexact Hfr
    isplitl [Hq]; · iexact Hq
    isplitl [Hk]; · iexact Hk
    isplitl [Hv]; · iexact Hv
    isplitl [Ho]; · iexact Ho
    iexact HD
  iexact Hp

/-- What the body's run leaves, in the region's form. -/
theorem post_ready (c : Dev nD) : iprop((nbr (F := F) c (words m c) ∗ semVal (barCell c) 0 ∗ seps (done c) flows
        ∗ blk c qM (qOf m c) ∗ blk c kM (kOf m c) ∗ blk c vM (vOf m c) ∗ blk c oM (result m c) ∗ debt c 0) ∗ ∃ r, prngReg c r) ⊢ bodyPost m c := by
  unfold bodyPost
  iintro ⟨⟨Hn, Hb, Hd, Hq, Hk, Hv, Ho, HD⟩, Hp⟩
  ihave Hg := (done_gives (F := F) c) $$ Hd
  icases Hg with ⟨Hs, Hz⟩
  ihave HO := (owesAt_give m c t0_0.succ 0 rfl) $$ HD
  isplitl [Hb Hz Hs Hp]
  · isplitl [Hb]; · iexact Hb
    isplitl [Hz]; · iexact Hz
    isplitl [Hs]; · iexact Hs
    iexact Hp
  isplitl [HO]; · iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  isplitl [Hn]
  · iexists _; isplitr; · (ipureintro; rfl)
    iexact Hn
  iexists _; isplitr; · (ipureintro; rfl)
  iexact Ho

/-- The structured body runs from what the region hands it to what the region takes back. -/
theorem body_runs (c : Dev nD) : bodyPre m c ⊢ WP c (whole qM kM vM nM oM) fun _ => bodyPost m c := by
  refine (pre_ready m c).trans ?_
  iintro ⟨%o, %κ, %ι, H⟩
  iapply (WP_frame (iprop(∃ r, prngReg c r))
    (whole_run (slab m) κ ι c (words m c) (word_left m c) (word_right m c) (qOf m c) (kOf m c) (vOf m c) o fun _ => rfl)
    BIBase.Entails.refl fun _ => post_ready m c) $$ H

theorem stage_0 : win0_0.stage (cfg0.slots t0_0 0) = qM := rfl
theorem stage_1 : win0_1.stage (cfg0.slots t0_0 1) = kM := rfl
theorem stage_2 : win0_2.stage (cfg0.slots t0_0 2) = vM := rfl
theorem stage_3 : win0_3.stage (cfg0.slots t0_0 3) = nM := rfl
theorem stage_4 : win0_4.stage (cfg0.slots t0_0 4) = oM := rfl

/-- The region's call at its one point is the structured body on the staging buffers. -/
theorem call_eq : defs₀ (F := F) .tc cfg0.body (cfg0.bodyArgs t0_0 (cfg0.slots t0_0)) = whole qM kM vM nM oM := by
  refine Eq.trans (b := bodyAt0 (F := F) t0_0) rfl ?_
  refine (body_eq _ _ _ _ _ _ _ _ _ _).trans ?_
  rw [stage_0, stage_1, stage_2, stage_3, stage_4]

theorem phi_first (c : Dev nD) : (dat0 m c).Φ t0_0.castSucc = iprop(opened c (slab m) ∗ scratch c ∗ ∃ r, prngReg c r) := by
  show phiAt m c 0 = _; rfl
theorem phi_last (c : Dev nD) : (dat0 m c).Φ t0_0.succ = iprop(semVal (barCell c) 0 ∗ sems0 c ∗ scratch c ∗ ∃ r, prngReg c r) := by
  show phiAt m c (0 + 1) = _; rfl
theorem after_0 (c : Dev nD) : (dat0 m c).after (0 : Fin 5) t0_0 = qOf m c := rfl
theorem after_1 (c : Dev nD) : (dat0 m c).after (1 : Fin 5) t0_0 = kOf m c := rfl
theorem after_2 (c : Dev nD) : (dat0 m c).after (2 : Fin 5) t0_0 = vOf m c := rfl
theorem after_3 (c : Dev nD) : (dat0 m c).after (3 : Fin 5) t0_0 = words m c := rfl
theorem after_4 (c : Dev nD) : (dat0 m c).after (4 : Fin 5) t0_0 = result m c := rfl

/-- A program equal to another runs as it does. -/
theorem WP_same (c : Dev nD) (P : sProp 𝕄) (Q : PUnit → sProp 𝕄) (p q : Prog (TpuEff nD τ sig (Elt F) Λ₀ .tc) (Λ₀.Result cfg0.body)) (e : p = q)  (h : P ⊢ WP (α := PUnit) c q Q) :
  P ⊢ wp frame (wpE (defs₀ (F := F)) 𝒱₀ (c : Thread nD τ) none) Set.univ p Q := by
  subst e; exact h
/-- The region's body obligation on device `c`. -/
theorem body_obligation (c : Dev nD) : Pipeline.BodyObligation (dat0 (F := F) m c) (defs₀ (F := F)) 𝒱₀ 0 Set.univ := fun t => by
  rw [show t = t0_0 from fin_N0 t]
  rw [bigSep_W0, bigSep_W0]
  simp only [owns_stg]
  rw [phi_first, phi_last, after_0, after_1, after_2, after_3, after_4]
  generalize hp : defs₀ (F := F) .tc cfg0.body (cfg0.bodyArgs t0_0 (cfg0.slots t0_0)) = p
  have hp' : p = whole qM kM vM nM oM := hp.symm.trans call_eq
  clear hp
  refine WP_same c _ _ p _ hp' ?_
  refine BIBase.Entails.trans (Q := bodyPre m c) ?_ ?_
  · unfold bodyPre
    iintro ⟨HΦ, HO, H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4
  refine WP_post (body_runs m c) fun _ => ?_
  · unfold bodyPost
    iintro ⟨HΦ, HO, H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4

end RingProof

end
-- ==== Proof.Record.lean ====
module

public import proofs.«01_k».proof.Proof.Region
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

variable (m : (ℓ : Loc nD τ sig) → Buf (Elt F) ℓ)

theorem own_sems (c : Dev nD) : (Pipeline.ownSems0 (Ix := ℕ) (Name := ℕ) (U := UU) (Lvl := ℕ) (Val := Elt F) (τ := τ) fsem c : sProp 𝕄) = sems0 c := rfl

/-- The region's records, by pipeline. -/
def pdats (p : Fin 1) (c : Dev nD) : Pipeline.Dat τ (Elt F) ℕ ℕ UU ℕ (cfgs p) c :=
  match p with
  | ⟨0, _⟩ => dat0 m c

/-- What the region leaves in its result's array. -/
def outs : Outs (F := F) := fun n r c => if h : r = main_v18 then h ▸ (result m c : Buf (Elt F) ((c : Thread nD τ).loc main_v18)) else m ((c : Thread nD τ).loc r)

theorem outs_18 (c : Dev nD) : outs m 2 main_v18 c = result m c := by unfold outs; rw [dif_pos rfl]

theorem V2_main_v18 (c : Dev nD) : V2 m (outs m) c main_v18 = result m c := by
  unfold V2; rw [Function.update_self]; exact outs_18 m c

/-- What the region is entered with for its talk: what the launch dealt and the launch's credits. -/
def Tk (c : Dev nD) : sProp 𝕄 := iprop(start c (slab m) ∗ credits c)
/-- The same with the kernel's own semaphores in. -/
def Xk (c : Dev nD) : sProp 𝕄 := opened c (slab m)
/-- What the talk leaves beside the kernel's own semaphores: the barrier's counter at zero. -/
def Yk (c : Dev nD) : sProp 𝕄 := semVal (barCell c) 0

theorem hopen (c : Dev nD) : iprop(Tk m c ∗ Pipeline.ownSems0 fsem c ∗ levAts L lv) ⊢ (|={Set.univ}=> Xk m c : sProp 𝕄) := by
  have h := start_open c (slab m)
  unfold levs at h
  unfold Tk Xk
  rw [own_sems]
  exact h

theorem hin (c : Dev nD) : iprop(scratch c ∗ (∃ r, prngReg c r) ∗ StableHlo.held (c.tc : Thread nD τ) ∅ (V1 m c) ∗ Xk m c) ⊢ phiAt m c 0 := by
  show _ ⊢ iprop(opened c (slab m) ∗ scratch c ∗ ∃ r, prngReg c r)
  unfold Xk
  iintro ⟨Hs, Hp, -, HX⟩
  isplitl [HX]; · iexact HX
  isplitl [Hs]; · iexact Hs
  iexact Hp

theorem hout (c : Dev nD) : phiAt m c 1 ⊢ iprop(scratch c ∗ (∃ r, prngReg c r) ∗ StableHlo.held (c.tc : Thread nD τ) ∅ (V2 m (outs m) c) ∗ Pipeline.ownSems0 fsem c ∗ Yk c) := by
  show iprop(semVal (barCell c) 0 ∗ sems0 c ∗ scratch c ∗ ∃ r, prngReg c r) ⊢ _
  unfold Yk
  rw [own_sems, show StableHlo.held (c.tc : Thread nD τ) ∅ (V2 m (outs m) c) = (BI.emp : sProp 𝕄) from by unfold StableHlo.held; exact bs_empty _]
  iintro ⟨Hb, Hz, Hs, Hp⟩
  isplitl [Hs]; · iexact Hs
  isplitl [Hp]; · iexact Hp
  isplitr; · iempintro
  isplitl [Hz]; · iexact Hz
  iexact Hb

/-- Everything a device owes at the launch lies above level 0. -/
theorem O₀_above (c : Dev nD) : Above 0 (O₀ c) := by
  have h : ∀ l : List (Fin 8), Above 0 (l.map fun j => owedF c j 0 0).sum := fun l => by
    induction l with
    | nil => exact Above.zero 0
    | cons j js ih => rw [List.map_cons, List.sum_cons]; exact (owedF_above c j (by omega) (by omega)).add ih
  have hb : ∀ d : Dev nD, Above 0 (tallyAt (barCell d) 0 1) := fun d =>
    Above.tally (by rw [show L (barCell d) = Finset.range 32 from L_tc d _]; decide) (by rw [lv_bar]; exact Nat.zero_lt_one)
  unfold O₀
  exact (((Above.zero 0).add (h flows)).add (hb _)).add (hb _)

/-- The staging waits lie at level 0 and everything owed above it. -/
theorem cut0 : Pipeline.LevelCutOwed (pcfgs (F := F)) adm (pdats m) 0 L lv 0 (fun _ => 0) where
  hι c w s := by rw [L_tc]; decide
  hιb c w s := by
    refine Nat.le_of_eq ?_
    match w with
    | ⟨0, _⟩ => rfl
    | ⟨1, _⟩ => rfl
    | ⟨2, _⟩ => rfl
    | ⟨3, _⟩ => rfl
    | ⟨4, _⟩ => rfl
  hD c t g i h := by
    refine (show Above 0 ((pdats m 0 c).owed t) from ?_) g i h
    show Above 0 (if t.val = 0 then O₀ c else 0)
    split
    · exact O₀_above c
    · exact Above.zero 0

/-- The arrays of the region. -/
abbrev arrs : Finset (DevRef τ sig) := Pipeline.arrRefs spec0

theorem arrs_sub : arrs ⊆ Pipeline.ucRefs τ sig :=
  Pipeline.arrRefs_sub_ucRefs _ (by decide)

theorem out_mem : Proc.devRef .tc main_v18 ∈ arrs := by decide

/-- The buffers that are no array of the region. -/
abbrev rest : Finset (DevRef τ sig) := Pipeline.ucRefs τ sig \ arrs

theorem V2_other (c : Dev nD) (b : DevRef τ sig) (h : b ≠ Proc.devRef .tc main_v18) : V2 m (outs m) c b = V1 m c b := by
  unfold V2; exact Function.update_of_ne h _ _

theorem rest_same (c : Dev nD) : ∀ b ∈ rest \ ∅, V2 m (outs m) c b = V1 m c b := fun b hb =>
  V2_other m c b fun e => (Finset.mem_sdiff.mp (Finset.mem_sdiff.mp hb).1).2 (e ▸ out_mem)

theorem arr_first (c : Dev nD) (w : Fin cfg0.W) : (dat0 m c).arrAt w 0 = V1 m c (Proc.devRef .tc (Pipeline.arrRef spec0 w)) := rfl

theorem arr_last (c : Dev nD) (w : Fin cfg0.W) : (dat0 m c).arrAt w cfg0.N = V2 m (outs m) c (Proc.devRef .tc (Pipeline.arrRef spec0 w)) := by
  match w with
  | ⟨0, _⟩ => exact ((dat0 m c).arrAt_in 0 rfl _).trans (V2_other m c (Proc.devRef .tc (Pipeline.arrRef spec0 0)) (by decide)).symm
  | ⟨1, _⟩ => exact ((dat0 m c).arrAt_in 1 rfl _).trans (V2_other m c (Proc.devRef .tc (Pipeline.arrRef spec0 1)) (by decide)).symm
  | ⟨2, _⟩ => exact ((dat0 m c).arrAt_in 2 rfl _).trans (V2_other m c (Proc.devRef .tc (Pipeline.arrRef spec0 2)) (by decide)).symm
  | ⟨3, _⟩ => exact ((dat0 m c).arrAt_in 3 rfl _).trans (V2_other m c (Proc.devRef .tc (Pipeline.arrRef spec0 3)) (by decide)).symm
  | ⟨4, _⟩ => exact (arr_4 m c).trans (V2_main_v18 m c).symm

set_option backward.isDefEq.respectTransparency.types false in
/-- The region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 fsem (by decide : Pipeline.OwnSemFacts spec0 fsem)
    ∅ (rest) (Finset.empty_subset _) launch0.toP rfl (fun c => (body_obligation m c).loose)
    (fun _ => 0) O₀ (fun c => (zero_add (O₀ c)).symm) (fun _ => rfl) (fun _ => rfl) (share_eq m) (V1 m) (V2 m (outs m)) (rest_same m)
    (Tk m) Yk (Xk m) Yk (hopen m) (hin m) (hout m) (fun c => by iintro H; imodintro; iexact H)
    (fun _ => 0) (cut0 m) (fun _ => iprop(emp)) (arr_first m) (arr_last m)

/-- What rides beside the buffers through the host's operations before the region. -/
def beside (c : Dev nD) : sProp 𝕄 := iprop(Tk m c ∗ (∃ r, prngReg c r) ∗ ∃ W, owes (c : Thread nD τ) (O₀ c) W)

/-- The buffers and what rides beside them enter the region. -/
theorem reg_pre (c : Dev nD) : iprop(StableHlo.held (c.tc : Thread nD τ) (Pipeline.ucRefs τ sig) (V1 m c) ∗ beside m c) ⊢ (reg0 m).pre c := by
  show _ ⊢ iprop(StableHlo.held (c.tc : Thread nD τ) (arrs) (V1 m c) ∗ (∃ r, prngReg c r)
    ∗ (StableHlo.held (c.tc : Thread nD τ) (rest) (V1 m c) ∗ emp) ∗ Tk m c ∗ ∃ Wd, owes (c : Thread nD τ) (0 + O₀ c) Wd)
  rw [StableHlo.held_sub_split (c.tc : Thread nD τ) arrs_sub (V1 m c), zero_add]
  unfold beside
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

/-- What a device ends with: its buffers, and the barrier's counter at zero. -/
def left (c : Dev nD) : sProp 𝕄 := iprop(StableHlo.held (c.tc : Thread nD τ) (Pipeline.ucRefs τ sig) (V2 m (outs m) c) ∗ semVal (barCell c) 0)

/-- The region leaves the buffers and the barrier's counter, nothing owed. -/
theorem reg_post (c : Dev nD) : (reg0 m).post c ⊢ iprop(left m c ∗ ∃ W, owes (c : Thread nD τ) 0 W) := by
  show iprop(StableHlo.held (c.tc : Thread nD τ) (arrs) (V2 m (outs m) c) ∗ (∃ r, prngReg c r)
    ∗ (StableHlo.held (c.tc : Thread nD τ) (rest) (V2 m (outs m) c) ∗ emp) ∗ Yk c ∗ ∃ Wd, owes (c : Thread nD τ) 0 Wd) ⊢ _
  unfold left Yk
  rw [StableHlo.held_sub_split (c.tc : Thread nD τ) arrs_sub (V2 m (outs m) c)]
  iintro ⟨Ha, -, ⟨Hr, -⟩, Hy, HO⟩
  isplitl [Ha Hr Hy]
  · isplitl [Ha Hr]
    · isplitl [Ha]; · iexact Ha
      iexact Hr
    iexact Hy
  iexact HO

end RingProof

end
-- ==== Proof.Share.lean ====
module

public import proofs.«01_k».proof.Defs
public import proofs.«01_k».proof.Proof.Gen.Kernel
public import proofs.«01_k».proof.Proof.Gen.KernelIdeal
public import Idealize.ShloMosaic.Lib.Pipeline.Regions

@[expose] public section

noncomputable section

namespace RingProof

open Idealize.ShloMosaic Idealize.SL.Sem

/-- The frame claim of the idealized program's text, over any float values and any reading of its named constant. -/
def FrameOf (F : FTy → Type) [FloatOps F] [Named F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- The named constant read as its printed word. -/
abbrev asPrinted : Named Bits := ⟨fun _ _ _ bits => Scalar.ofBits _ bits⟩

set_option maxRecDepth 65536 in
/-- The printed program's frame claim is that claim at its own float values, the named constant read as its word. -/
theorem frame_eq : Cert.quiescent_Kernel = @FrameOf Bits _ asPrinted := by chain_rfl

end RingProof

end
-- ==== Proof.Launch.lean ====
module

public import proofs.«01_k».proof.Proof.Record
public import proofs.«01_k».proof.Proof.Share
public import Idealize.ShloMosaic.Lib.Quiescent

@[expose] public section

noncomputable section

namespace RingProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig ℕ (Elt F) ℕ UU ℕ

/-! ## The launch -/

/-- A resource the first device holds for all. -/
def atFirst (X : sProp 𝕄) (c : Dev nD) : sProp 𝕄 := if c = 0 then X else iprop(emp)

theorem atFirst_all (X : sProp 𝕄) : bigSep Finset.univ (atFirst X) = X := by
  rw [bs_erase (Finset.mem_univ (0 : Dev nD)) (atFirst X),
    bigSep_congr (Ψ := fun _ => (BI.emp : sProp 𝕄)) (fun c hc => by unfold atFirst; rw [if_neg (Finset.ne_of_mem_erase hc)]; rfl), BI.bigSep_emp_const]
  unfold atFirst
  rw [if_pos rfl]
  exact BI.equiv_iff.mp sep_emp

/-- The ring's ghost state as it is launched. -/
def ringGhost : UB := (launchOf barCells flowCells toks, Release.initSlots keys 1)

/-- What the ring's ghost state is owned as. -/
def ringOwn : sProp 𝕄 := iprop(BI.own (ER F (launchOf barCells flowCells toks)) ∗ BI.own (ES F (Release.initSlots keys 1)))

/-- The only semaphore outside the kernel's scope is the barrier's. -/
theorem unscoped_bar : ∀ sm : SemLoc sig, sm.isScoped .tc = false → sm = .reg barS := by decide

theorem unscoped_set : (Finset.univ.filter fun sm : SemLoc sig => ¬ sm.isScoped .tc = true) = {.reg barS} := by decide

theorem unscoped_sems (c : Dev nD) : (unscopedSems0 c : sProp 𝕄) = semVal (barCell c) 0 := by
  unfold unscopedSems0
  rw [unscoped_set]
  exact BI.bigSep_singleton

theorem owned_split (u : UP) : (ownU ((u, ringGhost) : UU) : sProp 𝕄) ⊢ iprop(BI.own (EP F u) ∗ ringOwn) := by
  have h := own_pair_emb (embR : Emb UB 𝕄) (launchOf barCells flowCells toks) (Release.initSlots keys 1)
  exact (ownU_pair _ _).trans (both BIBase.Entails.refl h)

variable (m : (ℓ : Loc nD τ sig) → Buf (Elt F) ℓ) (ρ : Dev nD → PrngReg)

/-- What one device is launched with, beside its part of the ghost state. -/
abbrev dealt (c : Dev nD) : sProp 𝕄 :=
  iprop(unscopedBufs c (fun b => m ((c.tc : Thread nD τ).loc b)) ∗ unscopedSems0 c
          ∗ owes (c.tc : Thread nD τ) (O₀ c) ∅ ∗ Pipeline.launchCred O₀ c ∗ prngReg c (ρ c) ∗ atFirst ringOwn c)

/-- The part of it that stays on its device. -/
def kept (c : Dev nD) : sProp 𝕄 :=
  iprop(StableHlo.held (c.tc : Thread nD τ) (Pipeline.ucRefs τ sig) (V0 m c) ∗ credits c ∗ (∃ r, prngReg c r) ∗ ∃ W, owes (c : Thread nD τ) (O₀ c) W)

theorem dealt_split (c : Dev nD) : dealt m ρ c ⊢ iprop(kept m c ∗ semVal (barCell c) 0 ∗ atFirst ringOwn c) := by
  unfold dealt kept
  rw [show unscopedBufs c (fun b => m ((c.tc : Thread nD τ).loc b)) = StableHlo.held (c.tc : Thread nD τ) (Pipeline.ucRefs τ sig) (V0 m c)
    from Pipeline.unscopedBufs_held c (V0 m c), unscoped_sems, credits_eq]
  generalize credits (F := F) c = C
  generalize atFirst (ringOwn (F := F)) c = A
  iintro ⟨Hh, Hb, HO, HC, Hp, HA⟩
  isplitl [Hh HC Hp HO]
  · isplitl [Hh]; · iexact Hh
    isplitl [HC]; · iexact HC
    isplitl [Hp]; · iexists _; iexact Hp
    iexists _; iexact HO
  isplitl [Hb]; · iexact Hb
  iexact HA

/-- The thread state a device starts its program with. -/
def ready₀ (c : Dev nD) : sProp 𝕄 := iprop(StableHlo.held (c.tc : Thread nD τ) (Pipeline.ucRefs τ sig) (V0 m c) ∗ beside m c)

theorem ready_join (c : Dev nD) : iprop(kept m c ∗ start c (slab m)) ⊢ ready₀ m c := by
  unfold kept ready₀ beside Tk
  generalize credits (F := F) c = C
  generalize start c (slab m) = S
  iintro ⟨⟨Hh, HC, Hp, HO⟩, HS⟩
  isplitl [Hh]; · iexact Hh
  isplitl [HS HC]
  · isplitl [HS]; · iexact HS
    iexact HC
  isplitl [Hp]; · iexact Hp
  iexact HO

/-- From what the launch deals every device gets its thread state. -/
theorem launch_ready : iprop((bigSep Finset.univ fun c : Dev nD => dealt m ρ c) ∗ levAts L lv) ⊢ (|={Set.univ}=> bigSep Finset.univ (ready₀ m) : sProp 𝕄) := by
  have h1 : (bigSep Finset.univ fun c : Dev nD => dealt m ρ c) ⊢ iprop((bigSep Finset.univ (kept m)) ∗ (bigSep Finset.univ fun c : Dev nD => semVal (barCell c) 0) ∗ ringOwn) := by
    refine BIBase.Entails.trans (Q := bigSep Finset.univ fun c => iprop(kept m c ∗ semVal (barCell c) 0 ∗ atFirst ringOwn c)) (bigSep_mono fun c _ => dealt_split m ρ c) ?_
    rw [bs_sep, bs_sep, atFirst_all]
  have h2 : iprop((bigSep Finset.univ (kept m)) ∗ bigSep Finset.univ fun c => start c (slab m)) ⊢ bigSep Finset.univ (ready₀ m) := by
    rw [← bs_sep]
    exact bigSep_mono fun c _ => ready_join m c
  have h3 := start_dealt (slab m)
  unfold ringOwn at h1
  refine BIBase.Entails.trans (both (Q := (levAts L lv : sProp 𝕄)) h1 BIBase.Entails.refl) ?_
  refine BIBase.Entails.trans (Q := iprop(bigSep Finset.univ (kept m) ∗ |={Set.univ}=> bigSep Finset.univ fun c => start c (slab m))) ?_ ?_
  · generalize bigSep Finset.univ (kept m) = K
    refine BIBase.Entails.trans ?_ (both BIBase.Entails.refl h3)
    generalize iprop((bigSep Finset.univ fun c : Dev nD => semVal (barCell c) 0) ∗ BI.own (ER F (launchOf barCells flowCells toks)) ∗ BI.own (ES F (Release.initSlots keys 1))) = R
    iintro ⟨⟨HK, HR⟩, -⟩
    isplitl [HK]; · iexact HK
    iexact HR
  · refine BIBase.Entails.trans ?_ (BI.fupd_mono h2)
    generalize bigSep Finset.univ (kept m) = K
    generalize (bigSep Finset.univ fun c => start c (slab m)) = S
    iintro ⟨HK, >HS⟩
    imodintro
    isplitl [HK]; · iexact HK
    iexact HS

/-! ## The run -/

/-- What a device leaves in its memory: its operands as launched, its rows of the result, the barrier's counter at zero. -/
def leaves (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_v18) = result m c) ∧ s.sem (barCell c) = 0

theorem left_reads (c : Dev nD) (s' : Phys nD τ sig (Elt F)) : iprop(left m c ∗ SI s') ⊢ (|={Set.univ}=> iprop(⌜leaves m c s'.mem⌝ ∗ SI s') : sProp 𝕄) := by
  unfold left StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V2_main_arg0 m (outs m) c),
      (h (Proc.devRef .tc main_arg1) (Finset.mem_filter.mpr ⟨StableHlo.devRef_mem_tcRefs main_arg1, by decide⟩)).trans (V2_main_arg1 m (outs m) c),
      (h (Proc.devRef .tc main_arg2) (Finset.mem_filter.mpr ⟨StableHlo.devRef_mem_tcRefs main_arg2, by decide⟩)).trans (V2_main_arg2 m (outs m) c),
      (h (Proc.devRef .tc main_v18) (Finset.mem_filter.mpr ⟨StableHlo.devRef_mem_tcRefs main_v18, by decide⟩)).trans (V2_main_v18 m c)⟩, hb⟩
  iexact HSI

set_option backward.isDefEq.respectTransparency.types false in
/-- THE RUN, at any float values: every execution from zero counters ends, each device with its operands as launched and its
    rows of the result, every counter at zero. -/
theorem run_all : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v18) = result m c) ∧ r.2.sem = fun _ => 0) :=
  Pipeline.θ_run_regions_kit_dev_sems (pcfgs (F := F)) adm (pdats m) 0 cellOf_inj (EP F) defs₀ 𝒱₀ L lv m ρ main
    (segs m 𝒱₀ L lv (fun _ => beside m) 0 (pdats m) (reg0 m))
    (fun c Q => by
      rewrite [main_chain c, Pipeline.Seg.run_eq_chain,
        show (segs m 𝒱₀ L lv (fun _ => beside m) 0 (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := atFirst ringOwn)
    (u₀ := (initOf (Pipeline.cells cfgs cellOf_inj) (Pipeline.launchToks cfgs cellOf_inj), ringGhost))
    (hu₀ := by
      rw [atFirst_all]
      refine BIBase.Entails.trans (owned_split _) ?_
      iintro H
      imodintro
      iexact H)
    (T₀ := ready₀ m) (Tₙ := left m)
    (hch := fun c => ⟨.rfl, reg_pre m c, reg_post m c⟩)
    (hinit := launch_ready m ρ)
    (QY := leaves m)
    (hfin := left_reads m)
    (hQ := fun s h hs => ⟨fun c => (h c).1, sem_eq_zero hs fun c sm hsm => by obtain rfl := unscoped_bar sm hsm; exact (h c).2⟩)

/-- The frame claim at any float values. -/
theorem frame_of : @FrameOf F _ _ := fun m g _ =>
  (θ_run _ _ _).mono (fun r h => ⟨fun c => ⟨(h.1 c).1, (h.1 c).2.1, (h.1 c).2.2.1⟩, h.2⟩) (run_all m g)

end RingProof

end
-- ==== Proof.RefFrame.lean ====
module

public import proofs.«01_k».proof.Defs
public import proofs.«01_k».proof.Proof.Gen.ReferenceIdeal
public import Idealize.ShloMosaic.Lib.Claim
public import Idealize.ShloMosaic.Lib.Quiescent

@[expose] public section

noncomputable section

namespace RingProof

open Idealize.ShloMosaic Idealize.ShloMosaic.TcCoe Idealize.SL.Sem
open Cert.ReferenceIdeal Cert.ReferenceIdeal.Gen

/-- The reference runs and keeps its arguments. -/
theorem ref_args (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run

/-- The reference's frame claim. -/
theorem frame_ref : Cert.quiescent_ReferenceIdeal := fun m g _ =>
  θ_run_mono (ref_args m g) fun r h => ⟨h, sem_eq_zero_of_no_sems (by decide) r.2⟩

end RingProof

end
-- ==== Proof.Payloads.lean ====
module

public import proofs.«01_k».proof.Proof.Region
public import Idealize.ShloMosaic.Lib.Pointwise

@[expose] public section

set_option maxRecDepth 16384

noncomputable section

namespace RingProof

open Idealize.ShloMosaic Idealize.ShloMosaic.TcCoe
open Cert.KernelIdeal Cert.KernelIdeal.Gen

/-- The exponential of the score of one query row against one key row. -/
def wt (q : FVec Ideal S512x128 .bf16) (kk : FVec Ideal S512x128 .bf16) (i t : Fin 512) : EReal :=
  Ideal.exp (∑ d : Fin 128, q (ix2 i d) * kk (ix2 t d))

/-- The own block's row sums of the weights. -/
theorem pay25_apply (q kk : FVec Ideal S512x128 .bf16) (i : Fin 512) (z : Fin 1) :
    k0_pay25 kk q (ix2 i z) = ∑ t : Fin 512, wt q kk i t := by
  pointwise [k0_pay25, k0_pay24, wt]

/-- The own block's weighted values. -/
theorem pay26_apply (q kk vv : FVec Ideal S512x128 .bf16) (i : Fin 512) (e : Fin 128) :
    k0_pay26 kk vv q (ix2 i e) = ∑ t : Fin 512, wt q kk i t * vv (ix2 t e) := by
  pointwise [k0_pay26, k0_pay24, wt]

/-- Row `t` of quarter `u` is row `128 u + t`. -/
theorem quarter_apply (x : FVec Ideal S512x128 .bf16) (u : Fin 4) (t d : Fin 128) :
    quarter x u (ix4 0 0 t d) = x (ix2 ⟨128 * u.val + t.val, by omega⟩ d) := by
  pointwise [quarter]

/-- An update adds the arrived rows' weights to the denominators. -/
theorem updL_apply (q : FVec Ideal S512x128 .bf16) (l : FVec Ideal S512x1 .f32) (kc : Vec Ideal S1x1x128x128 .bf16) (i : Fin 512) (z : Fin 1) :
    updL q l kc (ix2 i z) = l (ix2 i z) + ∑ t : Fin 128, Ideal.exp (∑ d : Fin 128, q (ix2 i d) * kc (ix4 0 0 t d)) := by
  pointwise [updL, pexp]

/-- An update adds the arrived rows' weighted values to the numerators. -/
theorem updA_apply (q : FVec Ideal S512x128 .bf16) (a : FVec Ideal S512x128 .f32) (kc vc : Vec Ideal S1x1x128x128 .bf16) (i : Fin 512) (e : Fin 128) :
    updA q a kc vc (ix2 i e) = a (ix2 i e)
      + ∑ t : Fin 128, Ideal.exp (∑ d : Fin 128, q (ix2 i d) * kc (ix4 0 0 t d)) * vc (ix4 0 0 t e) := by
  pointwise [updA, pexp]

/-- The result is numerator over denominator, row by row. -/
theorem pay1_apply (l : FVec Ideal S512x1 .f32) (a : FVec Ideal S512x128 .f32) (i : Fin 512) (e : Fin 128) :
    k0_pay1 l a (ix2 i e) = Ideal.div (a (ix2 i e)) (l (ix2 i 0)) := by
  pointwise [k0_pay1]

/-- The keys' change of format keeps every value. -/
theorem pay2_apply (x : FVec Ideal S512x128 .f32) (i : Fin 512) (d : Fin 128) : @Eq EReal (k0_pay2 (F := Ideal) x (ix2 i d)) (x (ix2 i d)) := by
  pointwise [k0_pay2]

/-- The values' change of format keeps every value. -/
theorem pay3_apply (x : FVec Ideal S512x128 .f32) (i : Fin 512) (d : Fin 128) : @Eq EReal (k0_pay3 (F := Ideal) x (ix2 i d)) (x (ix2 i d)) := by
  pointwise [k0_pay3]

/-- The named constant at the extended reals. -/
theorem named_scale : @Eq EReal (Named.named (F := Ideal) Cert.KernelIdeal.κ "scale" (φ := .f32) 0x3DB504F3#32) (((Real.sqrt 128)⁻¹ : ℝ) : EReal) :=
  IdealRules.named_const.ideal_named_scalar _ _ _ _ rfl

/-- The queries are scaled by `1 / √128`. -/
theorem pay23_apply (x : FVec Ideal S512x128 .f32) (i : Fin 512) (d : Fin 128) :
    @Eq EReal (k0_pay23 (F := Ideal) (k0_pay22 (F := Ideal) x) (ix2 i d)) ((x (ix2 i d) : EReal) * (((Real.sqrt 128)⁻¹ : ℝ) : EReal)) := by
  pointwise [k0_pay23, k0_pay22]
  exact congrArg (fun z : EReal => (x (ix2 i d) : EReal) * z) named_scale

end RingProof

end
-- ==== Proof.Circle.lean ====
module

public import proofs.«01_k».proof.Proof.Loop

@[expose] public section

noncomputable section

namespace RingProof

open Idealize.ShloMosaic Idealize.ShloMosaic.TcCoe
open scoped Fin.CommRing Fin.NatCast
open Cert.KernelIdeal Cert.KernelIdeal.Gen

/-! ## Once around the ring -/

/-- A device's seat on the circle, counted from device 0 to the left. -/
def seat : Fin 32 → Fin 32 :=
  ![0, 1, 16, 17, 18, 15, 14, 19, 31, 2, 7, 26, 25, 8, 13, 20, 30, 3, 6, 27, 24, 9, 12, 21, 29, 4, 5, 28, 23, 10, 11, 22]

/-- One step to the left is the next place. -/
theorem seat_lf : ∀ c : Fin 32, seat (lfD c) = seat c + 1 := by decide
/-- No two devices share a place. -/
theorem seat_inj : ∀ a b : Fin 32, seat a = seat b → a = b := by decide

/-- The places as a permutation. -/
def seatE : Fin 32 ≃ Fin 32 := Equiv.ofBijective seat (Finite.injective_iff_bijective.1 fun a b => seat_inj a b)

/-- One step to the right is the place before. -/
theorem seat_rt (c : Fin 32) : seat (rtD c) = seat c - 1 := by
  have h := seat_lf (rtD c)
  rw [lf_rt] at h
  exact eq_sub_of_add_eq h.symm

/-- `n` steps to the left. -/
theorem seat_lfs (n : ℕ) : ∀ c : Fin 32, seat (lfD^[n] c) = seat c + (n : Fin 32) := by
  induction n with
  | zero => intro c; simp
  | succ n ih => intro c; rw [Function.iterate_succ_apply, ih, seat_lf, Nat.cast_succ]; ring

/-- `n` steps to the right. -/
theorem seat_rts (n : ℕ) : ∀ c : Fin 32, seat (rtD^[n] c) = seat c - (n : Fin 32) := by
  induction n with
  | zero => intro c; simp
  | succ n ih => intro c; rw [Function.iterate_succ_apply, ih, seat_rt, Nat.cast_succ]; ring

/-- A rightward flow holds, after `n` hops, the rows of the device `n` steps to the left. -/
theorem org_right (j : Fin 8) (h : rightward j = true) (n : ℕ) : ∀ c : Fin 32, org j n c = lfD^[n] c := by
  induction n with
  | zero => intro c; rfl
  | succ n ih => intro c; rw [Function.iterate_succ_apply, ← ih]; show org j n (csrc c j) = _; unfold csrc; rw [if_pos h]

/-- A leftward flow holds, after `n` hops, the rows of the device `n` steps to the right. -/
theorem org_left (j : Fin 8) (h : ¬ rightward j = true) (n : ℕ) : ∀ c : Fin 32, org j n c = rtD^[n] c := by
  induction n with
  | zero => intro c; rfl
  | succ n ih => intro c; rw [Function.iterate_succ_apply, ← ih]; show org j n (csrc c j) = _; unfold csrc; rw [if_neg h]

section
variable {M : Type} [AddCommMonoid M]

/-- Any seat, the 16 after it and the 15 before it are all places. -/
theorem sum_places (G : Fin 32 → M) (p : Fin 32) :
    G p + ∑ h ∈ Finset.range 16, G (p + ((h + 1 : ℕ) : Fin 32)) + ∑ h ∈ Finset.range 15, G (p - ((h + 1 : ℕ) : Fin 32)) = ∑ x, G x := by
  have e1 : ∑ x, G x = ∑ n ∈ Finset.range 32, G (p + (n : Fin 32)) := by
    rw [← Fin.sum_univ_eq_sum_range (fun n => G (p + (n : Fin 32))) 32, ← Equiv.sum_comp (Equiv.addLeft p)]
    exact Finset.sum_congr rfl fun x _ => by simp
  have e2 : ∑ h ∈ Finset.range 15, G (p - ((h + 1 : ℕ) : Fin 32)) = ∑ h ∈ Finset.range 15, G (p + ((17 + h : ℕ) : Fin 32)) := by
    rw [← Finset.sum_range_reflect (fun h => G (p + ((17 + h : ℕ) : Fin 32)))]
    refine Finset.sum_congr rfl fun h hh => congrArg G ?_
    have hh := Finset.mem_range.1 hh
    rw [sub_eq_iff_eq_add, add_assoc, ← Nat.cast_add, show 17 + (15 - 1 - h) + (h + 1) = 32 by omega]
    exact (add_zero p).symm
  rw [e1, e2, Finset.sum_range_add _ 17 15, Finset.sum_range_succ' _ 16]
  simp only [Nat.cast_zero, add_zero]
  rw [add_comm (G p)]

/-- A device, the 16 to its left and the 15 to its right are all devices. -/
theorem sum_ring (g : Fin 32 → M) (c : Fin 32) :
    g c + ∑ h ∈ Finset.range 16, g (lfD^[h + 1] c) + ∑ h ∈ Finset.range 15, g (rtD^[h + 1] c) = ∑ D, g D := by
  have e : ∀ D, g D = g (seatE.symm (seat D)) := fun D => congrArg g (seatE.symm_apply_apply D).symm
  rw [← Equiv.sum_comp seatE.symm g, ← sum_places (fun x => g (seatE.symm x)) (seat c), e c]
  congr 1
  · congr 1
    exact Finset.sum_congr rfl fun h _ => by rw [← seat_lfs]; exact e _
  · exact Finset.sum_congr rfl fun h _ => by rw [← seat_rts]; exact e _

/-- What the flows bring in iteration `n`, when flow `j` brings its quarter of each device it passes. -/
theorem sum_flows (g : Fin 32 → Fin 4 → M) (c : Fin 32) (n : ℕ) (hn : n < 16) :
    (flows.map fun j => if n < hops j then g (org j (n + 1) c) (quarterOf j) else 0).sum
      = ∑ u, g (lfD^[n + 1] c) u + if n < 15 then ∑ u, g (rtD^[n + 1] c) u else 0 := by
  have hr : ∀ j, rightward j = true → (if n < hops j then g (org j (n + 1) c) (quarterOf j) else 0) = g (lfD^[n + 1] c) (quarterOf j) := fun j h => by
    rw [if_pos (by unfold hops; rw [if_pos h]; exact hn), org_right j h]
  have hl : ∀ j, ¬ rightward j = true → (if n < hops j then g (org j (n + 1) c) (quarterOf j) else 0)
      = if n < 15 then g (rtD^[n + 1] c) (quarterOf j) else 0 := fun j h => by
    rw [show hops j = 15 by unfold hops; rw [if_neg h], org_left j h]
  simp only [flows, List.map_cons, List.map_nil, List.sum_cons, List.sum_nil]
  rw [hr 0 (by decide), hl 1 (by decide), hr 2 (by decide), hl 3 (by decide), hr 4 (by decide), hl 5 (by decide), hr 6 (by decide), hl 7 (by decide),
    Fin.sum_univ_four, Fin.sum_univ_four]
  split
  · show g _ 0 + (g _ 0 + (g _ 1 + (g _ 1 + (g _ 2 + (g _ 2 + (g _ 3 + (g _ 3 + 0))))))) = _
    abel
  · show g _ 0 + (0 + (g _ 1 + (0 + (g _ 2 + (0 + (g _ 3 + (0 + 0))))))) = _
    abel

/-- The own quarters and what all flows bring over the 16 iterations are the quarters of all devices. -/
theorem sum_all (g : Fin 32 → Fin 4 → M) (c : Fin 32) :
    ∑ u, g c u + ∑ n ∈ Finset.range 16, (flows.map fun j => if n < hops j then g (org j (n + 1) c) (quarterOf j) else 0).sum
      = ∑ D, ∑ u, g D u := by
  rw [Finset.sum_congr rfl fun n hn => sum_flows g c n (Finset.mem_range.1 hn), Finset.sum_add_distrib, ← sum_ring (fun D => ∑ u, g D u) c, ← add_assoc]
  congr 1
  rw [Finset.sum_range_succ, if_neg (by omega), add_zero]
  exact Finset.sum_congr rfl fun n hn => if_pos (Finset.mem_range.1 hn)

/-- A sum over 512 rows by quarters. -/
theorem sum_quarters (f : Fin 512 → M) : ∑ t, f t = ∑ u : Fin 4, ∑ t : Fin 128, f ⟨128 * u.val + t.val, by omega⟩ := by
  rw [← Fintype.sum_prod_type', ← Equiv.sum_comp (finProdFinEquiv : Fin 4 × Fin 128 ≃ Fin (4 * 128)) f]
  exact Finset.sum_congr rfl fun x _ => congrArg f (Fin.ext (by
    show x.2.val + 128 * x.1.val = 128 * x.1.val + x.2.val; omega))

/-- A sum over all rows by devices. -/
theorem sum_devices (f : Fin 16384 → M) : ∑ r, f r = ∑ D : Fin 32, ∑ t : Fin 512, f ⟨512 * D.val + t.val, by omega⟩ := by
  rw [← Fintype.sum_prod_type', ← Equiv.sum_comp (finProdFinEquiv : Fin 32 × Fin 512 ≃ Fin (32 * 512)) f]
  exact Finset.sum_congr rfl fun x _ => congrArg f (Fin.ext (by
    show x.2.val + 512 * x.1.val = 512 * x.1.val + x.2.val; omega))

end

/-! ## What the loop adds -/

/-- If one step adds `C n j` to a reading of the running pair, the loop adds the sum over its iterations and flows. -/
theorem run_adds {F : FTy → Type} [FloatOps F] {M : Type} [AddCommMonoid M] (B : Dev nD → Fin 8 → S2x128x128.Idx → Elt F .bf16) (c : Dev nD)
    (q : FVec F S512x128 .bf16) (φ : St F → M) (C : ℕ → Fin 8 → M)
    (h : ∀ n st j, φ (stepSt B c q n st j) = φ st + C n j) (k : ℕ) :
    ∀ (n : ℕ) (st : St F), φ (runSt B c q k n st) = φ st + ∑ x ∈ Finset.range k, (flows.map (C (n + x))).sum := by
  have hf : ∀ (js : List (Fin 8)) (n : ℕ) (st : St F), φ (js.foldl (stepSt B c q n) st) = φ st + (js.map (C n)).sum := by
    intro js n
    induction js with
    | nil => intro st; simp
    | cons j js ih => intro st; rw [List.foldl_cons, ih, h, List.map_cons, List.sum_cons, add_assoc]
  induction k with
  | zero => intro n st; simp [runSt]
  | succ k ih =>
    intro n st
    rw [runSt, ih, hf, Finset.sum_range_succ', add_assoc, add_comm (List.sum _)]
    simp only [add_zero]
    congr 2
    exact Finset.sum_congr rfl fun x _ => by rw [show n + 1 + x = n + (x + 1) by omega]

end RingProof

end
-- ==== Proof.Value.lean ====
module

public import proofs.«01_k».proof.Proof.Payloads
public import proofs.«01_k».proof.Proof.Circle

@[expose] public section

set_option maxRecDepth 16384

noncomputable section

namespace RingProof

open Idealize.ShloMosaic Idealize.ShloMosaic.TcCoe
open Cert.KernelIdeal Cert.KernelIdeal.Gen

/-- The keys' half of a device's slab. -/
theorem half_keys (kk vv : FVec Ideal S512x128 .bf16) (j : Fin 8) (t d : Fin 128) :
    halfOf (slabIn kk vv j) 0 (ix4 0 0 t d) = kk (ix2 ⟨128 * (quarterOf j).val + t.val, by omega⟩ d) := by
  unfold slabIn; rw [halfOf_slabOf_zero, quarter_apply]

/-- The values' half of a device's slab. -/
theorem half_values (kk vv : FVec Ideal S512x128 .bf16) (j : Fin 8) (t d : Fin 128) :
    halfOf (slabIn kk vv j) 1 (ix4 0 0 t d) = vv (ix2 ⟨128 * (quarterOf j).val + t.val, by omega⟩ d) := by
  unfold slabIn; rw [halfOf_slabOf_one, quarter_apply]

variable (kk vv : Dev nD → FVec Ideal S512x128 .bf16) (c : Dev nD) (q : FVec Ideal S512x128 .bf16)

/-- The denominators after the loop: the weights of all devices' rows. -/
theorem run_l (i : Fin 512) (z : Fin 1) (st : St Ideal) (hst : st.1 (ix2 i z) = ∑ t : Fin 512, wt q (kk c) i t) :
    (runSt (fun D j => slabIn (kk D) (vv D) j) c q 16 0 st).1 (ix2 i z) = ∑ D : Fin 32, ∑ t : Fin 512, wt q (kk D) i t := by
  rw [run_adds _ c q (fun st : St Ideal => (st.1 (ix2 i z) : EReal))
    (fun n j => if n < hops j then (fun (D : Fin 32) (u : Fin 4) => ∑ t : Fin 128, wt q (kk D) i ⟨128 * u.val + t.val, by omega⟩) (org j (n + 1) c) (quarterOf j) else 0)
    (fun n st j => by
      unfold stepSt
      split
      · refine (updL_apply q st.1 _ i z).trans ?_
        simp only [half_keys]; rfl
      · exact (add_zero _).symm) 16 0 st]
  rw [hst, sum_quarters, Finset.sum_congr rfl fun D _ => sum_quarters _]
  simp only [Nat.zero_add]
  exact sum_all (fun (D : Fin 32) (u : Fin 4) => ∑ t : Fin 128, wt q (kk D) i ⟨128 * u.val + t.val, by omega⟩) c

/-- The numerators after the loop: the weighted values of all devices' rows. -/
theorem run_a (i : Fin 512) (e : Fin 128) (st : St Ideal) (hst : st.2 (ix2 i e) = ∑ t : Fin 512, wt q (kk c) i t * (vv c (ix2 t e) : EReal)) :
    (runSt (fun D j => slabIn (kk D) (vv D) j) c q 16 0 st).2 (ix2 i e) = ∑ D : Fin 32, ∑ t : Fin 512, wt q (kk D) i t * (vv D (ix2 t e) : EReal) := by
  rw [run_adds _ c q (fun st : St Ideal => (st.2 (ix2 i e) : EReal))
    (fun n j => if n < hops j then (fun (D : Fin 32) (u : Fin 4) => ∑ t : Fin 128, wt q (kk D) i ⟨128 * u.val + t.val, by omega⟩
      * (vv D (ix2 ⟨128 * u.val + t.val, by omega⟩ e) : EReal)) (org j (n + 1) c) (quarterOf j) else 0)
    (fun n st j => by
      unfold stepSt
      split
      · refine (updA_apply q st.2 _ _ i e).trans ?_
        simp only [half_keys, half_values]; rfl
      · exact (add_zero _).symm) 16 0 st]
  rw [hst, sum_quarters, Finset.sum_congr rfl fun D _ => sum_quarters _]
  simp only [Nat.zero_add]
  exact sum_all (fun (D : Fin 32) (u : Fin 4) => ∑ t : Fin 128, wt q (kk D) i ⟨128 * u.val + t.val, by omega⟩
      * (vv D (ix2 ⟨128 * u.val + t.val, by omega⟩ e) : EReal)) c

variable (m : (ℓ : Loc nD τ sig) → Buf (Elt Ideal) ℓ)

/-- The weight of row `t` of device `D` for row `i` of device `c`. -/
def weight (c D : Fin 32) (i t : Fin 512) : EReal :=
  Ideal.exp (∑ d : Fin 128, ((qOf m c (ix2 i d) : EReal) * (((Real.sqrt 128)⁻¹ : ℝ) : EReal)) * (kOf m D (ix2 t d) : EReal))

/-- The kernel's result at an index: the quotient of the sums over all devices' rows. -/
theorem result_apply (c : Fin 32) (i : Fin 512) (e : Fin 128) :
    @Eq EReal (result m c (ix2 i e))
      (Ideal.div (∑ D : Fin 32, ∑ t : Fin 512, weight m c D i t * (vOf m D (ix2 t e) : EReal)) (∑ D : Fin 32, ∑ t : Fin 512, weight m c D i t)) := by
  have hw : ∀ D t, wt (k0_pay23 (k0_pay22 (qOf m c))) (k0_pay2 (kOf m D)) i t = weight m c D i t := fun D t => by
    unfold wt weight
    exact congrArg Ideal.exp (Finset.sum_congr rfl fun d _ => by rw [pay23_apply, pay2_apply])
  have hl := run_l (fun D => k0_pay2 (kOf m D)) (fun D => k0_pay3 (vOf m D)) c (k0_pay23 (k0_pay22 (qOf m c))) i 0
    (k0_pay25 (k0_pay2 (kOf m c)) (k0_pay23 (k0_pay22 (qOf m c))), k0_pay26 (k0_pay2 (kOf m c)) (k0_pay3 (vOf m c)) (k0_pay23 (k0_pay22 (qOf m c))))
    (pay25_apply _ _ i 0)
  have ha := run_a (fun D => k0_pay2 (kOf m D)) (fun D => k0_pay3 (vOf m D)) c (k0_pay23 (k0_pay22 (qOf m c))) i e
    (k0_pay25 (k0_pay2 (kOf m c)) (k0_pay23 (k0_pay22 (qOf m c))), k0_pay26 (k0_pay2 (kOf m c)) (k0_pay3 (vOf m c)) (k0_pay23 (k0_pay22 (qOf m c))))
    (pay26_apply _ _ _ i e)
  simp only [hw, pay3_apply] at hl ha
  unfold result outV
  rw [pay1_apply]
  exact congrArg₂ Ideal.div ha hl

end RingProof

end
-- ==== Proof.Softmax.lean ====
module

public import Idealize.ShloMosaic.PureOps.Ideal.Laws

@[expose] public section

noncomputable section

namespace RingProof

open Idealize.ShloMosaic

variable {ι : Type} [Fintype ι]

/-- A real sum, as an extended real. -/
theorem sum_coe (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A nonnegative real factor goes into a sum of any extended reals. -/
theorem mul_sum_of_nonneg (r : ℝ) (hr : 0 ≤ r) (f : ι → EReal) : (r : EReal) * ∑ i, f i = ∑ i, (r : EReal) * f i := by
  classical
  induction (Finset.univ : Finset ι) using Finset.induction_on with
  | empty => simp
  | insert a s ha ih =>
    rw [Finset.sum_insert ha, Finset.sum_insert ha,
      EReal.left_distrib_of_nonneg_of_ne_top (by exact_mod_cast hr) (EReal.coe_ne_top r), ih]

/-- The maximum of finitely many reals, at least one, is a real. -/
theorem fold_max_real [Nonempty ι] (f : ι → ℝ) : ∃ M : ℝ, (Finset.univ.fold max (⊥ : EReal) fun i => (f i : EReal)) = (M : EReal) := by
  have hb : (Finset.univ.fold max (⊥ : EReal) fun i => (f i : EReal)) ≠ ⊥ := by
    obtain ⟨i⟩ := ‹Nonempty ι›
    have h : (f i : EReal) ≤ Finset.univ.fold max (⊥ : EReal) fun i => (f i : EReal) :=
      Finset.le_fold_max _ |>.2 (.inr ⟨i, Finset.mem_univ _, le_rfl⟩)
    intro e; rw [e, le_bot_iff] at h; exact EReal.coe_ne_bot _ h
  have ht : (Finset.univ.fold max (⊥ : EReal) fun i => (f i : EReal)) ≠ ⊤ :=
    ne_of_lt (Finset.fold_max_lt _ |>.2 ⟨bot_lt_top, fun i _ => EReal.coe_lt_top _⟩)
  exact ⟨_, (EReal.coe_toReal ht hb).symm⟩

/-- Softmax weights taken with any real shift of the scores give the quotient of the unshifted sums,
    whatever the extended reals weighted. -/
theorem softmax_shift [Nonempty ι] (s : ι → ℝ) (M : ℝ) (v : ι → EReal) :
    ∑ i, Ideal.div (Ideal.exp ((s i : EReal) - (M : EReal))) (0 + ∑ k, Ideal.exp ((s k : EReal) - (M : EReal))) * v i
      = Ideal.div (∑ i, Ideal.exp (s i : EReal) * v i) (∑ i, Ideal.exp (s i : EReal)) := by
  have e1 : ∀ i, Ideal.exp ((s i : EReal) - (M : EReal)) = ((Real.exp (s i - M) : ℝ) : EReal) := fun i => by
    rw [← EReal.coe_sub, Ideal.exp_coe]
  have e2 : ∀ i, Ideal.exp (s i : EReal) = ((Real.exp (s i) : ℝ) : EReal) := fun i => Ideal.exp_coe _
  have p1 : (0 : ℝ) < ∑ k, Real.exp (s k - M) := Finset.sum_pos (fun i _ => Real.exp_pos _) Finset.univ_nonempty
  have p2 : (0 : ℝ) < ∑ k, Real.exp (s k) := Finset.sum_pos (fun i _ => Real.exp_pos _) Finset.univ_nonempty
  simp only [e1, e2, zero_add]
  rw [sum_coe, sum_coe]
  have hd : ∀ i, Ideal.div ((Real.exp (s i - M) : ℝ) : EReal) ((∑ k, Real.exp (s k - M) : ℝ) : EReal)
      = (((∑ k, Real.exp (s k))⁻¹ * Real.exp (s i) : ℝ) : EReal) := fun i => by
    rw [Ideal.div_coe p1.ne', ← EReal.coe_mul]
    congr 1
    have : ∑ k, Real.exp (s k - M) = (∑ k, Real.exp (s k)) * Real.exp (-M) := by
      rw [Finset.sum_mul]; exact Finset.sum_congr rfl fun k _ => by rw [sub_eq_add_neg, Real.exp_add]
    rw [this, sub_eq_add_neg, Real.exp_add]
    have := Real.exp_pos (-M)
    field_simp
  simp only [hd, EReal.coe_mul, mul_assoc]
  rw [← mul_sum_of_nonneg _ (inv_nonneg.2 p2.le)]
  unfold Ideal.div
  rw [if_neg (by exact_mod_cast p2.ne'), ← EReal.coe_inv, mul_comm]

end RingProof

end
-- ==== Proof.Consts.lean ====
module

public import Idealize.ShloMosaic.PureOps.Ideal

@[expose] public section

noncomputable section

namespace RingProof

open Idealize.ShloMosaic

/-- The pattern of 128 is the real 128. -/
theorem word_128 : Ideal.ofBits .f32 0x43000000#32 = ((128 : ℝ) : EReal) := by
  simp [Ideal.ofBits, Ideal.ieee, -EReal.coe_mul]; norm_num
/-- The pattern of minus infinity is the least extended real. -/
theorem word_neg_inf : Ideal.ofBits .f32 0xFF800000#32 = ⊥ := by simp [Ideal.ofBits, Ideal.ieee]
/-- The pattern of infinity is the greatest extended real. -/
theorem word_inf : Ideal.ofBits .f32 0x7F800000#32 = ⊤ := by simp [Ideal.ofBits, Ideal.ieee]

end RingProof

end
-- ==== Proof.RefValue.lean ====
module

public import proofs.«01_k».proof.Proof.RefFrame
public import proofs.«01_k».proof.Proof.Softmax
public import proofs.«01_k».proof.Proof.Consts
public import Idealize.ShloMosaic.Lib.Pointwise
public import Idealize.ShloMosaic.Lib.StackMember

@[expose] public section

set_option maxRecDepth 16384

noncomputable section

namespace RingProof

open Idealize.ShloMosaic Idealize.ShloMosaic.TcCoe Idealize.SL.Sem
open Cert.ReferenceIdeal Cert.ReferenceIdeal.Gen

/-- The reference's scores. -/
def refScores (q k : FVec Ideal S16384x128 .f32) : FVec Ideal S16384x16384 .f32 :=
  Host.divf (Host.dotGeneral dot_S16384x128_S128x16384_S16384x16384_1_0_0_1_n_n none q (transpose S128x16384 [1, 0] k transposes_S16384x128_S128x16384_1_0))
    (broadcastInDim S16384x16384 ![] bcast_S_S16384x16384 (Host.sqrt (constant S_ .f32 0x43000000#32)))

/-- The reference's row maxima. -/
def rowMax (s : FVec Ideal S16384x16384 .f32) : FVec Ideal S16384 .f32 :=
  Host.reduce FloatOps.maximumf s (constant S_ .f32 0xFF800000#32) reducesTo_S16384x16384_S16384_d1 h_S_

/-- A column over every row of a square. -/
def across (x : FVec Ideal S16384 .f32) : FVec Ideal S16384x16384 .f32 :=
  broadcastInDim S16384x16384 ![0, 1] bcast_S16384x1_S16384x16384_0_1 (broadcastInDim S16384x1 ![0] bcast_S16384_S16384x1_0 x)

/-- The exponentials of the shifted scores. -/
def refExp (s : FVec Ideal S16384x16384 .f32) : FVec Ideal S16384x16384 .f32 := Host.exp (subf s (across (rowMax s)))

/-- The reference's row sums. -/
def rowSum (w : FVec Ideal S16384x16384 .f32) : FVec Ideal S16384 .f32 :=
  Host.reduceAdd w (constant S_ .f32 0x00000000#32) reducesTo_S16384x16384_S16384_d1 h_S_

/-- The reference's result. -/
def refOut (q k v : FVec Ideal S16384x128 .f32) : FVec Ideal S16384x128 .f32 :=
  Host.dotGeneral dot_S16384x16384_S16384x128_S16384x128_1_0_0_1_n_n none
    (Host.divf (refExp (refScores q k)) (across (rowSum (refExp (refScores q k))))) v

/-- The reference runs to `refOut` of its arguments, which end unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v14)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  all_goals rfl

/-- The spread column at an index. -/
theorem across_apply (x : FVec Ideal S16384 .f32) (r t : Fin 16384) : across x (ix2 r t) = x (ix1 r) := by
  pointwise [across]

/-- A score is the product of two rows over the root of 128. -/
theorem refScores_apply (q k : FVec Ideal S16384x128 .f32) (r t : Fin 16384) :
    @Eq EReal (refScores q k (ix2 r t)) (Ideal.div (∑ d : Fin 128, (q (ix2 r d) : EReal) * (k (ix2 t d) : EReal)) (Ideal.sqrt (Ideal.ofBits .f32 0x43000000#32))) := by
  pointwise [refScores]

/-- Where every score is real, so is every row's maximum. -/
theorem rowMax_real (s : FVec Ideal S16384x16384 .f32) (f : S16384x16384.Idx → ℝ) (hs : ∀ i, @Eq EReal (s i) (f i)) (r : Fin 16384) :
    ∃ M : ℝ, @Eq EReal (rowMax s (ix1 r)) (M : EReal) := by
  have hR : S16384x16384.Reduces [1] S16384 := by decide
  have e : @Eq EReal (rowMax s (ix1 r)) (Finset.univ.fold max (⊥ : EReal) ((fun i => (s i : EReal)) ∘ hR.lift (ix1 r))) := by
    rw [← word_neg_inf]
    exact Host.reduce_eq_fold_single (FloatOps.maximumf (F := Ideal) (φ := .f32)) s (constant S_ .f32 0xFF800000#32) reducesTo_S16384x16384_S16384_d1 hR h_S_ (ix1 r)
  have e' : ((fun i => (s i : EReal)) ∘ hR.lift (ix1 r)) = fun k : Fin 16384 => ((f (hR.lift (ix1 r) k) : ℝ) : EReal) := funext fun k => hs _
  rw [e, e']
  exact fold_max_real (ι := Fin 16384) fun k => f (hR.lift (ix1 r) k)

/-- A row sum is the sum of the row. -/
theorem rowSum_apply (w : FVec Ideal S16384x16384 .f32) (r : Fin 16384) :
    @Eq EReal (rowSum w (ix1 r)) (0 + ∑ t : Fin 16384, (w (ix2 r t) : EReal)) := by
  have hR : S16384x16384.Reduces [1] S16384 := by decide
  have h0 : @Eq EReal ((constant S_ .f32 0x00000000#32 : FVec Ideal S_ .f32) (Shape.Idx.first h_S_)) 0 := Ideal.ofBits_zero_f32
  have e : @Eq EReal (rowSum w (ix1 r)) (0 + ∑ k : Fin 16384, (w (hR.lift (ix1 r) k) : EReal)) := by
    rw [← h0]
    exact Ideal.hostReduceAdd_single reducesTo_S16384x16384_S16384_d1 hR w _ (ix1 r)
  have el : ∀ k : Fin 16384, hR.lift (ix1 r) k = ix2 r k := fun k => by
    funext a
    match a with
    | ⟨0, _⟩ => rfl
    | ⟨1, _⟩ => rfl
  simpa only [el] using e

/-- An exponential of a shifted score, at an index. -/
theorem refExp_apply (s : FVec Ideal S16384x16384 .f32) (r t : Fin 16384) :
    @Eq EReal (refExp s (ix2 r t)) (Ideal.exp ((s (ix2 r t) : EReal) - (rowMax s (ix1 r) : EReal))) := by
  pointwise [refExp]
  rw [across_apply]

/-- The last product is the plain product of two matrices. -/
theorem product_plain : dot_S16384x16384_S16384x128_S16384x128_1_0_0_1_n_n = DotDims.plain 16384 16384 128 := rfl

/-- A product of two matrices of any extents, at an index. -/
theorem product_apply {a b n : ℕ} (A : FVec Ideal ⟨2, ![a, b]⟩ .f32) (B : FVec Ideal ⟨2, ![b, n]⟩ .f32) (i : Fin a) (j : Fin n) :
    @Eq EReal (Host.dotGeneral (DotDims.plain a b n) none A B (ix2 i j)) (∑ t : Fin b, (A (ix2 i t) : EReal) * (B (ix2 t j) : EReal)) :=
  StackMember.dotGeneral_plain_apply none A B i j

/-- The host's quotient, at an index. -/
theorem quotient_apply {s : Shape} (A B : FVec Ideal s .f32) (i : s.Idx) : @Eq EReal (Host.divf A B i) (Ideal.div (A i) (B i)) := rfl

/-- The reference's result is the weighted sum of the values. -/
theorem refOut_apply (q k v : FVec Ideal S16384x128 .f32) (r : Fin 16384) (e : Fin 128) :
    @Eq EReal (refOut q k v (ix2 r e)) (∑ t : Fin 16384, Ideal.div (refExp (refScores q k) (ix2 r t)) (rowSum (refExp (refScores q k)) (ix1 r)) * (v (ix2 t e) : EReal)) := by
  unfold refOut
  rw [product_plain]
  generalize refExp (refScores q k) = w
  refine (product_apply _ _ r e).trans (Finset.sum_congr rfl fun t _ => ?_)
  rw [quotient_apply, across_apply]

/-- A row of the reference's result, for real queries and keys: the quotient of the unshifted sums. -/
theorem refOut_value (q k v : FVec Ideal S16384x128 .f32) (fq fk : Fin 16384 → Fin 128 → ℝ) (hq : ∀ r d, @Eq EReal (q (ix2 r d)) (fq r d))
    (hk : ∀ r d, @Eq EReal (k (ix2 r d)) (fk r d)) (r : Fin 16384) (e : Fin 128) :
    @Eq EReal (refOut q k v (ix2 r e))
      (Ideal.div (∑ t : Fin 16384, Ideal.exp (((∑ d : Fin 128, fq r d * fk t d) * (Real.sqrt 128)⁻¹ : ℝ) : EReal) * (v (ix2 t e) : EReal))
        (∑ t : Fin 16384, Ideal.exp (((∑ d : Fin 128, fq r d * fk t d) * (Real.sqrt 128)⁻¹ : ℝ) : EReal))) := by
  have h0 : Real.sqrt 128 ≠ 0 := (Real.sqrt_pos.2 (by norm_num)).ne'
  have hs : ∀ a b, @Eq EReal (refScores q k (ix2 a b)) (((∑ d : Fin 128, fq a d * fk b d) * (Real.sqrt 128)⁻¹ : ℝ) : EReal) := fun a b => by
    rw [refScores_apply, word_128, Ideal.sqrt_coe, if_neg (by norm_num), Ideal.div_coe h0]
    simp only [hq, hk, ← EReal.coe_mul]
    rw [sum_coe, ← EReal.coe_mul, one_div]
  obtain ⟨M, hM⟩ := rowMax_real (refScores q k) (fun i => (∑ d : Fin 128, fq (i 0) d * fk (i 1) d) * (Real.sqrt 128)⁻¹)
    (fun i => by rw [eq_ix2 i]; exact hs _ _) r
  have he : ∀ t, @Eq EReal (refExp (refScores q k) (ix2 r t)) (Ideal.exp ((((∑ d : Fin 128, fq r d * fk t d) * (Real.sqrt 128)⁻¹ : ℝ) : EReal) - (M : EReal))) := fun t => by
    rw [refExp_apply, hs, hM]
  rw [refOut_apply, rowSum_apply]
  simp only [he]
  exact softmax_shift (ι := Fin 16384) _ M _

end RingProof

end
-- ==== Proof.Algebraic.lean ====
module

public import proofs.«01_k».proof.Defs
public import proofs.«01_k».proof.Proof.Launch
public import proofs.«01_k».proof.Proof.Value
public import proofs.«01_k».proof.Proof.RefValue
public import Idealize.ShloMosaic.Lib.ReduceAll

@[expose] public section

set_option maxRecDepth 16384

noncomputable section

namespace RingProof

open Idealize.ShloMosaic Idealize.ShloMosaic.TcCoe Idealize.SL.Sem
open Cert.KernelIdeal

/-! ## The precondition -/

/-- The precondition's side conditions, on one device's blocks. -/
theorem preK : Cert.Pre_finite_KernelIdeal.Facts := ⟨by decide, by decide, by decide⟩
/-- The precondition's side conditions, on whole arrays. -/
theorem preR : Cert.Pre_finite_ReferenceIdeal.Facts := ⟨by decide, by decide, by decide⟩

/-- An extended real whose absolute value is below infinity is a real. -/
theorem real_of_abs (x : EReal) (h : Ideal.cmp .olt (max x (-x)) (Ideal.ofBits .f32 0x7F800000#32) = 1#1) : ∃ r : ℝ, x = r := by
  rw [word_inf] at h
  have h' : max x (-x) < ⊤ := by
    by_contra hn
    have : Ideal.cmp .olt (max x (-x)) ⊤ = 0#1 := by simp [Ideal.cmp, hn]
    rw [this] at h; exact absurd h (by decide)
  obtain ⟨h1, h2⟩ := max_lt_iff.1 h'
  have hb : x ≠ ⊥ := by rintro rfl; simp at h2
  exact ⟨x.toReal, (EReal.coe_toReal h1.ne hb).symm⟩

/-- A conjunction of bits that is one has both bits one. -/
theorem and_one (a b : BitVec 1) : IntOp.andi a b = 1#1 → a = 1#1 ∧ b = 1#1 := by revert a b; decide

instance : Subsingleton Cert.Pre_finite_KernelIdeal.S_.Idx := ⟨fun a b => funext fun x => x.elim0⟩

/-- Under the precondition a device's queries and keys are reals. -/
theorem reals_of_pre [Cert.Pre_finite_KernelIdeal.Facts] (q k v : FVec Ideal Cert.Pre_finite_KernelIdeal.S512x128 .f32)
    (h : Cert.Pre_finite_KernelIdeal.fn (F := Ideal) q k v = fun _ => 1#1) :
    (∀ i, ∃ r : ℝ, @Eq EReal (q i) r) ∧ ∀ i, ∃ r : ℝ, @Eq EReal (k i) r := by
  have e := congrFun h (fun a => a.elim0)
  obtain ⟨e1, e2⟩ := and_one _ _ e
  exact ⟨fun i => real_of_abs _ (Host.reduce_andi_all _ _ _ _ _ e1 i), fun i => real_of_abs _ (Host.reduce_andi_all _ _ _ _ _ e2 i)⟩

/-! ## Rows of a whole array -/

/-- Row `t` of block `c`, as a row of the whole array. -/
def rowOf (c : Fin 32) (t : Fin 512) : Fin 16384 := ⟨512 * c.val + t.val, by omega⟩

/-- A block of rows, at an index. -/
theorem block_at (c : Fin 32) (X : (⟨2, ![16384, 128]⟩ : Shape).Idx → EReal) (t : Fin 512) (d : Fin 128) :
    Layout.block ⟨2, ![512, 128]⟩ ⟨2, ![16384, 128]⟩ 0 32 c X (by decide) (ix2 t d) = X (ix2 (rowOf c t) d) := by
  rw [Layout.block_apply]
  refine congrArg X (funext fun a => Fin.ext ?_)
  match a with
  | ⟨0, _⟩ =>
    show c.val * 512 + t.val = 512 * c.val + t.val
    omega
  | ⟨1, _⟩ => rfl

/-- Every row is a row of some block. -/
theorem row_cases (r : Fin 16384) : ∃ c t, r = rowOf c t :=
  ⟨⟨r.val / 512, by omega⟩, ⟨r.val % 512, by omega⟩, Fin.ext (by show r.val = 512 * (r.val / 512) + r.val % 512; omega)⟩

/-! ## The two programs -/

variable (m : (ℓ : Loc nD τ sig) → Buf (Elt Ideal) ℓ)

/-- With the blocks of three whole arrays, queries and keys real, on the devices, the kernel's results are the blocks
    of the reference's result. -/
theorem result_block (Q K V : FVec Ideal Cert.ReferenceIdeal.S16384x128 .f32)
    (hQ : ∀ c t d, @Eq EReal (qOf m c (ix2 t d)) (Q (ix2 (rowOf c t) d)))
    (hK : ∀ c t d, @Eq EReal (kOf m c (ix2 t d)) (K (ix2 (rowOf c t) d)))
    (hV : ∀ c t d, @Eq EReal (vOf m c (ix2 t d)) (V (ix2 (rowOf c t) d)))
    (rQ : ∀ c i, ∃ r : ℝ, @Eq EReal (qOf m c i) r) (rK : ∀ c i, ∃ r : ℝ, @Eq EReal (kOf m c i) r)
    (c : Fin 32) (i : Fin 512) (e : Fin 128) : @Eq EReal (result m c (ix2 i e)) (refOut Q K V (ix2 (rowOf c i) e)) := by
  have gQ : ∀ r d, ∃ x : ℝ, @Eq EReal (Q (ix2 r d)) x := fun r d => by
    obtain ⟨c, t, rfl⟩ := row_cases r
    obtain ⟨x, hx⟩ := rQ c (ix2 t d)
    exact ⟨x, (hQ c t d).symm.trans hx⟩
  have gK : ∀ r d, ∃ x : ℝ, @Eq EReal (K (ix2 r d)) x := fun r d => by
    obtain ⟨c, t, rfl⟩ := row_cases r
    obtain ⟨x, hx⟩ := rK c (ix2 t d)
    exact ⟨x, (hK c t d).symm.trans hx⟩
  choose fq hq using gQ
  choose fk hk using gK
  have hw : ∀ D t, weight m c D i t
      = Ideal.exp (((∑ d : Fin 128, fq (rowOf c i) d * fk (rowOf D t) d) * (Real.sqrt 128)⁻¹ : ℝ) : EReal) := fun D t => by
    unfold weight
    simp only [hQ, hK, hq, hk, ← EReal.coe_mul]
    rw [sum_coe, Finset.sum_mul]
    refine congrArg Ideal.exp (congrArg _ (Finset.sum_congr rfl fun d _ => ?_))
    ring
  rw [result_apply, refOut_value Q K V fq fk hq hk, sum_devices, sum_devices]
  simp only [hw, hV]
  rfl

/-- The value claim: under the precondition the kernel's results are the blocks of the reference's result. -/
theorem algebraic [hPre_finite_KernelIdeal : Cert.Pre_finite_KernelIdeal.Facts] : Cert.algebraic_KernelIdeal_ReferenceIdeal_pre_finite_KernelIdeal := by
  intro m g m' g' hpre hin
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine θ_run_mono (run_all m g) fun r h c => ⟨(h.1 c).2.2.2.trans ?_, (h.1 c).1, (h.1 c).2.1, (h.1 c).2.2.1⟩
    funext j
    obtain ⟨i, e, rfl⟩ : ∃ (i : Fin 512) (e : Fin 128), j = ix2 i e := ⟨j 0, j 1, eq_ix2 j⟩
    refine (result_block m _ _ _ (fun c t d => ?_) (fun c t d => ?_) (fun c t d => ?_)
      (fun c => (reals_of_pre _ _ _ (hpre c)).1) (fun c => (reals_of_pre _ _ _ (hpre c)).2) c i e).trans (block_at c _ i e).symm
    · exact (congrFun (hin c).1 (ix2 t d)).trans (block_at c _ t d)
    · exact (congrFun (hin c).2.1 (ix2 t d)).trans (block_at c _ t d)
    · exact (congrFun (hin c).2.2 (ix2 t d)).trans (block_at c _ t d)
  · exact θ_run_mono (ref_run m' g') fun r h => h 0

end RingProof

end
-- ==== Proof.lean ====
module

public import proofs.«01_k».proof.Defs
public import proofs.«01_k».proof.Proof.Launch
public import proofs.«01_k».proof.Proof.Share
public import proofs.«01_k».proof.Proof.RefFrame
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- The printed kernel's frame: the run at the printed float values. -/
theorem frame_kernel : Cert.quiescent_Kernel := by
  rw [RingProof.frame_eq]
  exact @RingProof.frame_of Bits _ RingProof.asPrinted

/-- The idealized kernel's frame: the run at the extended reals. -/
theorem frame_ideal : Cert.quiescent_KernelIdeal := RingProof.frame_of (F := Ideal)

/-- The one rewrite's statement: the named constant is `(√128)⁻¹`. -/
theorem preserves : Cert.preserves_Kernel_KernelIdeal :=
  IdealRules.named_const.statement Cert.KernelIdeal.κ "scale" .f32 0x3DB504F3#32 (((Real.sqrt 128)⁻¹ : ℝ) : EReal) rfl

theorem claim : Cert.Claim := ⟨Cert.Kernel.Gen.facts, Cert.KernelIdeal.Gen.facts, Cert.ReferenceIdeal.Gen.facts, RingProof.preK, RingProof.preR,
  frame_kernel, frame_ideal, fun m g _ => frame_ideal m g trivial, RingProof.frame_ref, fun m g _ => RingProof.frame_ref m g trivial, preserves,
  @RingProof.algebraic RingProof.preK⟩

end Cert.Proof

end
